-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v26)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S8x64x20736 : Shape := ⟨3, ![8, 64, 20736]⟩
abbrev S8x3x6144 : Shape := ⟨3, ![8, 3, 6144]⟩
abbrev S8x64x64x128 : Shape := ⟨4, ![8, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S64x64 : Shape := ⟨2, ![64, 64]⟩
abbrev S64x4096 : Shape := ⟨2, ![64, 4096]⟩
abbrev S_ : Shape := ⟨0, ![]⟩
abbrev S4x4096 : Shape := ⟨2, ![4, 4096]⟩
abbrev S4x2048 : Shape := ⟨2, ![4, 2048]⟩
abbrev S1x4096 : Shape := ⟨2, ![1, 4096]⟩
abbrev S2048 : Shape := ⟨1, ![2048]⟩
abbrev S1x2048 : Shape := ⟨2, ![1, 2048]⟩
abbrev S64x1 : Shape := ⟨2, ![64, 1]⟩
abbrev S1x64 : Shape := ⟨2, ![1, 64]⟩
abbrev S8x3x4096 : Shape := ⟨3, ![8, 3, 4096]⟩
abbrev S8x3x2048 : Shape := ⟨3, ![8, 3, 2048]⟩
abbrev S8x4096x128 : Shape := ⟨3, ![8, 4096, 128]⟩
abbrev S8x64x4096 : Shape := ⟨3, ![8, 64, 4096]⟩
abbrev S1x64x4096 : Shape := ⟨3, ![1, 64, 4096]⟩
abbrev S1x64x2048 : Shape := ⟨3, ![1, 64, 2048]⟩
abbrev S1x64x256 : Shape := ⟨3, ![1, 64, 256]⟩
abbrev S1x3x4096 : Shape := ⟨3, ![1, 3, 4096]⟩
abbrev S1x3x2048 : Shape := ⟨3, ![1, 3, 2048]⟩
abbrev S1x4096x128 : Shape := ⟨3, ![1, 4096, 128]⟩
abbrev S72x4096 : Shape := ⟨2, ![72, 4096]⟩
abbrev S72x2048 : Shape := ⟨2, ![72, 2048]⟩
abbrev S128x4096 : Shape := ⟨2, ![128, 4096]⟩
abbrev S32x128 : Shape := ⟨2, ![32, 128]⟩
abbrev S3x4096 : Shape := ⟨2, ![3, 4096]⟩
abbrev S3x2048 : Shape := ⟨2, ![3, 2048]⟩
abbrev S1x512x128 : Shape := ⟨3, ![1, 512, 128]⟩
abbrev S512x128 : Shape := ⟨2, ![512, 128]⟩
abbrev S128x512 : Shape := ⟨2, ![128, 512]⟩
abbrev S64x2048 : Shape := ⟨2, ![64, 2048]⟩
abbrev S1x64x64 : Shape := ⟨3, ![1, 64, 64]⟩
abbrev S32x64 : Shape := ⟨2, ![32, 64]⟩
abbrev S64x128 : Shape := ⟨2, ![64, 128]⟩
abbrev S128x128 : Shape := ⟨2, ![128, 128]⟩
abbrev S64x512 : Shape := ⟨2, ![64, 512]⟩
abbrev S1x128 : Shape := ⟨2, ![1, 128]⟩
abbrev S1x512 : Shape := ⟨2, ![1, 512]⟩
abbrev S1x64x512 : Shape := ⟨3, ![1, 64, 512]⟩

abbrev nBuf : Space → Nat
  | .hbm => 70
  | .vmem => 33
  | .smem => 0
  | _ => 0

abbrev bufTy : (tb : Table) → Fin (tcTables nBuf tb) → BufTy
  | .hbm, ⟨0, _⟩ => ⟨S8x64x20736, .f32⟩
  | .hbm, ⟨1, _⟩ => ⟨S8x3x6144, .f32⟩
  | .hbm, ⟨2, _⟩ => ⟨S8x64x64x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S64, .i32⟩
  | .hbm, ⟨10, _⟩ => ⟨S64, .i1⟩
  | .hbm, ⟨11, _⟩ => ⟨S64, .i1⟩
  | .hbm, ⟨12, _⟩ => ⟨S64x64, .f32⟩
  | .hbm, ⟨13, _⟩ => ⟨S64x4096, .i32⟩
  | .hbm, ⟨14, _⟩ => ⟨S64x4096, .i32⟩
  | .hbm, ⟨15, _⟩ => ⟨S_, .i32⟩
  | .hbm, ⟨16, _⟩ => ⟨S64x4096, .i32⟩
  | .hbm, ⟨17, _⟩ => ⟨S64x4096, .i1⟩
  | .hbm, ⟨18, _⟩ => ⟨S_, .i32⟩
  | .hbm, ⟨19, _⟩ => ⟨S64x4096, .i32⟩
  | .hbm, ⟨20, _⟩ => ⟨S64x4096, .i32⟩
  | .hbm, ⟨21, _⟩ => ⟨S_, .i32⟩
  | .hbm, ⟨22, _⟩ => ⟨S64x4096, .i32⟩
  | .hbm, ⟨23, _⟩ => ⟨S64x4096, .i32⟩
  | .hbm, ⟨24, _⟩ => ⟨S_, .i32⟩
  | .hbm, ⟨25, _⟩ => ⟨S64x4096, .i32⟩
  | .hbm, ⟨26, _⟩ => ⟨S64x4096, .i32⟩
  | .hbm, ⟨27, _⟩ => ⟨S64x4096, .i32⟩
  | .hbm, ⟨28, _⟩ => ⟨S_, .i32⟩
  | .hbm, ⟨29, _⟩ => ⟨S64x4096, .i32⟩
  | .hbm, ⟨30, _⟩ => ⟨S64x4096, .i32⟩
  | .hbm, ⟨31, _⟩ => ⟨S64x4096, .i1⟩
  | .hbm, ⟨32, _⟩ => ⟨S_, .i32⟩
  | .hbm, ⟨33, _⟩ => ⟨S64x4096, .i32⟩
  | .hbm, ⟨34, _⟩ => ⟨S64x4096, .i32⟩
  | .hbm, ⟨35, _⟩ => ⟨S_, .i32⟩
  | .hbm, ⟨36, _⟩ => ⟨S64x4096, .i32⟩
  | .hbm, ⟨37, _⟩ => ⟨S64x4096, .i32⟩
  | .hbm, ⟨38, _⟩ => ⟨S64x4096, .i1⟩
  | .hbm, ⟨39, _⟩ => ⟨S64x4096, .i1⟩
  | .hbm, ⟨40, _⟩ => ⟨S64x4096, .f32⟩
  | .hbm, ⟨41, _⟩ => ⟨S4x4096, .f32⟩
  | .hbm, ⟨42, _⟩ => ⟨S4x2048, .f32⟩
  | .hbm, ⟨43, _⟩ => ⟨S4096, .f32⟩
  | .hbm, ⟨44, _⟩ => ⟨S1x4096, .f32⟩
  | .hbm, ⟨45, _⟩ => ⟨S2048, .f32⟩
  | .hbm, ⟨46, _⟩ => ⟨S1x2048, .f32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S64, .f32⟩
  | .hbm, ⟨53, _⟩ => ⟨S1x64, .f32⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64, .i32⟩
  | .hbm, ⟨58, _⟩ => ⟨S64x1, .i32⟩
  | .hbm, ⟨59, _⟩ => ⟨S64, .f32⟩
  | .hbm, ⟨60, _⟩ => ⟨S1x64, .f32⟩
  | .hbm, ⟨61, _⟩ => ⟨S64x64, .f32⟩
  | .hbm, ⟨62, _⟩ => ⟨S4096, .f32⟩
  | .hbm, ⟨63, _⟩ => ⟨S1x4096, .f32⟩
  | .hbm, ⟨64, _⟩ => ⟨S1x4096, .f32⟩
  | .hbm, ⟨65, _⟩ => ⟨S8x3x4096, .f32⟩
  | .hbm, ⟨66, _⟩ => ⟨S8x3x2048, .f32⟩
  | .hbm, ⟨67, _⟩ => ⟨S8x4096x128, .f32⟩
  | .hbm, ⟨68, _⟩ => ⟨S8x64x4096, .bf16⟩
  | .hbm, ⟨69, _⟩ => ⟨S8x4096x128, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x2048, .f32⟩
  | .local _ .vmem, ⟨5, _⟩ => ⟨S1x64x2048, .f32⟩
  | .local _ .vmem, ⟨6, _⟩ => ⟨S1x64x256, .f32⟩
  | .local _ .vmem, ⟨7, _⟩ => ⟨S1x64x256, .f32⟩
  | .local _ .vmem, ⟨8, _⟩ => ⟨S4x4096, .f32⟩
  | .local _ .vmem, ⟨9, _⟩ => ⟨S1x4096, .f32⟩
  | .local _ .vmem, ⟨10, _⟩ => ⟨S4x2048, .f32⟩
  | .local _ .vmem, ⟨11, _⟩ => ⟨S1x2048, .f32⟩
  | .local _ .vmem, ⟨12, _⟩ => ⟨S1x64, .f32⟩
  | .local _ .vmem, ⟨13, _⟩ => ⟨S1x64, .f32⟩
  | .local _ .vmem, ⟨14, _⟩ => ⟨S1x4096, .f32⟩
  | .local _ .vmem, ⟨15, _⟩ => ⟨S1x4096, .f32⟩
  | .local _ .vmem, ⟨16, _⟩ => ⟨S64x4096, .f32⟩
  | .local _ .vmem, ⟨17, _⟩ => ⟨S64x64, .f32⟩
  | .local _ .vmem, ⟨18, _⟩ => ⟨S1x3x4096, .f32⟩
  | .local _ .vmem, ⟨19, _⟩ => ⟨S1x3x4096, .f32⟩
  | .local _ .vmem, ⟨20, _⟩ => ⟨S1x3x2048, .f32⟩
  | .local _ .vmem, ⟨21, _⟩ => ⟨S1x3x2048, .f32⟩
  | .local _ .vmem, ⟨22, _⟩ => ⟨S1x4096x128, .f32⟩
  | .local _ .vmem, ⟨23, _⟩ => ⟨S1x4096x128, .f32⟩
  | .local _ .vmem, ⟨24, _⟩ => ⟨S1x64x4096, .bf16⟩
  | .local _ .vmem, ⟨25, _⟩ => ⟨S1x64x4096, .bf16⟩
  | .local _ .vmem, ⟨26, _⟩ => ⟨S1x4096x128, .f32⟩
  | .local _ .vmem, ⟨27, _⟩ => ⟨S1x4096x128, .f32⟩
  | .local _ .vmem, ⟨28, _⟩ => ⟨S72x4096, .f32⟩
  | .local _ .vmem, ⟨29, _⟩ => ⟨S72x2048, .f32⟩
  | .local _ .vmem, ⟨30, _⟩ => ⟨S128x4096, .f32⟩
  | .local _ .vmem, ⟨31, _⟩ => ⟨S32x128, .f32⟩
  | .local _ .vmem, ⟨32, _⟩ => ⟨S32x128, .f32⟩
  | _, _ => ⟨S8x64x20736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c_2 : Ref sig .tc := ⟨.hbm, 15, rfl⟩
abbrev main_v2 : Ref sig .tc := ⟨.hbm, 16, rfl⟩
abbrev main_v3 : Ref sig .tc := ⟨.hbm, 17, rfl⟩
abbrev main_c_3 : Ref sig .tc := ⟨.hbm, 18, rfl⟩
abbrev main_v4 : Ref sig .tc := ⟨.hbm, 19, rfl⟩
abbrev main_v5 : Ref sig .tc := ⟨.hbm, 20, rfl⟩
abbrev main_c_4 : Ref sig .tc := ⟨.hbm, 21, rfl⟩
abbrev main_v6 : Ref sig .tc := ⟨.hbm, 22, rfl⟩
abbrev main_v7 : Ref sig .tc := ⟨.hbm, 23, rfl⟩
abbrev main_c_5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_6 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_7 : Ref sig .tc := ⟨.hbm, 32, rfl⟩
abbrev main_v14 : Ref sig .tc := ⟨.hbm, 33, rfl⟩
abbrev main_v15 : Ref sig .tc := ⟨.hbm, 34, rfl⟩
abbrev main_c_8 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_9 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_454 : BitVec 32 := 0#32
  let v1449 : BitVec 1 := Scalar.cmpi .eq arg1 c0_i32_454
  let v1450 : BitVec 32 := Scalar.extui v1449
  let c0_i32_455 : BitVec 32 := 0#32
  let v1451 : BitVec 1 := Scalar.cmpi .ne v1450 c0_i32_455
  v1451

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c80_i32 : BitVec 32 := 80#32
  let c0_i32 : BitVec 32 := 0#32
  ![arg0.toNat, arg1.toNat, c80_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x3x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x3x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4096x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x64x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4096x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8x64x20736 : Shape := ⟨3, ![8, 64, 20736]⟩
abbrev S8x3x6144 : Shape := ⟨3, ![8, 3, 6144]⟩
abbrev S8x64x64x128 : Shape := ⟨4, ![8, 64, 64, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8x64x4096 : Shape := ⟨3, ![8, 64, 4096]⟩
abbrev S8x64x2048 : Shape := ⟨3, ![8, 64, 2048]⟩
abbrev S8x64x6144 : Shape := ⟨3, ![8, 64, 6144]⟩
abbrev S8x64x64 : Shape := ⟨3, ![8, 64, 64]⟩
abbrev S8x64x2x32 : Shape := ⟨4, ![8, 64, 2, 32]⟩
abbrev S8x64x32x2 : Shape := ⟨4, ![8, 64, 32, 2]⟩
abbrev S8x67x6144 : Shape := ⟨3, ![8, 67, 6144]⟩
abbrev S1x6144 : Shape := ⟨2, ![1, 6144]⟩
abbrev S1x1x6144 : Shape := ⟨3, ![1, 1, 6144]⟩
abbrev S_ : Shape := ⟨0, ![]⟩
abbrev S8x64x8x8x64 : Shape := ⟨5, ![8, 64, 8, 8, 64]⟩
abbrev S8x64x1024 : Shape := ⟨3, ![8, 64, 1024]⟩
abbrev S8x64x8x128 : Shape := ⟨4, ![8, 64, 8, 128]⟩
abbrev S1x1x64 : Shape := ⟨3, ![1, 1, 64]⟩
abbrev S8x64x8x8 : Shape := ⟨4, ![8, 64, 8, 8]⟩
abbrev S8x8 : Shape := ⟨2, ![8, 8]⟩
abbrev S8x8x8x64x128 : Shape := ⟨5, ![8, 8, 8, 64, 128]⟩
abbrev S1x1x8x8 : Shape := ⟨4, ![1, 1, 8, 8]⟩
abbrev S64x64 : Shape := ⟨2, ![64, 64]⟩
abbrev S1x64x64x1x1 : Shape := ⟨5, ![1, 64, 64, 1, 1]⟩
abbrev S8x64x1x8x8 : Shape := ⟨5, ![8, 64, 1, 8, 8]⟩
abbrev S8x1x64x8x8 : Shape := ⟨5, ![8, 1, 64, 8, 8]⟩
abbrev S8x64x64x8x8 : Shape := ⟨5, ![8, 64, 64, 8, 8]⟩
abbrev S8x64x8x8x1 : Shape := ⟨5, ![8, 64, 8, 8, 1]⟩
abbrev S8x8x64x64 : Shape := ⟨4, ![8, 8, 64, 64]⟩
abbrev S8x64x64x8 : Shape := ⟨4, ![8, 64, 64, 8]⟩
abbrev S8x64x64x8x1 : Shape := ⟨5, ![8, 64, 64, 8, 1]⟩
abbrev S8x8x8x64x64 : Shape := ⟨5, ![8, 8, 8, 64, 64]⟩
abbrev S8x8x1 : Shape := ⟨3, ![8, 8, 1]⟩
abbrev S1x1x8x8x1 : Shape := ⟨5, ![1, 1, 8, 8, 1]⟩
abbrev S8x1x8x8 : Shape := ⟨4, ![8, 1, 8, 8]⟩
abbrev S8x8x8 : Shape := ⟨3, ![8, 8, 8]⟩
abbrev S8x8x8x1x1 : Shape := ⟨5, ![8, 8, 8, 1, 1]⟩
abbrev S8x64x8x512 : Shape := ⟨4, ![8, 64, 8, 512]⟩
abbrev S8x64x8 : Shape := ⟨3, ![8, 64, 8]⟩
abbrev S8x64x8x1 : Shape := ⟨4, ![8, 64, 8, 1]⟩
abbrev S8x512 : Shape := ⟨2, ![8, 512]⟩
abbrev S1x1x8x512 : Shape := ⟨4, ![1, 1, 8, 512]⟩
abbrev S8x4096x128 : Shape := ⟨3, ![8, 4096, 128]⟩

abbrev nBuf : Space → Nat
  | .hbm => 187
  | .vmem => 0
  | .smem => 0
  | _ => 0

abbrev hbmTy0_0 (i : Nat) : BufTy := match i % 128 with
  | 0 => ⟨S8x64x20736, .f32⟩
  | 1 => ⟨S8x3x6144, .f32⟩
  | 2 => ⟨S8x64x64x128, .f32⟩
  | 3 => ⟨S4x6144, .f32⟩
  | 4 => ⟨S6144, .f32⟩
  | 5 => ⟨S64, .f32⟩
  | 6 => ⟨S64, .f32⟩
  | 7 => ⟨S64, .f32⟩
  | 8 => ⟨S4096, .f32⟩
  | 9 => ⟨S8x64x4096, .f32⟩
  | 10 => ⟨S8x64x2048, .f32⟩
  | 11 => ⟨S8x64x6144, .f32⟩
  | 12 => ⟨S8x64x4096, .f32⟩
  | 13 => ⟨S8x64x64, .f32⟩
  | 14 => ⟨S8x64x2x32, .f32⟩
  | 15 => ⟨S8x64x32x2, .f32⟩
  | 16 => ⟨S8x64x64, .f32⟩
  | 17 => ⟨S8x67x6144, .f32⟩
  | 18 => ⟨S8x64x6144, .f32⟩
  | 19 => ⟨S1x6144, .f32⟩
  | 20 => ⟨S6144, .f32⟩
  | 21 => ⟨S1x1x6144, .f32⟩
  | 22 => ⟨S8x64x6144, .f32⟩
  | 23 => ⟨S8x64x6144, .f32⟩
  | 24 => ⟨S_, .f32⟩
  | 25 => ⟨S8x64x6144, .f32⟩
  | 26 => ⟨S8x64x6144, .f32⟩
  | 27 => ⟨S8x64x6144, .f32⟩
  | 28 => ⟨S1x6144, .f32⟩
  | 29 => ⟨S6144, .f32⟩
  | 30 => ⟨S1x1x6144, .f32⟩
  | 31 => ⟨S8x64x6144, .f32⟩
  | 32 => ⟨S8x64x6144, .f32⟩
  | 33 => ⟨S8x64x6144, .f32⟩
  | 34 => ⟨S8x64x6144, .f32⟩
  | 35 => ⟨S1x6144, .f32⟩
  | 36 => ⟨S6144, .f32⟩
  | 37 => ⟨S1x1x6144, .f32⟩
  | 38 => ⟨S8x64x6144, .f32⟩
  | 39 => ⟨S8x64x6144, .f32⟩
  | 40 => ⟨S8x64x6144, .f32⟩
  | 41 => ⟨S8x64x6144, .f32⟩
  | 42 => ⟨S1x6144, .f32⟩
  | 43 => ⟨S6144, .f32⟩
  | 44 => ⟨S1x1x6144, .f32⟩
  | 45 => ⟨S8x64x6144, .f32⟩
  | 46 => ⟨S8x64x6144, .f32⟩
  | 47 => ⟨S8x64x6144, .f32⟩
  | 48 => ⟨S1x1x6144, .f32⟩
  | 49 => ⟨S8x64x6144, .f32⟩
  | 50 => ⟨S8x64x6144, .f32⟩
  | 51 => ⟨S8x64x6144, .f32⟩
  | 52 => ⟨S8x64x6144, .f32⟩
  | 53 => ⟨S_, .f32⟩
  | 54 => ⟨S8x64x6144, .f32⟩
  | 55 => ⟨S8x64x6144, .f32⟩
  | 56 => ⟨S_, .f32⟩
  | 57 => ⟨S8x64x6144, .f32⟩
  | 58 => ⟨S8x64x6144, .f32⟩
  | 59 => ⟨S8x64x6144, .f32⟩
  | 60 => ⟨S8x64x4096, .f32⟩
  | 61 => ⟨S8x64x8x8x64, .f32⟩
  | 62 => ⟨S8x64x1024, .f32⟩
  | 63 => ⟨S8x64x8x128, .f32⟩
  | 64 => ⟨S8x64x1024, .f32⟩
  | 65 => ⟨S8x64x8x128, .f32⟩
  | 66 => ⟨S1x1x64, .f32⟩
  | 67 => ⟨S8x64x64, .f32⟩
  | 68 => ⟨S8x64x64, .f32⟩
  | 69 => ⟨S_, .f32⟩
  | 70 => ⟨S8x64x64, .f32⟩
  | 71 => ⟨S8x64x64, .f32⟩
  | 72 => ⟨S8x64x64, .f32⟩
  | 73 => ⟨S8x64x64, .f32⟩
  | 74 => ⟨S8x64x64, .i1⟩
  | 75 => ⟨S8x64x64, .f32⟩
  | 76 => ⟨S8x64x64, .f32⟩
  | 77 => ⟨S8x64x64, .f32⟩
  | 78 => ⟨S8x64x64, .f32⟩
  | 79 => ⟨S8x64x64, .f32⟩
  | 80 => ⟨S8x64x64, .f32⟩
  | 81 => ⟨S8x64x64, .f32⟩
  | 82 => ⟨S8x64x64, .f32⟩
  | 83 => ⟨S8x64x8x8, .f32⟩
  | 84 => ⟨S64, .f32⟩
  | 85 => ⟨S8x8, .f32⟩
  | 86 => ⟨S8x8, .f32⟩
  | 87 => ⟨S8x8, .f32⟩
  | 88 => ⟨S8x8x8x64x128, .f32⟩
  | 89 => ⟨S1x1x8x8, .f32⟩
  | 90 => ⟨S8x64x8x8, .f32⟩
  | 91 => ⟨S8x64x8x8, .f32⟩
  | 92 => ⟨S_, .f32⟩
  | 93 => ⟨S_, .f32⟩
  | 94 => ⟨S8x64x8x8, .f32⟩
  | 95 => ⟨S_, .i1⟩
  | 96 => ⟨S64x64, .i1⟩
  | 97 => ⟨S64x64, .i32⟩
  | 98 => ⟨S_, .i32⟩
  | 99 => ⟨S64x64, .i32⟩
  | 100 => ⟨S64x64, .i32⟩
  | 101 => ⟨S64x64, .i32⟩
  | 102 => ⟨S64x64, .i1⟩
  | 103 => ⟨S_, .i1⟩
  | 104 => ⟨S64x64, .i1⟩
  | 105 => ⟨S64x64, .i1⟩
  | 106 => ⟨S1x64x64x1x1, .i1⟩
  | 107 => ⟨S8x64x1x8x8, .f32⟩
  | 108 => ⟨S8x1x64x8x8, .f32⟩
  | 109 => ⟨S8x64x64x8x8, .f32⟩
  | 110 => ⟨S8x64x64x8x8, .f32⟩
  | 111 => ⟨S8x64x64x8x8, .f32⟩
  | 112 => ⟨S_, .f32⟩
  | 113 => ⟨S_, .f32⟩
  | 114 => ⟨S8x64x64x8x8, .i1⟩
  | 115 => ⟨S8x64x64x8x8, .f32⟩
  | 116 => ⟨S8x64x64x8x8, .f32⟩
  | 117 => ⟨S8x64x64x8x8, .f32⟩
  | 118 => ⟨S8x64x8x8x1, .f32⟩
  | 119 => ⟨S8x64x8x8x64, .f32⟩
  | 120 => ⟨S8x64x8x8x64, .f32⟩
  | 121 => ⟨S8x8x64x64, .f32⟩
  | 122 => ⟨S8x64x64x8, .f32⟩
  | 123 => ⟨S8x64x64x8x1, .f32⟩
  | 124 => ⟨S8x64x64x8x8, .f32⟩
  | 125 => ⟨S8x64x64x8x8, .f32⟩
  | 126 => ⟨S8x8x8x64x64, .f32⟩
  | 127 => ⟨S8x64x8x8x64, .f32⟩
  | _ => ⟨S8x64x20736, .f32⟩

abbrev hbmTy0_1 (i : Nat) : BufTy := match i % 128 with
  | 0 => ⟨S8x8x8x64x64, .f32⟩
  | 1 => ⟨S8x64x8x8x64, .f32⟩
  | 2 => ⟨S8x64x8x8, .f32⟩
  | 3 => ⟨S8x64x8x8x1, .f32⟩
  | 4 => ⟨S8x64x8x8x64, .f32⟩
  | 5 => ⟨S8x64x8x8x64, .f32⟩
  | 6 => ⟨S8x64x8x8x64, .f32⟩
  | 7 => ⟨S8x8x1, .f32⟩
  | 8 => ⟨S1x1x8x8x1, .f32⟩
  | 9 => ⟨S8x64x8x8x64, .f32⟩
  | 10 => ⟨S8x64x8x8x64, .f32⟩
  | 11 => ⟨S8x64x8x8x64, .f32⟩
  | 12 => ⟨S8x1x8x8, .f32⟩
  | 13 => ⟨S8x64x8x8, .f32⟩
  | 14 => ⟨S8x64x8x8, .f32⟩
  | 15 => ⟨S8x64x8x8, .f32⟩
  | 16 => ⟨S8x1x8x8, .f32⟩
  | 17 => ⟨S8x8x8, .f32⟩
  | 18 => ⟨S8x8x8, .f32⟩
  | 19 => ⟨S8x8x8x1x1, .f32⟩
  | 20 => ⟨S8x8x8x64x128, .f32⟩
  | 21 => ⟨S8x8x8x64x128, .f32⟩
  | 22 => ⟨S8x64x8x8x1, .f32⟩
  | 23 => ⟨S8x64x8x8x64, .f32⟩
  | 24 => ⟨S8x64x8x8x64, .f32⟩
  | 25 => ⟨S8x8x8x64x128, .f32⟩
  | 26 => ⟨S8x8x8x64x128, .f32⟩
  | 27 => ⟨S8x64x4096, .f32⟩
  | 28 => ⟨S8x64x4096, .f32⟩
  | 29 => ⟨S8x64x4096, .f32⟩
  | 30 => ⟨S_, .f32⟩
  | 31 => ⟨S8x64x4096, .f32⟩
  | 32 => ⟨S8x64x4096, .f32⟩
  | 33 => ⟨S_, .f32⟩
  | 34 => ⟨S8x64x4096, .f32⟩
  | 35 => ⟨S8x64x4096, .f32⟩
  | 36 => ⟨S8x64x4096, .f32⟩
  | 37 => ⟨S8x64x4096, .f32⟩
  | 38 => ⟨S8x64x8x512, .f32⟩
  | 39 => ⟨S8x64x8x512, .f32⟩
  | 40 => ⟨S_, .f32⟩
  | 41 => ⟨S8x64x8, .f32⟩
  | 42 => ⟨S8x64x8x1, .f32⟩
  | 43 => ⟨S_, .f32⟩
  | 44 => ⟨S8x64x8x1, .f32⟩
  | 45 => ⟨S8x64x8x1, .f32⟩
  | 46 => ⟨S_, .f32⟩
  | 47 => ⟨S8x64x8x1, .f32⟩
  | 48 => ⟨S8x64x8x1, .f32⟩
  | 49 => ⟨S8x64x8x1, .f32⟩
  | 50 => ⟨S8x64x8x512, .f32⟩
  | 51 => ⟨S8x64x8x512, .f32⟩
  | 52 => ⟨S8x512, .f32⟩
  | 53 => ⟨S1x1x8x512, .f32⟩
  | 54 => ⟨S8x64x8x512, .f32⟩
  | 55 => ⟨S8x64x8x512, .f32⟩
  | 56 => ⟨S8x64x4096, .f32⟩
  | 57 => ⟨S8x64x4096, .bf16⟩
  | 58 => ⟨S8x4096x128, .f32⟩
  | _ => ⟨S8x64x20736, .f32⟩

abbrev hbmTy (i : Nat) : BufTy := match i / 128 with
  | 0 => hbmTy0_0 i
  | 1 => hbmTy0_1 i
  | _ => ⟨S8x64x20736, .f32⟩

abbrev bufTy : (tb : Table) → Fin (tcTables nBuf tb) → BufTy
  | .hbm, ⟨i, _⟩ => hbmTy i
  | _, _ => ⟨S8x64x20736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call2_call0_cst : Ref sig .tc := ⟨.hbm, 92, rfl⟩
abbrev main_call2_call0_v0 : Ref sig .tc := ⟨.hbm, 93, rfl⟩
abbrev main_v61 : Ref sig .tc := ⟨.hbm, 94, rfl⟩
abbrev main_c : Ref sig .tc := ⟨.hbm, 95, rfl⟩
abbrev main_v62 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_c_0 : Ref sig .tc := ⟨.hbm, 103, rfl⟩
abbrev main_call3_v5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_0 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call5_v0 : Ref sig .tc := ⟨.hbm, 156, rfl⟩
abbrev main_call5_v1 : Ref sig .tc := ⟨.hbm, 157, rfl⟩
abbrev main_call5_cst : Ref sig .tc := ⟨.hbm, 158, rfl⟩
abbrev main_call5_v2 : Ref sig .tc := ⟨.hbm, 159, rfl⟩
abbrev main_call5_v3 : Ref sig .tc := ⟨.hbm, 160, rfl⟩
abbrev main_call5_cst_0 : Ref sig .tc := ⟨.hbm, 161, rfl⟩
abbrev main_call5_v4 : Ref sig .tc := ⟨.hbm, 162, rfl⟩
abbrev main_call5_v5 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_cst_1 : Ref sig .tc := ⟨.hbm, 168, rfl⟩
abbrev main_v114 : Ref sig .tc := ⟨.hbm, 169, rfl⟩
abbrev main_v115 : Ref sig .tc := ⟨.hbm, 170, rfl⟩
abbrev main_cst_2 : Ref sig .tc := ⟨.hbm, 171, rfl⟩
abbrev main_v116 : Ref sig .tc := ⟨.hbm, 172, rfl⟩
abbrev main_v117 : Ref sig .tc := ⟨.hbm, 173, rfl⟩
abbrev main_cst_3 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048 : Shape := ⟨1, ![2048]⟩
abbrev S2048x20736 : Shape := ⟨2, ![2048, 20736]⟩
abbrev S32768x2048 : Shape := ⟨2, ![32768, 2048]⟩
abbrev S1x2048 : Shape := ⟨2, ![1, 2048]⟩
abbrev S32768x20736 : Shape := ⟨2, ![32768, 20736]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x20736, .f32⟩
  | .hbm, ⟨3, _⟩ => ⟨S32768x2048, .f32⟩
  | .hbm, ⟨4, _⟩ => ⟨S1x2048, .f32⟩
  | .hbm, ⟨5, _⟩ => ⟨S2048x20736, .bf16⟩
  | .hbm, ⟨6, _⟩ => ⟨S32768x20736, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8x4096x2048 : Shape := ⟨3, ![8, 4096, 2048]⟩
abbrev S2048 : Shape := ⟨1, ![2048]⟩
abbrev S2048x20736 : Shape := ⟨2, ![2048, 20736]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x20736 : Shape := ⟨3, ![8, 4096, 20736]⟩
abbrev S32768x20736 : Shape := ⟨2, ![32768, 20736]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x20736, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x20736, .f32⟩
  | .hbm, ⟨20, _⟩ => ⟨S32768x20736, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S32768x4096 : Shape := ⟨2, ![32768, 4096]⟩
abbrev S32768x2048 : Shape := ⟨2, ![32768, 2048]⟩
abbrev S32768x20736 : Shape := ⟨2, ![32768, 20736]⟩
abbrev S4096x2048 : Shape := ⟨2, ![4096, 2048]⟩
abbrev S2048x2048 : Shape := ⟨2, ![2048, 2048]⟩
abbrev S512x4096 : Shape := ⟨2, ![512, 4096]⟩
abbrev S512x2048 : Shape := ⟨2, ![512, 2048]⟩
abbrev S512x512 : Shape := ⟨2, ![512, 512]⟩
abbrev S4096x512 : Shape := ⟨2, ![4096, 512]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S32768x4096, .bf16⟩
  | .hbm, ⟨1, _⟩ => ⟨S32768x2048, .bf16⟩
  | .hbm, ⟨2, _⟩ => ⟨S32768x20736, .f32⟩
  | .hbm, ⟨3, _⟩ => ⟨S4096x2048, .f32⟩
  | .hbm, ⟨4, _⟩ => ⟨S2048x2048, .f32⟩
  | .hbm, ⟨5, _⟩ => ⟨S4096x2048, .bf16⟩
  | .hbm, ⟨6, _⟩ => ⟨S2048x2048, .bf16⟩
  | .hbm, ⟨7, _⟩ => ⟨S32768x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S512x512, .bf16⟩
  | .local _ .vmem, ⟨13, _⟩ => ⟨S512x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32768x4096 : Shape := ⟨2, ![32768, 4096]⟩
abbrev S32768x2048 : Shape := ⟨2, ![32768, 2048]⟩
abbrev S32768x20736 : Shape := ⟨2, ![32768, 20736]⟩
abbrev S4096x2048 : Shape := ⟨2, ![4096, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x2048, .bf16⟩
  | .hbm, ⟨2, _⟩ => ⟨S32768x20736, .f32⟩
  | .hbm, ⟨3, _⟩ => ⟨S4096x2048, .f32⟩
  | .hbm, ⟨4, _⟩ => ⟨S2048x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S32768x4096, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S32768x2048 : Shape := ⟨2, ![32768, 2048]⟩
abbrev S8x4096x2048 : Shape := ⟨3, ![8, 4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x2048 : Shape := ⟨2, ![32768, 2048]⟩
abbrev S8x4096x2048 : Shape := ⟨3, ![8, 4096, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S8x4096x2048 : Shape := ⟨3, ![8, 4096, 2048]⟩
abbrev S2048 : Shape := ⟨1, ![2048]⟩
abbrev S2048x20560 : Shape := ⟨2, ![2048, 20560]⟩
abbrev S64 : Shape := ⟨1, ![64]⟩
abbrev S2048x4096 : Shape := ⟨2, ![2048, 4096]⟩
abbrev S2048x6144 : Shape := ⟨2, ![2048, 6144]⟩
abbrev S2048x64 : Shape := ⟨2, ![2048, 64]⟩
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩
abbrev S64x1 : Shape := ⟨2, ![64, 1]⟩
abbrev S2048x176 : Shape := ⟨2, ![2048, 176]⟩
abbrev S2048x256 : Shape := ⟨2, ![2048, 256]⟩
abbrev S2048x20736 : Shape := ⟨2, ![2048, 20736]⟩
abbrev S32768x2048 : Shape := ⟨2, ![32768, 2048]⟩
abbrev S1x2048 : Shape := ⟨2, ![1, 2048]⟩
abbrev S32768x20736 : Shape := ⟨2, ![32768, 20736]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩
abbrev S8x4096x20736 : Shape := ⟨3, ![8, 4096, 20736]⟩
abbrev S8x3x4096 : Shape := ⟨3, ![8, 3, 4096]⟩
abbrev S8x3x2048 : Shape := ⟨3, ![8, 3, 2048]⟩
abbrev S8x3x6144 : Shape := ⟨3, ![8, 3, 6144]⟩

abbrev nBuf : Space → Nat
  | .hbm => 34
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x20560, .f32⟩
  | .hbm, ⟨3, _⟩ => ⟨S64, .i32⟩
  | .hbm, ⟨4, _⟩ => ⟨S64, .i1⟩
  | .hbm, ⟨5, _⟩ => ⟨S2048x4096, .f32⟩
  | .hbm, ⟨6, _⟩ => ⟨S2048x6144, .f32⟩
  | .hbm, ⟨7, _⟩ => ⟨S2048x64, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x2048, .f32⟩
  | .hbm, ⟨12, _⟩ => ⟨S2048x16, .f32⟩
  | .hbm, ⟨13, _⟩ => ⟨S2048x4096, .f32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S2048x64, .f32⟩
  | .hbm, ⟨20, _⟩ => ⟨S_, .f32⟩
  | .hbm, ⟨21, _⟩ => ⟨S2048x176, .f32⟩
  | .hbm, ⟨22, _⟩ => ⟨S2048x256, .f32⟩
  | .hbm, ⟨23, _⟩ => ⟨S2048x4096, .f32⟩
  | .hbm, ⟨24, _⟩ => ⟨S2048x2048, .f32⟩
  | .hbm, ⟨25, _⟩ => ⟨S2048x20736, .f32⟩
  | .hbm, ⟨26, _⟩ => ⟨S2048x20736, .bf16⟩
  | .hbm, ⟨27, _⟩ => ⟨S32768x2048, .f32⟩
  | .hbm, ⟨28, _⟩ => ⟨S1x2048, .f32⟩
  | .hbm, ⟨29, _⟩ => ⟨S32768x20736, .f32⟩
  | .hbm, ⟨30, _⟩ => ⟨S8x4096x20736, .f32⟩
  | .hbm, ⟨31, _⟩ => ⟨S8x3x4096, .f32⟩
  | .hbm, ⟨32, _⟩ => ⟨S8x3x2048, .f32⟩
  | .hbm, ⟨33, _⟩ => ⟨S8x3x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x4096x2048 : Shape := ⟨3, ![8, 4096, 2048]⟩
abbrev S2048 : Shape := ⟨1, ![2048]⟩
abbrev S2048x20560 : Shape := ⟨2, ![2048, 20560]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x20560 : Shape := ⟨3, ![8, 4096, 20560]⟩
abbrev S8x4096x6144 : Shape := ⟨3, ![8, 4096, 6144]⟩
abbrev S8x3x6144 : Shape := ⟨3, ![8, 3, 6144]⟩
abbrev S8x4099x6144 : Shape := ⟨3, ![8, 4099, 6144]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x20560, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x20560, .f32⟩
  | .hbm, ⟨20, _⟩ => ⟨S8x4096x6144, .f32⟩
  | .hbm, ⟨21, _⟩ => ⟨S_, .f32⟩
  | .hbm, ⟨22, _⟩ => ⟨S8x3x6144, .f32⟩
  | .hbm, ⟨23, _⟩ => ⟨S8x4099x6144, .f32⟩
  | .hbm, ⟨24, _⟩ => ⟨S8x3x6144, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S8x64x2048 : Shape := ⟨3, ![8, 64, 2048]⟩
abbrev S8x3x6144 : Shape := ⟨3, ![8, 3, 6144]⟩
abbrev S2048 : Shape := ⟨1, ![2048]⟩
abbrev S2048x20560 : Shape := ⟨2, ![2048, 20560]⟩
abbrev S64 : Shape := ⟨1, ![64]⟩
abbrev S2048x4096 : Shape := ⟨2, ![2048, 4096]⟩
abbrev S2048x6144 : Shape := ⟨2, ![2048, 6144]⟩
abbrev S2048x64 : Shape := ⟨2, ![2048, 64]⟩
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩
abbrev S64x1 : Shape := ⟨2, ![64, 1]⟩
abbrev S2048x176 : Shape := ⟨2, ![2048, 176]⟩
abbrev S2048x256 : Shape := ⟨2, ![2048, 256]⟩
abbrev S2048x20736 : Shape := ⟨2, ![2048, 20736]⟩
abbrev S512x2048 : Shape := ⟨2, ![512, 2048]⟩
abbrev S1x2048 : Shape := ⟨2, ![1, 2048]⟩
abbrev S512x20736 : Shape := ⟨2, ![512, 20736]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩
abbrev S8x64x20736 : Shape := ⟨3, ![8, 64, 20736]⟩
abbrev S8x3x4096 : Shape := ⟨3, ![8, 3, 4096]⟩
abbrev S8x3x2048 : Shape := ⟨3, ![8, 3, 2048]⟩

abbrev nBuf : Space → Nat
  | .hbm => 35
  | .vmem => 7
  | .smem => 0
  | _ => 0

abbrev bufTy : (tb : Table) → Fin (tcTables nBuf tb) → BufTy
  | .hbm, ⟨0, _⟩ => ⟨S8x64x2048, .f32⟩
  | .hbm, ⟨1, _⟩ => ⟨S8x3x6144, .f32⟩
  | .hbm, ⟨2, _⟩ => ⟨S2048, .f32⟩
  | .hbm, ⟨3, _⟩ => ⟨S2048x20560, .f32⟩
  | .hbm, ⟨4, _⟩ => ⟨S64, .i32⟩
  | .hbm, ⟨5, _⟩ => ⟨S64, .i1⟩
  | .hbm, ⟨6, _⟩ => ⟨S2048x4096, .f32⟩
  | .hbm, ⟨7, _⟩ => ⟨S2048x6144, .f32⟩
  | .hbm, ⟨8, _⟩ => ⟨S2048x64, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S2048x16, .f32⟩
  | .hbm, ⟨14, _⟩ => ⟨S2048x4096, .f32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S2048x64, .f32⟩
  | .hbm, ⟨21, _⟩ => ⟨S_, .f32⟩
  | .hbm, ⟨22, _⟩ => ⟨S2048x176, .f32⟩
  | .hbm, ⟨23, _⟩ => ⟨S2048x256, .f32⟩
  | .hbm, ⟨24, _⟩ => ⟨S2048x4096, .f32⟩
  | .hbm, ⟨25, _⟩ => ⟨S2048x2048, .f32⟩
  | .hbm, ⟨26, _⟩ => ⟨S2048x20736, .f32⟩
  | .hbm, ⟨27, _⟩ => ⟨S2048x20736, .bf16⟩
  | .hbm, ⟨28, _⟩ => ⟨S512x2048, .f32⟩
  | .hbm, ⟨29, _⟩ => ⟨S1x2048, .f32⟩
  | .hbm, ⟨30, _⟩ => ⟨S512x20736, .f32⟩
  | .hbm, ⟨31, _⟩ => ⟨S8x64x20736, .f32⟩
  | .hbm, ⟨32, _⟩ => ⟨S8x3x4096, .f32⟩
  | .hbm, ⟨33, _⟩ => ⟨S8x3x2048, .f32⟩
  | .hbm, ⟨34, _⟩ => ⟨S8x3x6144, .f32⟩
  | .local _ .vmem, ⟨0, _⟩ => ⟨S512x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | .local _ .vmem, ⟨6, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x64x2048 : Shape := ⟨3, ![8, 64, 2048]⟩
abbrev S8x3x6144 : Shape := ⟨3, ![8, 3, 6144]⟩
abbrev S2048 : Shape := ⟨1, ![2048]⟩
abbrev S2048x20560 : Shape := ⟨2, ![2048, 20560]⟩
abbrev S_ : Shape := ⟨0, ![]⟩
abbrev S8x64 : Shape := ⟨2, ![8, 64]⟩
abbrev S8x64x1 : Shape := ⟨3, ![8, 64, 1]⟩
abbrev S1x1x2048 : Shape := ⟨3, ![1, 1, 2048]⟩
abbrev S8x64x20560 : Shape := ⟨3, ![8, 64, 20560]⟩
abbrev S8x64x6144 : Shape := ⟨3, ![8, 64, 6144]⟩
abbrev S8x67x6144 : Shape := ⟨3, ![8, 67, 6144]⟩

abbrev nBuf : Space → Nat
  | .hbm => 24
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S8x3x6144, .f32⟩
  | .hbm, ⟨2, _⟩ => ⟨S2048, .f32⟩
  | .hbm, ⟨3, _⟩ => ⟨S2048x20560, .f32⟩
  | .hbm, ⟨4, _⟩ => ⟨S8x64x2048, .f32⟩
  | .hbm, ⟨5, _⟩ => ⟨S_, .f32⟩
  | .hbm, ⟨6, _⟩ => ⟨S8x64, .f32⟩
  | .hbm, ⟨7, _⟩ => ⟨S8x64x1, .f32⟩
  | .hbm, ⟨8, _⟩ => ⟨S_, .f32⟩
  | .hbm, ⟨9, _⟩ => ⟨S8x64x1, .f32⟩
  | .hbm, ⟨10, _⟩ => ⟨S8x64x1, .f32⟩
  | .hbm, ⟨11, _⟩ => ⟨S_, .f32⟩
  | .hbm, ⟨12, _⟩ => ⟨S8x64x1, .f32⟩
  | .hbm, ⟨13, _⟩ => ⟨S8x64x1, .f32⟩
  | .hbm, ⟨14, _⟩ => ⟨S8x64x1, .f32⟩
  | .hbm, ⟨15, _⟩ => ⟨S8x64x2048, .f32⟩
  | .hbm, ⟨16, _⟩ => ⟨S8x64x2048, .f32⟩
  | .hbm, ⟨17, _⟩ => ⟨S1x1x2048, .f32⟩
  | .hbm, ⟨18, _⟩ => ⟨S8x64x2048, .f32⟩
  | .hbm, ⟨19, _⟩ => ⟨S8x64x2048, .f32⟩
  | .hbm, ⟨20, _⟩ => ⟨S8x64x20560, .f32⟩
  | .hbm, ⟨21, _⟩ => ⟨S8x64x6144, .f32⟩
  | .hbm, ⟨22, _⟩ => ⟨S8x67x6144, .f32⟩
  | .hbm, ⟨23, _⟩ => ⟨S8x3x6144, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel7.lean ====
abbrev S8x64x2048 : Shape := ⟨3, ![8, 64, 2048]⟩
abbrev S2048 : Shape := ⟨1, ![2048]⟩
abbrev S2048x20736 : Shape := ⟨2, ![2048, 20736]⟩
abbrev S512x2048 : Shape := ⟨2, ![512, 2048]⟩
abbrev S1x2048 : Shape := ⟨2, ![1, 2048]⟩
abbrev S512x20736 : Shape := ⟨2, ![512, 20736]⟩
abbrev S2048x768 : Shape := ⟨2, ![2048, 768]⟩
abbrev S512x768 : Shape := ⟨2, ![512, 768]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x64x2048, .f32⟩
  | .hbm, ⟨1, _⟩ => ⟨S2048, .f32⟩
  | .hbm, ⟨2, _⟩ => ⟨S2048x20736, .f32⟩
  | .hbm, ⟨3, _⟩ => ⟨S512x2048, .f32⟩
  | .hbm, ⟨4, _⟩ => ⟨S1x2048, .f32⟩
  | .hbm, ⟨5, _⟩ => ⟨S2048x20736, .bf16⟩
  | .hbm, ⟨6, _⟩ => ⟨S512x20736, .f32⟩
  | .local _ .vmem, ⟨0, _⟩ => ⟨S512x2048, .f32⟩
  | .local _ .vmem, ⟨1, _⟩ => ⟨S1x2048, .f32⟩
  | .local _ .vmem, ⟨2, _⟩ => ⟨S2048x768, .bf16⟩
  | .local _ .vmem, ⟨3, _⟩ => ⟨S2048x768, .bf16⟩
  | .local _ .vmem, ⟨4, _⟩ => ⟨S512x768, .f32⟩
  | .local _ .vmem, ⟨5, _⟩ => ⟨S512x768, .f32⟩
  | .local _ .vmem, ⟨6, _⟩ => ⟨S512x2048, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 27], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x64x2048 : Shape := ⟨3, ![8, 64, 2048]⟩
abbrev S2048 : Shape := ⟨1, ![2048]⟩
abbrev S2048x20736 : Shape := ⟨2, ![2048, 20736]⟩
abbrev S_ : Shape := ⟨0, ![]⟩
abbrev S8x64 : Shape := ⟨2, ![8, 64]⟩
abbrev S8x64x1 : Shape := ⟨3, ![8, 64, 1]⟩
abbrev S1x1x2048 : Shape := ⟨3, ![1, 1, 2048]⟩
abbrev S8x64x20736 : Shape := ⟨3, ![8, 64, 20736]⟩
abbrev S512x20736 : Shape := ⟨2, ![512, 20736]⟩

abbrev nBuf : Space → Nat
  | .hbm => 21
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S2048, .f32⟩
  | .hbm, ⟨2, _⟩ => ⟨S2048x20736, .f32⟩
  | .hbm, ⟨3, _⟩ => ⟨S8x64x2048, .f32⟩
  | .hbm, ⟨4, _⟩ => ⟨S_, .f32⟩
  | .hbm, ⟨5, _⟩ => ⟨S8x64, .f32⟩
  | .hbm, ⟨6, _⟩ => ⟨S8x64x1, .f32⟩
  | .hbm, ⟨7, _⟩ => ⟨S_, .f32⟩
  | .hbm, ⟨8, _⟩ => ⟨S8x64x1, .f32⟩
  | .hbm, ⟨9, _⟩ => ⟨S8x64x1, .f32⟩
  | .hbm, ⟨10, _⟩ => ⟨S_, .f32⟩
  | .hbm, ⟨11, _⟩ => ⟨S8x64x1, .f32⟩
  | .hbm, ⟨12, _⟩ => ⟨S8x64x1, .f32⟩
  | .hbm, ⟨13, _⟩ => ⟨S8x64x1, .f32⟩
  | .hbm, ⟨14, _⟩ => ⟨S8x64x2048, .f32⟩
  | .hbm, ⟨15, _⟩ => ⟨S8x64x2048, .f32⟩
  | .hbm, ⟨16, _⟩ => ⟨S1x1x2048, .f32⟩
  | .hbm, ⟨17, _⟩ => ⟨S8x64x2048, .f32⟩
  | .hbm, ⟨18, _⟩ => ⟨S8x64x2048, .f32⟩
  | .hbm, ⟨19, _⟩ => ⟨S8x64x20736, .f32⟩
  | .hbm, ⟨20, _⟩ => ⟨S512x20736, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S512x4096 : Shape := ⟨2, ![512, 4096]⟩
abbrev S512x2048 : Shape := ⟨2, ![512, 2048]⟩
abbrev S512x20736 : Shape := ⟨2, ![512, 20736]⟩
abbrev S4096x2048 : Shape := ⟨2, ![4096, 2048]⟩
abbrev S2048x2048 : Shape := ⟨2, ![2048, 2048]⟩
abbrev S512x512 : Shape := ⟨2, ![512, 512]⟩
abbrev S4096x512 : Shape := ⟨2, ![4096, 512]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S512x4096, .bf16⟩
  | .hbm, ⟨1, _⟩ => ⟨S512x2048, .bf16⟩
  | .hbm, ⟨2, _⟩ => ⟨S512x20736, .f32⟩
  | .hbm, ⟨3, _⟩ => ⟨S4096x2048, .f32⟩
  | .hbm, ⟨4, _⟩ => ⟨S2048x2048, .f32⟩
  | .hbm, ⟨5, _⟩ => ⟨S4096x2048, .bf16⟩
  | .hbm, ⟨6, _⟩ => ⟨S2048x2048, .bf16⟩
  | .hbm, ⟨7, _⟩ => ⟨S512x2048, .bf16⟩
  | .local _ .vmem, ⟨0, _⟩ => ⟨S512x4096, .bf16⟩
  | .local _ .vmem, ⟨1, _⟩ => ⟨S512x2048, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | .local _ .vmem, ⟨7, _⟩ => ⟨S4096x512, .bf16⟩
  | .local _ .vmem, ⟨8, _⟩ => ⟨S2048x512, .bf16⟩
  | .local _ .vmem, ⟨9, _⟩ => ⟨S2048x512, .bf16⟩
  | .local _ .vmem, ⟨10, _⟩ => ⟨S512x512, .bf16⟩
  | .local _ .vmem, ⟨11, _⟩ => ⟨S512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S512x4096 : Shape := ⟨2, ![512, 4096]⟩
abbrev S512x2048 : Shape := ⟨2, ![512, 2048]⟩
abbrev S512x20736 : Shape := ⟨2, ![512, 20736]⟩
abbrev S4096x2048 : Shape := ⟨2, ![4096, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x2048, .bf16⟩
  | .hbm, ⟨2, _⟩ => ⟨S512x20736, .f32⟩
  | .hbm, ⟨3, _⟩ => ⟨S4096x2048, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x4096, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S512x2048, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel9.lean ====
abbrev S512x2048 : Shape := ⟨2, ![512, 2048]⟩
abbrev S8x64x2048 : Shape := ⟨3, ![8, 64, 2048]⟩
abbrev S2048x2048 : Shape := ⟨2, ![2048, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S512x2048, .bf16⟩
  | .hbm, ⟨1, _⟩ => ⟨S8x64x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S512x2048, .f32⟩
  | .hbm, ⟨7, _⟩ => ⟨S512x2048, .f32⟩
  | .local _ .vmem, ⟨0, _⟩ => ⟨S512x2048, .bf16⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference9Ideal.lean ====
abbrev S512x2048 : Shape := ⟨2, ![512, 2048]⟩
abbrev S8x64x2048 : Shape := ⟨3, ![8, 64, 2048]⟩
abbrev S2048x2048 : Shape := ⟨2, ![2048, 2048]⟩
abbrev S2048 : Shape := ⟨1, ![2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S8x64x2048, .f32⟩
  | .hbm, ⟨2, _⟩ => ⟨S2048x2048, .f32⟩
  | .hbm, ⟨3, _⟩ => ⟨S2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x2048, .f32⟩
  | .hbm, ⟨18, _⟩ => ⟨S512x2048, .f32⟩
  | .hbm, ⟨19, _⟩ => ⟨S1x2048, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.SsdBody.lean ====
/- The vector operations of one chunk of the scan, for a pair of heads, for a group's output and for a group's state, at
   any group; and what each is at an index. -/
module

public import proofs.«01_k».proof.Defs
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open scoped BigOperators

namespace Cert.Proof.Ssd

open Cert.KernelIdeal Cert.KernelIdeal.Gen

/-! ### Slices at an offset that depends on the group and the pair -/

theorem sl_pair (g p : ℕ) (h : g < 8 ∧ p < 4) : S64x4096.Slices ![0, 512 * g + 128 * p] S64x128 :=
  ⟨rfl, fun a => by match a with | ⟨0, _⟩ => exact le_refl 64 | ⟨1, _⟩ => show 512 * g + 128 * p + 128 ≤ 4096; omega⟩
theorem sl_row (g p : ℕ) (h : g < 8 ∧ p < 4) : S1x4096.Slices ![0, 512 * g + 128 * p] S1x128 :=
  ⟨rfl, fun a => by match a with | ⟨0, _⟩ => exact le_refl 1 | ⟨1, _⟩ => show 512 * g + 128 * p + 128 ≤ 4096; omega⟩
theorem sl_st (p : ℕ) (h : p < 4) : S64x512.Slices ![0, 128 * p] S64x128 :=
  ⟨rfl, fun a => by match a with | ⟨0, _⟩ => exact le_refl 64 | ⟨1, _⟩ => show 128 * p + 128 ≤ 512; omega⟩
theorem sl_c (g : ℕ) (h : g < 8) : S64x2048.Slices ![0, 1024 + 128 * g] S64x128 :=
  ⟨rfl, fun a => by match a with | ⟨0, _⟩ => exact le_refl 64 | ⟨1, _⟩ => show 1024 + 128 * g + 128 ≤ 2048; omega⟩
theorem sl_b (g : ℕ) (h : g < 8) : S64x2048.Slices ![0, 128 * g] S64x128 :=
  ⟨rfl, fun a => by match a with | ⟨0, _⟩ => exact le_refl 64 | ⟨1, _⟩ => show 128 * g + 128 ≤ 2048; omega⟩
theorem sl_g (g : ℕ) (h : g < 8) : S64x4096.Slices ![0, 512 * g] S64x512 :=
  ⟨rfl, fun a => by match a with | ⟨0, _⟩ => exact le_refl 64 | ⟨1, _⟩ => show 512 * g + 512 ≤ 4096; omega⟩
theorem sl_g1 (g : ℕ) (h : g < 8) : S1x4096.Slices ![0, 512 * g] S1x512 :=
  ⟨rfl, fun a => by match a with | ⟨0, _⟩ => exact le_refl 1 | ⟨1, _⟩ => show 512 * g + 512 ≤ 4096; omega⟩

/-! ### The vector operations -/

/-- The group's C and B rows, and their products twice side by side. -/
def cmV (bc : FVec Ideal S64x2048 .f32) (g : ℕ) (hg : g < 8) : FVec Ideal S64x128 .bf16 :=
  truncf .bf16 (extractStridedSlice S64x128 ![0, 1024 + 128 * g] bc (sl_c g hg)) bitsLt_bf16_f32
def bmV (bc : FVec Ideal S64x2048 .f32) (g : ℕ) (hg : g < 8) : FVec Ideal S64x128 .bf16 :=
  truncf .bf16 (extractStridedSlice S64x128 ![0, 128 * g] bc (sl_b g hg)) bitsLt_bf16_f32
def cbV (bc : FVec Ideal S64x2048 .f32) (g : ℕ) (hg : g < 8) : FVec Ideal S64x128 .f32 :=
  matmul dot_S64x128_S128x128_S64x128_1_1_0_0_n_n none (cmV bc g hg)
    (concatenate S128x128 0 [⟨S64x128, bmV bc g hg⟩, ⟨S64x128, bmV bc g hg⟩] concatenates_S64x128_S64x128_S128x128_d0)
    (constant S64x128 .f32 0x00000000#32)
/-- The carried state's contribution to a group's rows. -/
def ysV (bc : FVec Ideal S64x2048 .f32) (st : FVec Ideal S128x512 .f32) (g : ℕ) (hg : g < 8) : FVec Ideal S64x512 .f32 :=
  matmul dot_S64x128_S128x512_S64x512_1_0_0_1_n_n none (cmV bc g hg) (truncf .bf16 st bitsLt_bf16_f32)
    (constant S64x512 .f32 0x00000000#32)

/-- The decay from each earlier row, cut to the causal half. -/
def decV (SE : FVec Ideal S64x4096 .f32) (sr : FVec Ideal S1x128 .f32) (g p : ℕ) (h : g < 8 ∧ p < 4) : FVec Ideal S64x128 .f32 :=
  exp (select (k0_pay41 (iota .tc S64x128 32 [0] iota_S64x128_d0_w32))
    (subf (extractStridedSlice S64x128 ![0, 512 * g + 128 * p] SE (sl_pair g p h)) (broadcastTo S64x128 sr broadcasts_S1x128_S64x128))
    (broadcast S64x128 (Scalar.ofBits .f32 0xFF800000#32)))
/-- The pair's inputs, one head over the other, each in its own half of the columns. -/
def rhsV (X : FVec Ideal S64x4096 .f32) (g p : ℕ) (h : g < 8 ∧ p < 4) : FVec Ideal S128x128 .f32 :=
  concatenate S128x128 0
    [⟨S64x128, select k0_pay42 (extractStridedSlice S64x128 ![0, 512 * g + 128 * p] X (sl_pair g p h))
        (broadcast S64x128 (Scalar.ofBits .f32 0x00000000#32))⟩,
     ⟨S64x128, select k0_pay42 (broadcast S64x128 (Scalar.ofBits .f32 0x00000000#32))
        (extractStridedSlice S64x128 ![0, 512 * g + 128 * p] X (sl_pair g p h))⟩] concatenates_S64x128_S64x128_S128x128_d0
/-- A pair of heads' output rows. -/
def pairV (X SE EE : FVec Ideal S64x4096 .f32) (dsk : FVec Ideal S1x4096 .f32) (cb : FVec Ideal S64x128 .f32) (ys : FVec Ideal S64x512 .f32)
    (sr dr : FVec Ideal S1x128 .f32) (g p : ℕ) (h : g < 8 ∧ p < 4) : FVec Ideal S64x128 .f32 :=
  addf (addf
      (matmul dot_S64x128_S128x128_S64x128_1_0_0_1_n_n none
        (truncf .bf16 (mulf (mulf cb (decV SE sr g p h)) (broadcastTo S64x128 dr broadcasts_S1x128_S64x128)) bitsLt_bf16_f32)
        (truncf .bf16 (rhsV X g p h) bitsLt_bf16_f32) (constant S64x128 .f32 0x00000000#32))
      (mulf (extractStridedSlice S64x128 ![0, 128 * p] ys (sl_st p h.2)) (extractStridedSlice S64x128 ![0, 512 * g + 128 * p] EE (sl_pair g p h))))
    (mulf (broadcastTo S64x128 (extractStridedSlice S1x128 ![0, 512 * g + 128 * p] dsk (sl_row g p h)) broadcasts_S1x128_S64x128)
      (extractStridedSlice S64x128 ![0, 512 * g + 128 * p] X (sl_pair g p h)))

/-- The group's four pairs times the gate. -/
def gateV (y0 y1 y2 y3 : FVec Ideal S64x128 .f32) (z : FVec Ideal S1x64x4096 .f32) (g : ℕ) (hg : g < 8) : FVec Ideal S64x512 .f32 :=
  mulf (concatenate S64x512 1 [⟨S64x128, y0⟩, ⟨S64x128, y1⟩, ⟨S64x128, y2⟩, ⟨S64x128, y3⟩]
      concatenates_S64x128_S64x128_S64x128_S64x128_S64x512_d1)
    (mulf (extractStridedSlice S64x512 ![0, 512 * g] (k0_pay157 z) (sl_g g hg))
      (divf (broadcast S64x512 (Scalar.ofBits .f32 0x3F800000#32))
        (addf (broadcast S64x512 (Scalar.ofBits .f32 0x3F800000#32))
          (exp (subf (broadcast S64x512 (Scalar.ofBits .f32 0x00000000#32)) (extractStridedSlice S64x512 ![0, 512 * g] (k0_pay157 z) (sl_g g hg)))))))
/-- The gated rows normalized over the group's channels and scaled. -/
def normV (y : FVec Ideal S64x512 .f32) (gain : FVec Ideal S1x512 .f32) : FVec Ideal S1x64x512 .bf16 :=
  shapeCast S1x64x512 (truncf .bf16 (mulf (mulf y (broadcastTo S64x512 (rsqrt (addf
    (divf (shapeCast S64x1 (multiReduction .add [1] S64 (mulf y y) 0x00000000#32 reduces_S64x512_S64 (.inl rfl) rfl) shapeCasts_S64_S64x1)
      (broadcast S64x1 (Scalar.ofBits .f32 0x44000000#32))) (broadcast S64x1 (Scalar.ofBits .f32 0x3727C5AC#32)))) broadcasts_S64x1_S64x512))
    (broadcastTo S64x512 (shapeCast S1x512 gain shapeCasts_S1x512_S1x512) broadcasts_S1x512_S64x512)) bitsLt_bf16_f32) shapeCasts_S64x512_S1x64x512

/-- A group's output block. -/
def outV (X SE EE : FVec Ideal S64x4096 .f32) (bc : FVec Ideal S64x2048 .f32) (dsk : FVec Ideal S1x4096 .f32) (st : FVec Ideal S128x512 .f32)
    (z : FVec Ideal S1x64x4096 .f32) (gain : FVec Ideal S1x512 .f32) (s0 d0 s1 d1 s2 d2 s3 d3 : FVec Ideal S1x128 .f32)
    (g : ℕ) (hg : g < 8) : FVec Ideal S1x64x512 .bf16 :=
  normV (gateV (pairV X SE EE dsk (cbV bc g hg) (ysV bc st g hg) s0 d0 g 0 ⟨hg, by decide⟩)
    (pairV X SE EE dsk (cbV bc g hg) (ysV bc st g hg) s1 d1 g 1 ⟨hg, by decide⟩)
    (pairV X SE EE dsk (cbV bc g hg) (ysV bc st g hg) s2 d2 g 2 ⟨hg, by decide⟩)
    (pairV X SE EE dsk (cbV bc g hg) (ysV bc st g hg) s3 d3 g 3 ⟨hg, by decide⟩) z g hg) gain

/-- A group's new state, heads' channels along the columns. -/
def newV (es : FVec Ideal S1x4096 .f32) (XE : FVec Ideal S64x4096 .f32) (bc : FVec Ideal S64x2048 .f32) (st : FVec Ideal S128x512 .f32)
    (g : ℕ) (hg : g < 8) : FVec Ideal S128x512 .f32 :=
  shapeCast S128x512 (addf (mulf st (broadcastTo S128x512 (extractStridedSlice S1x512 ![0, 512 * g] es (sl_g1 g hg)) broadcasts_S1x512_S128x512))
    (matmul dot_S64x128_S64x512_S128x512_0_0_1_1_n_n none (bmV bc g hg)
      (truncf .bf16 (extractStridedSlice S64x512 ![0, 512 * g] XE (sl_g g hg)) bitsLt_bf16_f32) (constant S128x512 .f32 0x00000000#32))) shapeCasts_S128x512_S128x512

/-! ### The operations at an index -/

theorem cmV_apply (bc : FVec Ideal S64x2048 .f32) (g : ℕ) (hg : g < 8) (t : Fin 64) (n : Fin 128) :
    cmV bc g hg (ix2 t n) = bc (ix2 t ⟨1024 + 128 * g + n.val, by have := n.isLt; omega⟩) := by
  pointwise [cmV]
theorem bmV_apply (bc : FVec Ideal S64x2048 .f32) (g : ℕ) (hg : g < 8) (t : Fin 64) (n : Fin 128) :
    bmV bc g hg (ix2 t n) = bc (ix2 t ⟨128 * g + n.val, by have := n.isLt; omega⟩) := by
  pointwise [bmV]
theorem cbV_apply (bc : FVec Ideal S64x2048 .f32) (g : ℕ) (hg : g < 8) (t : Fin 64) (k : Fin 128) :
    cbV bc g hg (ix2 t k) = ∑ n : Fin 128, bc (ix2 t ⟨1024 + 128 * g + n.val, by have := n.isLt; omega⟩)
      * bc (ix2 ⟨k.val % 64, by omega⟩ ⟨128 * g + n.val, by have := n.isLt; omega⟩) := by
  pointwise [cbV, cmV, bmV]
  refine Finset.sum_congr rfl fun n _ => ?_
  by_cases hk : k.val < 64
  · rw [dif_pos hk]; simp only [Nat.mod_eq_of_lt hk]
  · have e : k.val % 64 = k.val - 64 := by have := k.isLt; omega
    rw [dif_neg hk]; simp only [e]
theorem ysV_apply (bc : FVec Ideal S64x2048 .f32) (st : FVec Ideal S128x512 .f32) (g : ℕ) (hg : g < 8) (t : Fin 64) (j : Fin 512) :
    ysV bc st g hg (ix2 t j) = ∑ n : Fin 128, bc (ix2 t ⟨1024 + 128 * g + n.val, by have := n.isLt; omega⟩) * st (ix2 n j) := by
  pointwise [ysV, cmV]
/-- The left half of the columns, as the vector's test says it. -/
theorem left_iff (j : Fin 128) : IntOp.cmpi CmpIPredicate.slt (BitVec.ofNat 32 j.val) 64#32 = if j.val < 64 then 1#1 else 0#1 := by
  revert j; decide +kernel
theorem sel_ite (P : Prop) [Decidable P] (a b : EReal) :
    Scalar.select (if P then 1#1 else 0#1) a b = if P then a else b := by
  by_cases h : P
  · rw [if_pos h, if_pos h]; rfl
  · rw [if_neg h, if_neg h]; rfl
theorem rhsV_apply (X : FVec Ideal S64x4096 .f32) (g p : ℕ) (h : g < 8 ∧ p < 4) (k j : Fin 128) :
    rhsV X g p h (ix2 k j) = if k.val < 64 then (if j.val < 64 then X (ix2 ⟨k.val % 64, by omega⟩ ⟨512 * g + 128 * p + j.val, by have := j.isLt; omega⟩) else 0)
      else (if j.val < 64 then 0 else X (ix2 ⟨k.val % 64, by omega⟩ ⟨512 * g + 128 * p + j.val, by have := j.isLt; omega⟩)) := by
  pointwise [rhsV, k0_pay42]
  rw [left_iff]
  simp only [sel_ite]
  by_cases hk : k.val < 64
  · rw [dif_pos hk, if_pos hk]; simp only [Nat.mod_eq_of_lt hk]
  · have e : k.val % 64 = k.val - 64 := by have := k.isLt; omega
    rw [dif_neg hk, if_neg hk]; simp only [e]
/-- The position of a column within its head, as the vector's remainder computes it. -/
theorem pos_eq (k : Fin 128) :
    Scalar.select (IntOp.andi (IntOp.xori (IntOp.cmpi CmpIPredicate.slt (IntOp.remsi ArithUnit.vector (BitVec.ofNat 32 k.val)
          (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 k.val)
          (Scalar.select (Scalar.cmpi CmpIPredicate.eq 64#32 0#32) 1#32 64#32)) 0#32))
      (IntOp.addi (IntOp.remsi ArithUnit.vector (BitVec.ofNat 32 k.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 k.val) (Scalar.select (Scalar.cmpi CmpIPredicate.eq 64#32 0#32) 1#32 64#32))
    = BitVec.ofNat 32 (k.val % 64) := by
  revert k; decide +kernel
theorem le_iff (a t : Fin 64) : IntOp.cmpi CmpIPredicate.sle (BitVec.ofNat 32 a.val) (BitVec.ofNat 32 t.val) = if a.val ≤ t.val then 1#1 else 0#1 := by
  revert a t; decide +kernel
theorem decV_apply (SE : FVec Ideal S64x4096 .f32) (sr : FVec Ideal S1x128 .f32) (g p : ℕ) (h : g < 8 ∧ p < 4) (t : Fin 64) (k : Fin 128) :
    decV SE sr g p h (ix2 t k) = Ideal.exp (if k.val % 64 ≤ t.val then SE (ix2 t ⟨512 * g + 128 * p + k.val, by have := k.isLt; omega⟩) - sr (ix2 0 k)
      else Ideal.ofBits .f32 0xFF800000#32) := by
  pointwise [decV, k0_pay41]
  rw [pos_eq, le_iff ⟨k.val % 64, by omega⟩ t, sel_ite]
theorem newV_apply (es : FVec Ideal S1x4096 .f32) (XE : FVec Ideal S64x4096 .f32) (bc : FVec Ideal S64x2048 .f32) (st : FVec Ideal S128x512 .f32)
    (g : ℕ) (hg : g < 8) (n : Fin 128) (j : Fin 512) :
    newV es XE bc st g hg (ix2 n j) = st (ix2 n j) * es (ix2 0 ⟨512 * g + j.val, by have := j.isLt; omega⟩)
      + ∑ t : Fin 64, bc (ix2 t ⟨128 * g + n.val, by have := n.isLt; omega⟩) * XE (ix2 t ⟨512 * g + j.val, by have := j.isLt; omega⟩) := by
  pointwise [newV, bmV]
theorem pairV_apply (X SE EE : FVec Ideal S64x4096 .f32) (dsk : FVec Ideal S1x4096 .f32) (cb : FVec Ideal S64x128 .f32) (ys : FVec Ideal S64x512 .f32)
    (sr dr : FVec Ideal S1x128 .f32) (g p : ℕ) (h : g < 8 ∧ p < 4) (t : Fin 64) (j : Fin 128) :
    pairV X SE EE dsk cb ys sr dr g p h (ix2 t j) = (∑ k : Fin 128, cb (ix2 t k) * decV SE sr g p h (ix2 t k) * dr (ix2 0 k) * rhsV X g p h (ix2 k j))
      + ys (ix2 t ⟨128 * p + j.val, by have := j.isLt; omega⟩) * EE (ix2 t ⟨512 * g + 128 * p + j.val, by have := j.isLt; omega⟩)
      + dsk (ix2 0 ⟨512 * g + 128 * p + j.val, by have := j.isLt; omega⟩) * X (ix2 t ⟨512 * g + 128 * p + j.val, by have := j.isLt; omega⟩) := by
  pointwise [pairV]
theorem normV_apply (y : FVec Ideal S64x512 .f32) (gain : FVec Ideal S1x512 .f32) (t : Fin 64) (j : Fin 512) :
    normV y gain (ix3 0 t j) = y (ix2 t j) * Ideal.rsqrt (Ideal.div (∑ k : Fin 512, y (ix2 t k) * y (ix2 t k)) (Ideal.ofBits .f32 0x44000000#32)
      + Ideal.ofBits .f32 0x3727C5AC#32) * gain (ix2 0 j) := by
  pointwise [normV]

end Cert.Proof.Ssd

end
-- ==== Proof.SsdRun.lean ====
/- What one run of the scan's body leaves: its buffers read back, and its two outputs as the vector operations of a group. -/
module

public import proofs.«01_k».proof.Proof.SsdBody
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem
open scoped BigOperators

namespace Cert.Proof.Ssd

open Cert.KernelIdeal Cert.KernelIdeal.Gen

/-! ### The row buffers, read from a row on -/

/-- Rows `o` on of the three carried rows followed by the chunk's. -/
def xrow (x0 : FVec Ideal S1x64x4096 .f32) (x14 : FVec Ideal S1x3x4096 .f32) (o : ℕ) (ho : o ≤ 3) (t : Fin 64) (l : Fin 4096) : EReal :=
  if h : t.val + o < 3 then x14 (ix3 0 ⟨t.val + o, h⟩ l) else x0 (ix3 0 ⟨t.val + o - 3, by have := t.isLt; omega⟩ l)
def brow (x2 : FVec Ideal S1x64x2048 .f32) (x15 : FVec Ideal S1x3x2048 .f32) (o : ℕ) (ho : o ≤ 3) (t : Fin 64) (l : Fin 2048) : EReal :=
  if h : t.val + o < 3 then x15 (ix3 0 ⟨t.val + o, h⟩ l) else x2 (ix3 0 ⟨t.val + o - 3, by have := t.isLt; omega⟩ l)

def siluE (a : EReal) : EReal := a * Ideal.div 1 (1 + Ideal.exp (-a))

/-- The chunk's inputs after the convolution and the gate. -/
def xcE (x0 : FVec Ideal S1x64x4096 .f32) (x4 : FVec Ideal S4x4096 .f32) (x5 : FVec Ideal S1x4096 .f32) (x14 : FVec Ideal S1x3x4096 .f32)
    (t : Fin 64) (l : Fin 4096) : EReal :=
  siluE (x5 (ix2 0 l) + xrow x0 x14 0 (by decide) t l * x4 (ix2 0 l) + xrow x0 x14 1 (by decide) t l * x4 (ix2 1 l)
    + xrow x0 x14 2 (by decide) t l * x4 (ix2 2 l) + xrow x0 x14 3 (by decide) t l * x4 (ix2 3 l))
def bcE (x2 : FVec Ideal S1x64x2048 .f32) (x6 : FVec Ideal S4x2048 .f32) (x7 : FVec Ideal S1x2048 .f32) (x15 : FVec Ideal S1x3x2048 .f32)
    (t : Fin 64) (l : Fin 2048) : EReal :=
  siluE (x7 (ix2 0 l) + brow x2 x15 0 (by decide) t l * x6 (ix2 0 l) + brow x2 x15 1 (by decide) t l * x6 (ix2 1 l)
    + brow x2 x15 2 (by decide) t l * x6 (ix2 2 l) + brow x2 x15 3 (by decide) t l * x6 (ix2 3 l))

/-- A row's step size of a slot; the slot's decays up to the row; both spread over the slot's channels. -/
def dtE (x3 : FVec Ideal S1x64x256 .f32) (x8 : FVec Ideal S1x64 .f32) (t q : Fin 64) : EReal :=
  let a := x3 (ix3 0 t ⟨q.val, by have := q.isLt; omega⟩) + x8 (ix2 0 q)
  max a 0 + Ideal.log (1 + Ideal.exp (-FloatOps.absf (F := Ideal) (φ := .f32) a))
def ksE (x3 : FVec Ideal S1x64x256 .f32) (x8 x9 : FVec Ideal S1x64 .f32) (x13 : FVec Ideal S64x64 .f32) (t q : Fin 64) : EReal :=
  ∑ j : Fin 64, x13 (ix2 t j) * (dtE x3 x8 j q * -Ideal.exp (x9 (ix2 0 q)))
def seE (x3 : FVec Ideal S1x64x256 .f32) (x8 x9 : FVec Ideal S1x64 .f32) (x12 : FVec Ideal S64x4096 .f32) (x13 : FVec Ideal S64x64 .f32)
    (t : Fin 64) (l : Fin 4096) : EReal :=
  ∑ q : Fin 64, ksE x3 x8 x9 x13 t q * x12 (ix2 q l)
def dlE (x3 : FVec Ideal S1x64x256 .f32) (x8 : FVec Ideal S1x64 .f32) (x12 : FVec Ideal S64x4096 .f32) (t : Fin 64) (l : Fin 4096) : EReal :=
  ∑ q : Fin 64, dtE x3 x8 t q * x12 (ix2 q l)

/-- The same as vectors. -/
def xcV (x0 : FVec Ideal S1x64x4096 .f32) (x4 : FVec Ideal S4x4096 .f32) (x5 : FVec Ideal S1x4096 .f32) (x14 : FVec Ideal S1x3x4096 .f32) :
    FVec Ideal S64x4096 .f32 := fun i => xcE x0 x4 x5 x14 (i 0) (i 1)
def bcV (x2 : FVec Ideal S1x64x2048 .f32) (x6 : FVec Ideal S4x2048 .f32) (x7 : FVec Ideal S1x2048 .f32) (x15 : FVec Ideal S1x3x2048 .f32) :
    FVec Ideal S64x2048 .f32 := fun i => bcE x2 x6 x7 x15 (i 0) (i 1)
def seV (x3 : FVec Ideal S1x64x256 .f32) (x8 x9 : FVec Ideal S1x64 .f32) (x12 : FVec Ideal S64x4096 .f32) (x13 : FVec Ideal S64x64 .f32) :
    FVec Ideal S64x4096 .f32 := fun i => seE x3 x8 x9 x12 x13 (i 0) (i 1)
def eeV (x3 : FVec Ideal S1x64x256 .f32) (x8 x9 : FVec Ideal S1x64 .f32) (x12 : FVec Ideal S64x4096 .f32) (x13 : FVec Ideal S64x64 .f32) :
    FVec Ideal S64x4096 .f32 := fun i => Ideal.exp (seE x3 x8 x9 x12 x13 (i 0) (i 1))
def esV (x3 : FVec Ideal S1x64x256 .f32) (x8 x9 : FVec Ideal S1x64 .f32) (x12 : FVec Ideal S64x4096 .f32) (x13 : FVec Ideal S64x64 .f32) :
    FVec Ideal S1x4096 .f32 := fun i => Ideal.exp (seE x3 x8 x9 x12 x13 63 (i 1))
def xeV (x0 : FVec Ideal S1x64x4096 .f32) (x3 : FVec Ideal S1x64x256 .f32) (x4 : FVec Ideal S4x4096 .f32) (x5 : FVec Ideal S1x4096 .f32)
    (x8 x9 : FVec Ideal S1x64 .f32) (x12 : FVec Ideal S64x4096 .f32) (x13 : FVec Ideal S64x64 .f32) (x14 : FVec Ideal S1x3x4096 .f32) :
    FVec Ideal S64x4096 .f32 := fun i => xcE x0 x4 x5 x14 (i 0) (i 1) * dlE x3 x8 x12 (i 0) (i 1)
      * Ideal.exp (seE x3 x8 x9 x12 x13 63 (i 1) - seE x3 x8 x9 x12 x13 (i 0) (i 1))

theorem read_x (v : View sig .tc .vmem S72x4096 .f32) (P : FVec Ideal S64x4096 .f32) (Q : FVec Ideal S3x4096 .f32) (i1 i2) (o : ℕ) (ho : o ≤ 3) (i3) :
    v.readCov (Val := Elt Ideal) [⟨Rect.unit ![8, 0] S64x4096.size i1, P⟩, ⟨Rect.unit ![5, 0] S3x4096.size i2, Q⟩]
        (Rect.unit (s := S72x4096) ![5 + o, 0] S64x4096.size i3).toLoadRect
      = fun i : S64x4096.Idx => if h : (i 0).val + o < 3 then Q (ix2 ⟨(i 0).val + o, h⟩ (i 1))
          else P (ix2 ⟨(i 0).val + o - 3, by have : (i 0).val < 64 := (i 0).isLt; omega⟩ (i 1)) := by
  rw [View.readCov_eq_canon']
  funext i
  have hi0 : (i 0).val < 64 := (i 0).isLt
  have hi1 : (i 1).val < 4096 := (i 1).isLt
  by_cases h : (i 0).val + o < 3
  · rw [View.canon_cons_of_not_mem _ _ (by
      rw [Rect.mem_set_unit]; intro hc
      have := (hc 0).1
      have e : ((Rect.unit (s := S72x4096) ![5 + o, 0] S64x4096.size i3).toLoadRect.idx i 0).val = 5 + o + 1 * (i 0).val := rfl
      have : 8 ≤ ((Rect.unit (s := S72x4096) ![5 + o, 0] S64x4096.size i3).toLoadRect.idx i 0).val := this
      omega)]
    rw [dif_pos h]
    have e : (Rect.unit (s := S72x4096) ![5 + o, 0] S64x4096.size i3).toLoadRect.idx i
        = (Rect.unit (s := S72x4096) ![5, 0] S3x4096.size i2).emb (ix2 ⟨(i 0).val + o, h⟩ (i 1)) := by
      funext a; apply Fin.ext
      match a with
      | ⟨0, _⟩ => show 5 + o + 1 * (i 0).val = 5 + 1 * ((i 0).val + o); omega
      | ⟨1, _⟩ => rfl
    rw [e]; exact View.canon_cons_emb _ _ _ _
  · rw [dif_neg h]
    have e : (Rect.unit (s := S72x4096) ![5 + o, 0] S64x4096.size i3).toLoadRect.idx i
        = (Rect.unit (s := S72x4096) ![8, 0] S64x4096.size i1).emb (ix2 ⟨(i 0).val + o - 3, by omega⟩ (i 1)) := by
      funext a; apply Fin.ext
      match a with
      | ⟨0, _⟩ => show 5 + o + 1 * (i 0).val = 8 + 1 * ((i 0).val + o - 3); omega
      | ⟨1, _⟩ => rfl
    rw [e]; exact View.canon_cons_emb _ _ _ _

theorem read_b (v : View sig .tc .vmem S72x2048 .f32) (P : FVec Ideal S64x2048 .f32) (Q : FVec Ideal S3x2048 .f32) (i1 i2) (o : ℕ) (ho : o ≤ 3) (i3) :
    v.readCov (Val := Elt Ideal) [⟨Rect.unit ![8, 0] S64x2048.size i1, P⟩, ⟨Rect.unit ![5, 0] S3x2048.size i2, Q⟩]
        (Rect.unit (s := S72x2048) ![5 + o, 0] S64x2048.size i3).toLoadRect
      = fun i : S64x2048.Idx => if h : (i 0).val + o < 3 then Q (ix2 ⟨(i 0).val + o, h⟩ (i 1))
          else P (ix2 ⟨(i 0).val + o - 3, by have : (i 0).val < 64 := (i 0).isLt; omega⟩ (i 1)) := by
  rw [View.readCov_eq_canon']
  funext i
  have hi0 : (i 0).val < 64 := (i 0).isLt
  by_cases h : (i 0).val + o < 3
  · rw [View.canon_cons_of_not_mem _ _ (by
      rw [Rect.mem_set_unit]; intro hc
      have := (hc 0).1
      have e : ((Rect.unit (s := S72x2048) ![5 + o, 0] S64x2048.size i3).toLoadRect.idx i 0).val = 5 + o + 1 * (i 0).val := rfl
      have : 8 ≤ ((Rect.unit (s := S72x2048) ![5 + o, 0] S64x2048.size i3).toLoadRect.idx i 0).val := this
      omega)]
    rw [dif_pos h]
    have e : (Rect.unit (s := S72x2048) ![5 + o, 0] S64x2048.size i3).toLoadRect.idx i
        = (Rect.unit (s := S72x2048) ![5, 0] S3x2048.size i2).emb (ix2 ⟨(i 0).val + o, h⟩ (i 1)) := by
      funext a; apply Fin.ext
      match a with
      | ⟨0, _⟩ => show 5 + o + 1 * (i 0).val = 5 + 1 * ((i 0).val + o); omega
      | ⟨1, _⟩ => rfl
    rw [e]; exact View.canon_cons_emb _ _ _ _
  · rw [dif_neg h]
    have e : (Rect.unit (s := S72x2048) ![5 + o, 0] S64x2048.size i3).toLoadRect.idx i
        = (Rect.unit (s := S72x2048) ![8, 0] S64x2048.size i1).emb (ix2 ⟨(i 0).val + o - 3, by omega⟩ (i 1)) := by
      funext a; apply Fin.ext
      match a with
      | ⟨0, _⟩ => show 5 + o + 1 * (i 0).val = 8 + 1 * ((i 0).val + o - 3); omega
      | ⟨1, _⟩ => rfl
    rw [e]; exact View.canon_cons_emb _ _ _ _

/-! ### The run's shared vectors -/

section Atoms

variable (c : Dev nD) (arg2 : Memref sig .tc .vmem S1x64x4096 .f32) (harg2 : arg2.IsWhole) (arg3 : Memref sig .tc .vmem S1x64x4096 .f32) (harg3 : arg3.IsWhole)
  (arg4 : Memref sig .tc .vmem S1x64x2048 .f32) (harg4 : arg4.IsWhole) (arg5 : Memref sig .tc .vmem S1x64x256 .f32) (harg5 : arg5.IsWhole)
  (arg6 : Memref sig .tc .vmem S4x4096 .f32) (harg6 : arg6.IsWhole) (arg7 : Memref sig .tc .vmem S1x4096 .f32) (harg7 : arg7.IsWhole)
  (arg8 : Memref sig .tc .vmem S4x2048 .f32) (harg8 : arg8.IsWhole) (arg9 : Memref sig .tc .vmem S1x2048 .f32) (harg9 : arg9.IsWhole)
  (arg10 : Memref sig .tc .vmem S1x64 .f32) (harg10 : arg10.IsWhole) (arg11 : Memref sig .tc .vmem S1x64 .f32) (harg11 : arg11.IsWhole)
  (arg12 : Memref sig .tc .vmem S1x4096 .f32) (harg12 : arg12.IsWhole) (arg13 : Memref sig .tc .vmem S1x4096 .f32) (harg13 : arg13.IsWhole)
  (arg14 : Memref sig .tc .vmem S64x4096 .f32) (harg14 : arg14.IsWhole) (arg15 : Memref sig .tc .vmem S64x64 .f32) (harg15 : arg15.IsWhole)
  (arg16 : Memref sig .tc .vmem S1x3x4096 .f32) (harg16 : arg16.IsWhole) (arg17 : Memref sig .tc .vmem S1x3x2048 .f32) (harg17 : arg17.IsWhole)
  (arg18 : Memref sig .tc .vmem S1x4096x128 .f32) (harg18 : arg18.IsWhole)
  (arg21 : Memref sig .tc .vmem S72x4096 .f32) (arg22 : Memref sig .tc .vmem S72x2048 .f32) (arg23 : Memref sig .tc .vmem S128x4096 .f32)
  (arg24 arg25 : Memref sig .tc .vmem S32x128 .f32)
  (x0 x1 : FVec Ideal S1x64x4096 .f32) (x2 : FVec Ideal S1x64x2048 .f32) (x3 : FVec Ideal S1x64x256 .f32) (x4 : FVec Ideal S4x4096 .f32)
  (x5 : FVec Ideal S1x4096 .f32) (x6 : FVec Ideal S4x2048 .f32) (x7 : FVec Ideal S1x2048 .f32) (x8 x9 : FVec Ideal S1x64 .f32)
  (x10 x11 : FVec Ideal S1x4096 .f32) (x12 : FVec Ideal S64x4096 .f32) (x13 : FVec Ideal S64x64 .f32) (x14 : FVec Ideal S1x3x4096 .f32)
  (x15 : FVec Ideal S1x3x2048 .f32) (x16 : FVec Ideal S1x4096x128 .f32)

theorem x_eq : kernelRun0_A.sl.r_1 (F := Ideal) c arg2 harg2 arg6 harg6 arg7 harg7 arg16 harg16 arg21 x0 x4 x5 x14
    = xcV x0 x4 x5 x14 := by
  unfold kernelRun0_A.sl.r_1 kernelRun0_A.sl.r kernelRun0_A.sl.v15 kernelRun0_A.sl.v22 kernelRun0_A.sl.v28 kernelRun0_A.sl.v34 kernelRun0_A.sl.HS0_2
    kernelRun0_A.sl.v1456 kernelRun0_A.sl.v1453
  simp only [View.readAt_eq_ld, harg2.read_unread, harg6.read_unread, harg7.read_unread, harg16.read_unread]
  rw [read_x _ _ _ _ _ 0 (by decide), read_x _ _ _ _ _ 1 (by decide), read_x _ _ _ _ _ 2 (by decide), read_x _ _ _ _ _ 3 (by decide)]
  funext i
  obtain ⟨t, l, rfl⟩ : ∃ (t : Fin 64) (l : Fin 4096), i = ix2 t l := ⟨i 0, i 1, eq_ix2 i⟩
  show _ = xcE x0 x4 x5 x14 t l
  unfold xcE siluE xrow
  pointwise [k0_pay24, k0_pay23, sub_eq_add_neg, k0_pay21]

theorem bc_eq : kernelRun0_A.sl.r_4 (F := Ideal) c arg4 harg4 arg8 harg8 arg9 harg9 arg17 harg17 arg22 x2 x6 x7 x15
    = bcV x2 x6 x7 x15 := by
  unfold kernelRun0_A.sl.r_4 kernelRun0_A.sl.r_2 kernelRun0_A.sl.r_3 kernelRun0_A.sl.v50 kernelRun0_A.sl.v57 kernelRun0_A.sl.v63 kernelRun0_A.sl.v69 kernelRun0_A.sl.HS1_2
    kernelRun0_A.sl.v1461 kernelRun0_A.sl.v1458
  simp only [View.readAt_eq_ld, harg4.read_unread, harg8.read_unread, harg9.read_unread, harg17.read_unread]
  rw [read_b _ _ _ _ _ 0 (by decide), read_b _ _ _ _ _ 1 (by decide), read_b _ _ _ _ _ 2 (by decide), read_b _ _ _ _ _ 3 (by decide)]
  funext i
  obtain ⟨t, l, rfl⟩ : ∃ (t : Fin 64) (l : Fin 2048), i = ix2 t l := ⟨i 0, i 1, eq_ix2 i⟩
  show _ = bcE x2 x6 x7 x15 t l
  unfold bcE siluE brow
  pointwise [k0_pay27, k0_pay26, k0_pay25, sub_eq_add_neg, k0_pay22]

theorem se_eq : kernelRun0_A.sl.r_7 (F := Ideal) c arg5 harg5 arg10 harg10 arg11 harg11 arg14 harg14 arg15 harg15 x3 x8 x9 x12 x13
    = seV x3 x8 x9 x12 x13 := by
  unfold kernelRun0_A.sl.r_7 kernelRun0_A.sl.r_5 kernelRun0_A.sl.r_6 kernelRun0_A.sl.cst_58
  simp only [View.readAt_eq_ld, harg5.read_unread, harg10.read_unread, harg11.read_unread, harg14.read_unread, harg15.read_unread]
  funext i
  obtain ⟨t, l, rfl⟩ : ∃ (t : Fin 64) (l : Fin 4096), i = ix2 t l := ⟨i 0, i 1, eq_ix2 i⟩
  show _ = seE x3 x8 x9 x12 x13 t l
  unfold seE ksE dtE
  pointwise [k0_pay35, k0_pay34, k0_pay33, k0_pay32, k0_pay31, k0_pay30, sub_eq_add_neg]

theorem ee_eq : kernelRun0_A.sl.r_8 (F := Ideal) c arg5 harg5 arg10 harg10 arg11 harg11 arg14 harg14 arg15 harg15 x3 x8 x9 x12 x13
    = eeV x3 x8 x9 x12 x13 := by
  rw [show kernelRun0_A.sl.r_8 (F := Ideal) c arg5 harg5 arg10 harg10 arg11 harg11 arg14 harg14 arg15 harg15 x3 x8 x9 x12 x13
    = exp (kernelRun0_A.sl.r_7 (F := Ideal) c arg5 harg5 arg10 harg10 arg11 harg11 arg14 harg14 arg15 harg15 x3 x8 x9 x12 x13) from rfl, se_eq]
  rfl

theorem es_eq : kernelRun0_A.sl.r_9 (F := Ideal) c arg5 harg5 arg10 harg10 arg11 harg11 arg14 harg14 arg15 harg15 x3 x8 x9 x12 x13
    = esV x3 x8 x9 x12 x13 := by
  rw [show kernelRun0_A.sl.r_9 (F := Ideal) c arg5 harg5 arg10 harg10 arg11 harg11 arg14 harg14 arg15 harg15 x3 x8 x9 x12 x13
    = extractStridedSlice S1x4096 ![63, 0] (kernelRun0_A.sl.r_8 (F := Ideal) c arg5 harg5 arg10 harg10 arg11 harg11 arg14 harg14 arg15 harg15 x3 x8 x9 x12 x13)
      slices_S64x4096_o63_0_S1x4096 from rfl, ee_eq]
  funext i
  obtain ⟨t, l, rfl⟩ : ∃ (t : Fin 1) (l : Fin 4096), i = ix2 t l := ⟨i 0, i 1, eq_ix2 i⟩
  obtain rfl : t = 0 := Subsingleton.elim _ _
  pointwise [eeV, esV]

theorem xe_eq : kernelRun0_A.sl.r_10 (F := Ideal) c arg2 harg2 arg5 harg5 arg6 harg6 arg7 harg7 arg10 harg10 arg11 harg11 arg14 harg14 arg15 harg15 arg16 harg16 arg21 x0 x3 x4 x5 x8 x9 x12 x13 x14
    = xeV x0 x3 x4 x5 x8 x9 x12 x13 x14 := by
  rw [show kernelRun0_A.sl.r_10 (F := Ideal) c arg2 harg2 arg5 harg5 arg6 harg6 arg7 harg7 arg10 harg10 arg11 harg11 arg14 harg14 arg15 harg15 arg16 harg16 arg21 x0 x3 x4 x5 x8 x9 x12 x13 x14
    = mulf (mulf (kernelRun0_A.sl.r_1 (F := Ideal) c arg2 harg2 arg6 harg6 arg7 harg7 arg16 harg16 arg21 x0 x4 x5 x14)
        (matmul dot_S64x64_S64x4096_S64x4096_1_0_0_1_n_n (some .fp32) (k0_pay33 (kernelRun0_A.sl.r_5 (F := Ideal) c arg5 harg5 arg10 harg10 x3 x8)
          (kernelRun0_A.sl.r_6 (F := Ideal) c arg5 harg5 arg10 harg10 x3 x8) (kernelRun0_A.sl.cst_58 (F := Ideal)))
          (shapeCast S64x4096 (View.readAt (Elt Ideal) arg14.view (Rect.unit (s := S64x4096) ![0, 0] S64x4096.size inb_S64x4096_S64x4096_0_0).toLoadRect (harg14.unread x12)) shapeCasts_S64x4096_S64x4096)
          (constant S64x4096 .f32 0x00000000#32)))
      (exp (subf (broadcastTo S64x4096 (extractStridedSlice S1x4096 ![63, 0] (kernelRun0_A.sl.r_7 (F := Ideal) c arg5 harg5 arg10 harg10 arg11 harg11 arg14 harg14 arg15 harg15 x3 x8 x9 x12 x13)
          slices_S64x4096_o63_0_S1x4096) broadcasts_S1x4096_S64x4096)
        (kernelRun0_A.sl.r_7 (F := Ideal) c arg5 harg5 arg10 harg10 arg11 harg11 arg14 harg14 arg15 harg15 x3 x8 x9 x12 x13))) from rfl, se_eq, x_eq]
  unfold kernelRun0_A.sl.r_5 kernelRun0_A.sl.r_6 kernelRun0_A.sl.cst_58
  simp only [View.readAt_eq_ld, harg5.read_unread, harg10.read_unread, harg14.read_unread]
  funext i
  obtain ⟨t, l, rfl⟩ : ∃ (t : Fin 64) (l : Fin 4096), i = ix2 t l := ⟨i 0, i 1, eq_ix2 i⟩
  show _ = xcE x0 x4 x5 x14 t l * dlE x3 x8 x12 t l * Ideal.exp (seE x3 x8 x9 x12 x13 63 l - seE x3 x8 x9 x12 x13 t l)
  unfold dlE dtE
  pointwise [k0_pay33, k0_pay32, k0_pay31, k0_pay30, xcV, seV, sub_eq_add_neg]

theorem dsk_eq : kernelRun0_A.sl.r_11 (F := Ideal) c arg12 harg12 x10 = x10 := by
  unfold kernelRun0_A.sl.r_11
  simp only [View.readAt_eq_ld, harg12.read_unread]
  funext i
  obtain ⟨t, l, rfl⟩ : ∃ (t : Fin 1) (l : Fin 4096), i = ix2 t l := ⟨i 0, i 1, eq_ix2 i⟩
  obtain rfl : t = 0 := Subsingleton.elim _ _
  pointwise [k0_pay43]

/-- A row of the two scratches that hold a pair's decays and step sizes, one head's after the other's. -/
def srV (x3 : FVec Ideal S1x64x256 .f32) (x8 x9 : FVec Ideal S1x64 .f32) (x13 : FVec Ideal S64x64 .f32) (q : ℕ) (hq : q < 32) : FVec Ideal S1x128 .f32 :=
  fun i => ksE x3 x8 x9 x13 ⟨(i 1).val % 64, by omega⟩ ⟨32 * ((i 1).val / 64) + q, by have : (i 1).val < 128 := (i 1).isLt; omega⟩
def drV (x3 : FVec Ideal S1x64x256 .f32) (x8 : FVec Ideal S1x64 .f32) (q : ℕ) (hq : q < 32) : FVec Ideal S1x128 .f32 :=
  fun i => dtE x3 x8 ⟨(i 1).val % 64, by omega⟩ ⟨32 * ((i 1).val / 64) + q, by have : (i 1).val < 128 := (i 1).isLt; omega⟩

theorem sr_eq (v : View sig .tc .vmem S32x128 .f32) (q : ℕ) (hq : q < 32) (inb) :
    v.readCov (Val := Elt Ideal) (kernelRun0_A.sl.HS3_1 (F := Ideal) c arg5 harg5 arg10 harg10 arg11 harg11 arg15 harg15 x3 x8 x9 x13)
      (Rect.unit (s := S32x128) ![q, 0] S1x128.size inb).toLoadRect = srV x3 x8 x9 x13 q hq := by
  unfold kernelRun0_A.sl.HS3_1 kernelRun0_A.sl.r_5 kernelRun0_A.sl.r_6 kernelRun0_A.sl.cst_58
  rw [View.readCov_fill _ _ _ _ _ (fun a => by fin_cases a <;> rfl)]
  simp only [View.readAt_eq_ld, harg5.read_unread, harg10.read_unread, harg11.read_unread, harg15.read_unread]
  funext i
  obtain ⟨t, k, rfl⟩ : ∃ (t : Fin 1) (k : Fin 128), i = ix2 t k := ⟨i 0, i 1, eq_ix2 i⟩
  obtain rfl : t = 0 := Subsingleton.elim _ _
  show _ = ksE x3 x8 x9 x13 ⟨k.val % 64, by omega⟩ ⟨32 * (k.val / 64) + q, by have := k.isLt; omega⟩
  unfold ksE dtE
  pointwise [k0_pay36, k0_pay34, k0_pay33, k0_pay32, k0_pay31, k0_pay30, sub_eq_add_neg]
  by_cases hk : k.val < 64
  · have e1 : 32 * (k.val / 64) + q = q := by omega
    rw [dif_pos hk]; simp only [e1, Nat.mod_eq_of_lt hk]
  · have e : k.val % 64 = k.val - 64 := by have := k.isLt; omega
    have e1 : 32 * (k.val / 64) + q = 32 + q := by have := k.isLt; omega
    rw [dif_neg hk]; simp only [e, e1]

theorem dr_eq (v : View sig .tc .vmem S32x128 .f32) (q : ℕ) (hq : q < 32) (inb) :
    v.readCov (Val := Elt Ideal) (kernelRun0_A.sl.HS4_1 (F := Ideal) c arg5 harg5 arg10 harg10 x3 x8)
      (Rect.unit (s := S32x128) ![q, 0] S1x128.size inb).toLoadRect = drV x3 x8 q hq := by
  unfold kernelRun0_A.sl.HS4_1 kernelRun0_A.sl.r_5 kernelRun0_A.sl.r_6 kernelRun0_A.sl.cst_58
  rw [View.readCov_fill _ _ _ _ _ (fun a => by fin_cases a <;> rfl)]
  simp only [View.readAt_eq_ld, harg5.read_unread, harg10.read_unread]
  funext i
  obtain ⟨t, k, rfl⟩ : ∃ (t : Fin 1) (k : Fin 128), i = ix2 t k := ⟨i 0, i 1, eq_ix2 i⟩
  obtain rfl : t = 0 := Subsingleton.elim _ _
  show _ = dtE x3 x8 ⟨k.val % 64, by omega⟩ ⟨32 * (k.val / 64) + q, by have := k.isLt; omega⟩
  unfold dtE
  pointwise [k0_pay37, k0_pay33, k0_pay32, k0_pay31, k0_pay30, sub_eq_add_neg]
  by_cases hk : k.val < 64
  · have e1 : 32 * (k.val / 64) + q = q := by omega
    rw [dif_pos hk]; simp only [e1, Nat.mod_eq_of_lt hk]
  · have e : k.val % 64 = k.val - 64 := by have := k.isLt; omega
    have e1 : 32 * (k.val / 64) + q = 32 + q := by have := k.isLt; omega
    rw [dif_neg hk]; simp only [e, e1]

end Atoms

end Cert.Proof.Ssd

end
-- ==== Proof.SsdOut.lean ====
/- What one run of the scan's body leaves in its two outputs: each group's block is the vector operations of that group. -/
module

public import proofs.«01_k».proof.Proof.SsdRun

@[expose] public section

set_option maxRecDepth 16384

noncomputable section

open Idealize.ShloMosaic Idealize.ShloMosaic.TcCoe Idealize.SL.Sem
open scoped BigOperators

namespace Cert.Proof.Ssd

open Cert.KernelIdeal Cert.KernelIdeal.Gen

/-- A group's part of the carried state, channels along the columns, and of the norm's gain. -/
def stV (x16 : FVec Ideal S1x4096x128 .f32) (g : ℕ) (hg : g < 8) : FVec Ideal S128x512 .f32 :=
  fun i => x16 (ix3 0 ⟨512 * g + (i 1).val, by have : (i 1).val < 512 := (i 1).isLt; omega⟩ (i 0))
def gnV (x11 : FVec Ideal S1x4096 .f32) (g : ℕ) (hg : g < 8) : FVec Ideal S1x512 .f32 :=
  fun i => x11 (ix2 0 ⟨512 * g + (i 1).val, by have : (i 1).val < 512 := (i 1).isLt; omega⟩)

/-- A group's output block and new state, from the body's blocks. -/
def outG (x0 x1 : FVec Ideal S1x64x4096 .f32) (x2 : FVec Ideal S1x64x2048 .f32) (x3 : FVec Ideal S1x64x256 .f32) (x4 : FVec Ideal S4x4096 .f32)
    (x5 : FVec Ideal S1x4096 .f32) (x6 : FVec Ideal S4x2048 .f32) (x7 : FVec Ideal S1x2048 .f32) (x8 x9 : FVec Ideal S1x64 .f32)
    (x10 x11 : FVec Ideal S1x4096 .f32) (x12 : FVec Ideal S64x4096 .f32) (x13 : FVec Ideal S64x64 .f32) (x14 : FVec Ideal S1x3x4096 .f32)
    (x15 : FVec Ideal S1x3x2048 .f32) (x16 : FVec Ideal S1x4096x128 .f32) (g : ℕ) (hg : g < 8) : FVec Ideal S1x64x512 .bf16 :=
  outV (xcV x0 x4 x5 x14) (seV x3 x8 x9 x12 x13) (eeV x3 x8 x9 x12 x13) (bcV x2 x6 x7 x15) x10 (stV x16 g hg) x1 (gnV x11 g hg)
    (srV x3 x8 x9 x13 (4 * g + 0) (by omega)) (drV x3 x8 (4 * g + 0) (by omega)) (srV x3 x8 x9 x13 (4 * g + 1) (by omega)) (drV x3 x8 (4 * g + 1) (by omega)) (srV x3 x8 x9 x13 (4 * g + 2) (by omega)) (drV x3 x8 (4 * g + 2) (by omega)) (srV x3 x8 x9 x13 (4 * g + 3) (by omega)) (drV x3 x8 (4 * g + 3) (by omega)) g hg
def newG (x0 : FVec Ideal S1x64x4096 .f32) (x2 : FVec Ideal S1x64x2048 .f32) (x3 : FVec Ideal S1x64x256 .f32) (x4 : FVec Ideal S4x4096 .f32)
    (x5 : FVec Ideal S1x4096 .f32) (x6 : FVec Ideal S4x2048 .f32) (x7 : FVec Ideal S1x2048 .f32) (x8 x9 : FVec Ideal S1x64 .f32)
    (x12 : FVec Ideal S64x4096 .f32) (x13 : FVec Ideal S64x64 .f32) (x14 : FVec Ideal S1x3x4096 .f32)
    (x15 : FVec Ideal S1x3x2048 .f32) (x16 : FVec Ideal S1x4096x128 .f32) (g : ℕ) (hg : g < 8) : FVec Ideal S128x512 .f32 :=
  newV (esV x3 x8 x9 x12 x13) (xeV x0 x3 x4 x5 x8 x9 x12 x13 x14) (bcV x2 x6 x7 x15) (stV x16 g hg) g hg

theorem inb_row (q : ℕ) (hq : q < 32) : ∀ a : Fin S32x128.rank, ![q, 0] a + S1x128.size a ≤ S32x128.size a := fun a => by
  match a with | ⟨0, _⟩ => show q + 1 ≤ 32; omega | ⟨1, _⟩ => exact le_refl 128
theorem inb_gn (g : ℕ) (hg : g < 8) : ∀ a : Fin S1x4096.rank, ![0, 512 * g] a + S1x512.size a ≤ S1x4096.size a := fun a => by
  match a with | ⟨0, _⟩ => exact le_refl 1 | ⟨1, _⟩ => show 512 * g + 512 ≤ 4096; omega
theorem inb_st (g : ℕ) (hg : g < 8) : ∀ a : Fin S128x4096.rank, ![0, 512 * g] a + S128x512.size a ≤ S128x4096.size a := fun a => by
  match a with | ⟨0, _⟩ => exact le_refl 128 | ⟨1, _⟩ => show 512 * g + 512 ≤ 4096; omega

theorem inb17 (g : ℕ) (hg : g < 8) : ∀ a : Fin S1x64x4096.rank, ![0, 0, 512 * g] a + S1x64x512.size a ≤ S1x64x4096.size a := fun a => by
  match a with | ⟨0, _⟩ => exact le_refl 1 | ⟨1, _⟩ => exact le_refl 64 | ⟨2, _⟩ => show 512 * g + 512 ≤ 4096; omega
theorem inb18 (g : ℕ) (hg : g < 8) : ∀ a : Fin S1x4096x128.rank, ![0, 512 * g, 0] a + S1x512x128.size a ≤ S1x4096x128.size a := fun a => by
  match a with | ⟨0, _⟩ => exact le_refl 1 | ⟨1, _⟩ => show 512 * g + 512 ≤ 4096; omega | ⟨2, _⟩ => exact le_refl 128

/-- The output's array and the new state's, as one function of the index. -/
def at17 (O : (g : ℕ) → g < 8 → FVec Ideal S1x64x512 .bf16) : FVec Ideal S1x64x4096 .bf16 :=
  fun y => O ((y 2).val / 512) (by have : (y 2).val < 4096 := (y 2).isLt; omega) (ix3 0 (y 1) ⟨(y 2).val % 512, by omega⟩)
def at18 (N : (g : ℕ) → g < 8 → FVec Ideal S128x512 .f32) : FVec Ideal S1x4096x128 .f32 :=
  fun y => N ((y 1).val / 512) (by have : (y 1).val < 4096 := (y 1).isLt; omega) (ix2 (y 2) ⟨(y 1).val % 512, by omega⟩)

theorem at17_eq (O : (g : ℕ) → g < 8 → FVec Ideal S1x64x512 .bf16) (g : ℕ) (hg : g < 8) (y : S1x64x4096.Idx) (t : Fin 64) (j : Fin 512)
    (h1 : y 1 = t) (h2 : (y 2).val = 512 * g + j.val) : at17 O y = O g hg (ix3 0 t j) := by
  have hj := j.isLt
  obtain rfl : (y 2).val / 512 = g := by omega
  have ej : j = ⟨(y 2).val % 512, Nat.mod_lt _ (by decide)⟩ := Fin.ext (by show j.val = (y 2).val % 512; omega)
  rw [ej, ← h1]
  rfl
theorem at18_eq (N : (g : ℕ) → g < 8 → FVec Ideal S128x512 .f32) (g : ℕ) (hg : g < 8) (y : S1x4096x128.Idx) (j : Fin 512) (n : Fin 128)
    (h1 : y 2 = n) (h2 : (y 1).val = 512 * g + j.val) : at18 N y = N g hg (ix2 n j) := by
  have hj := j.isLt
  obtain rfl : (y 1).val / 512 = g := by omega
  have ej : j = ⟨(y 1).val % 512, Nat.mod_lt _ (by decide)⟩ := Fin.ext (by show j.val = (y 1).val % 512; omega)
  rw [ej, ← h1]
  rfl

theorem piece17 (O : (g : ℕ) → g < 8 → FVec Ideal S1x64x512 .bf16) (g : ℕ) (hg : g < 8) (inb) (x : S1x64x512.Idx) :
    O g hg x = at17 O ((Rect.unit (s := S1x64x4096) ![0, 0, 512 * g] S1x64x512.size inb).emb x) := by
  obtain ⟨u, t, j, rfl⟩ : ∃ (u : Fin 1) (t : Fin 64) (j : Fin 512), x = ix3 u t j := ⟨x 0, x 1, x 2, eq_ix3 x⟩
  obtain rfl : u = 0 := Subsingleton.elim _ _
  refine (at17_eq O g hg _ t j (Fin.ext ?_) ?_).symm
  · show 0 + 1 * t.val = t.val; omega
  · show 512 * g + 1 * j.val = 512 * g + j.val; omega
theorem piece18 (N : (g : ℕ) → g < 8 → FVec Ideal S128x512 .f32) (g : ℕ) (hg : g < 8) (inb) (x : S1x512x128.Idx) :
    shapeCast S1x512x128 (transpose S512x128 [1, 0] (N g hg) transposes_S128x512_p1_0_S512x128) shapeCasts_S512x128_S1x512x128 x
      = at18 N ((Rect.unit (s := S1x4096x128) ![0, 512 * g, 0] S1x512x128.size inb).emb x) := by
  obtain ⟨u, j, n, rfl⟩ : ∃ (u : Fin 1) (j : Fin 512) (n : Fin 128), x = ix3 u j n := ⟨x 0, x 1, x 2, eq_ix3 x⟩
  obtain rfl : u = 0 := Subsingleton.elim _ _
  refine Eq.trans ?_ (at18_eq N g hg _ j n (Fin.ext ?_) ?_).symm
  · pointwise
  · show 0 + 1 * n.val = n.val; omega
  · show 512 * g + 1 * j.val = 512 * g + j.val; omega

section Outs

variable (c : Dev nD) (arg2 : Memref sig .tc .vmem S1x64x4096 .f32) (harg2 : arg2.IsWhole) (arg3 : Memref sig .tc .vmem S1x64x4096 .f32) (harg3 : arg3.IsWhole)
  (arg4 : Memref sig .tc .vmem S1x64x2048 .f32) (harg4 : arg4.IsWhole) (arg5 : Memref sig .tc .vmem S1x64x256 .f32) (harg5 : arg5.IsWhole)
  (arg6 : Memref sig .tc .vmem S4x4096 .f32) (harg6 : arg6.IsWhole) (arg7 : Memref sig .tc .vmem S1x4096 .f32) (harg7 : arg7.IsWhole)
  (arg8 : Memref sig .tc .vmem S4x2048 .f32) (harg8 : arg8.IsWhole) (arg9 : Memref sig .tc .vmem S1x2048 .f32) (harg9 : arg9.IsWhole)
  (arg10 : Memref sig .tc .vmem S1x64 .f32) (harg10 : arg10.IsWhole) (arg11 : Memref sig .tc .vmem S1x64 .f32) (harg11 : arg11.IsWhole)
  (arg12 : Memref sig .tc .vmem S1x4096 .f32) (harg12 : arg12.IsWhole) (arg13 : Memref sig .tc .vmem S1x4096 .f32) (harg13 : arg13.IsWhole)
  (arg14 : Memref sig .tc .vmem S64x4096 .f32) (harg14 : arg14.IsWhole) (arg15 : Memref sig .tc .vmem S64x64 .f32) (harg15 : arg15.IsWhole)
  (arg16 : Memref sig .tc .vmem S1x3x4096 .f32) (harg16 : arg16.IsWhole) (arg17 : Memref sig .tc .vmem S1x3x2048 .f32) (harg17 : arg17.IsWhole)
  (arg18 : Memref sig .tc .vmem S1x4096x128 .f32) (harg18 : arg18.IsWhole)
  (arg21 : Memref sig .tc .vmem S72x4096 .f32) (arg22 : Memref sig .tc .vmem S72x2048 .f32) (arg23 : Memref sig .tc .vmem S128x4096 .f32)
  (arg24 arg25 : Memref sig .tc .vmem S32x128 .f32)
  (x0 x1 : FVec Ideal S1x64x4096 .f32) (x2 : FVec Ideal S1x64x2048 .f32) (x3 : FVec Ideal S1x64x256 .f32) (x4 : FVec Ideal S4x4096 .f32)
  (x5 : FVec Ideal S1x4096 .f32) (x6 : FVec Ideal S4x2048 .f32) (x7 : FVec Ideal S1x2048 .f32) (x8 x9 : FVec Ideal S1x64 .f32)
  (x10 x11 : FVec Ideal S1x4096 .f32) (x12 : FVec Ideal S64x4096 .f32) (x13 : FVec Ideal S64x64 .f32) (x14 : FVec Ideal S1x3x4096 .f32)
  (x15 : FVec Ideal S1x3x2048 .f32) (x16 : FVec Ideal S1x4096x128 .f32)

theorem z_eq : View.readAt (Elt Ideal) arg3.view (Rect.unit (s := S1x64x4096) ![0, 0, 0] S1x64x4096.size inb_S1x64x4096_S1x64x4096_0_0_0).toLoadRect (harg3.unread x1) = x1 := by
  have hz : (![0, 0, 0] : Fin 3 → Nat) = fun _ => 0 := funext fun a => by fin_cases a <;> rfl
  rw [View.readAt_eq_ld, harg3.read_unread, View.ld_unit_zero (S := S1x64x4096) hz]
theorem gn_eq (g : ℕ) (hg : g < 8) :
    View.readAt (Elt Ideal) arg13.view (Rect.unit (s := S1x4096) ![0, 512 * g] S1x512.size (inb_gn g hg)).toLoadRect (harg13.unread x11) = gnV x11 g hg := by
  rw [View.readAt_eq_ld, harg13.read_unread]
  funext i
  obtain ⟨u, j, rfl⟩ : ∃ (u : Fin 1) (j : Fin 512), i = ix2 u j := ⟨i 0, i 1, eq_ix2 i⟩
  obtain rfl : u = 0 := Subsingleton.elim _ _
  show x11 _ = x11 _
  congr 1; funext a; apply Fin.ext
  match a with
  | ⟨0, _⟩ => rfl
  | ⟨1, _⟩ => show 512 * g + 1 * j.val = 512 * g + j.val; omega

theorem outG_eq (st : FVec Ideal S128x512 .f32) (g : ℕ) (hg : g < 8) (hst : st = stV x16 g hg) :
    outV (kernelRun0_A.sl.r_1 (F := Ideal) c arg2 harg2 arg6 harg6 arg7 harg7 arg16 harg16 arg21 x0 x4 x5 x14) (kernelRun0_A.sl.r_7 (F := Ideal) c arg5 harg5 arg10 harg10 arg11 harg11 arg14 harg14 arg15 harg15 x3 x8 x9 x12 x13) (kernelRun0_A.sl.r_8 (F := Ideal) c arg5 harg5 arg10 harg10 arg11 harg11 arg14 harg14 arg15 harg15 x3 x8 x9 x12 x13) (kernelRun0_A.sl.r_4 (F := Ideal) c arg4 harg4 arg8 harg8 arg9 harg9 arg17 harg17 arg22 x2 x6 x7 x15) (kernelRun0_A.sl.r_11 (F := Ideal) c arg12 harg12 x10) st
      (View.readAt (Elt Ideal) arg3.view (Rect.unit (s := S1x64x4096) ![0, 0, 0] S1x64x4096.size inb_S1x64x4096_S1x64x4096_0_0_0).toLoadRect (harg3.unread x1))
      (View.readAt (Elt Ideal) arg13.view (Rect.unit (s := S1x4096) ![0, 512 * g] S1x512.size (inb_gn g hg)).toLoadRect (harg13.unread x11))
      (arg24.view.readCov (Val := Elt Ideal) (kernelRun0_A.sl.HS3_1 (F := Ideal) c arg5 harg5 arg10 harg10 arg11 harg11 arg15 harg15 x3 x8 x9 x13) (Rect.unit (s := S32x128) ![4 * g + 0, 0] S1x128.size (inb_row _ (by omega))).toLoadRect) (arg25.view.readCov (Val := Elt Ideal) (kernelRun0_A.sl.HS4_1 (F := Ideal) c arg5 harg5 arg10 harg10 x3 x8) (Rect.unit (s := S32x128) ![4 * g + 0, 0] S1x128.size (inb_row _ (by omega))).toLoadRect) (arg24.view.readCov (Val := Elt Ideal) (kernelRun0_A.sl.HS3_1 (F := Ideal) c arg5 harg5 arg10 harg10 arg11 harg11 arg15 harg15 x3 x8 x9 x13) (Rect.unit (s := S32x128) ![4 * g + 1, 0] S1x128.size (inb_row _ (by omega))).toLoadRect) (arg25.view.readCov (Val := Elt Ideal) (kernelRun0_A.sl.HS4_1 (F := Ideal) c arg5 harg5 arg10 harg10 x3 x8) (Rect.unit (s := S32x128) ![4 * g + 1, 0] S1x128.size (inb_row _ (by omega))).toLoadRect) (arg24.view.readCov (Val := Elt Ideal) (kernelRun0_A.sl.HS3_1 (F := Ideal) c arg5 harg5 arg10 harg10 arg11 harg11 arg15 harg15 x3 x8 x9 x13) (Rect.unit (s := S32x128) ![4 * g + 2, 0] S1x128.size (inb_row _ (by omega))).toLoadRect) (arg25.view.readCov (Val := Elt Ideal) (kernelRun0_A.sl.HS4_1 (F := Ideal) c arg5 harg5 arg10 harg10 x3 x8) (Rect.unit (s := S32x128) ![4 * g + 2, 0] S1x128.size (inb_row _ (by omega))).toLoadRect) (arg24.view.readCov (Val := Elt Ideal) (kernelRun0_A.sl.HS3_1 (F := Ideal) c arg5 harg5 arg10 harg10 arg11 harg11 arg15 harg15 x3 x8 x9 x13) (Rect.unit (s := S32x128) ![4 * g + 3, 0] S1x128.size (inb_row _ (by omega))).toLoadRect) (arg25.view.readCov (Val := Elt Ideal) (kernelRun0_A.sl.HS4_1 (F := Ideal) c arg5 harg5 arg10 harg10 x3 x8) (Rect.unit (s := S32x128) ![4 * g + 3, 0] S1x128.size (inb_row _ (by omega))).toLoadRect) g hg
    = outG x0 x1 x2 x3 x4 x5 x6 x7 x8 x9 x10 x11 x12 x13 x14 x15 x16 g hg := by
  rw [x_eq, se_eq, ee_eq, bc_eq, dsk_eq, sr_eq c _ harg5 _ harg10 _ harg11 _ harg15 x3 x8 x9 x13 _ (4 * g + 0) (by omega), dr_eq c _ harg5 _ harg10 x3 x8 _ (4 * g + 0) (by omega), sr_eq c _ harg5 _ harg10 _ harg11 _ harg15 x3 x8 x9 x13 _ (4 * g + 1) (by omega), dr_eq c _ harg5 _ harg10 x3 x8 _ (4 * g + 1) (by omega), sr_eq c _ harg5 _ harg10 _ harg11 _ harg15 x3 x8 x9 x13 _ (4 * g + 2) (by omega), dr_eq c _ harg5 _ harg10 x3 x8 _ (4 * g + 2) (by omega), sr_eq c _ harg5 _ harg10 _ harg11 _ harg15 x3 x8 x9 x13 _ (4 * g + 3) (by omega), dr_eq c _ harg5 _ harg10 x3 x8 _ (4 * g + 3) (by omega), hst, z_eq arg3 harg3, gn_eq arg13 harg13]
  rfl

theorem newG_eq (st : FVec Ideal S128x512 .f32) (g : ℕ) (hg : g < 8) (hst : st = stV x16 g hg) :
    newV (kernelRun0_A.sl.r_9 (F := Ideal) c arg5 harg5 arg10 harg10 arg11 harg11 arg14 harg14 arg15 harg15 x3 x8 x9 x12 x13) (kernelRun0_A.sl.r_10 (F := Ideal) c arg2 harg2 arg5 harg5 arg6 harg6 arg7 harg7 arg10 harg10 arg11 harg11 arg14 harg14 arg15 harg15 arg16 harg16 arg21 x0 x3 x4 x5 x8 x9 x12 x13 x14) (kernelRun0_A.sl.r_4 (F := Ideal) c arg4 harg4 arg8 harg8 arg9 harg9 arg17 harg17 arg22 x2 x6 x7 x15) st g hg = newG x0 x2 x3 x4 x5 x6 x7 x8 x9 x12 x13 x14 x15 x16 g hg := by
  rw [es_eq, xe_eq, bc_eq, hst]
  rfl

/-! ### The carried state, read by its group before the group's own store -/

theorem st_init (v : View sig .tc .vmem S128x4096 .f32) (g : ℕ) (hg : g < 8) :
    v.readCov (Val := Elt Ideal) (kernelRun0_A.sl.HS2_8 (F := Ideal) c arg18 harg18 x16)
      (Rect.unit (s := S128x4096) ![0, 512 * g] S128x512.size (inb_st g hg)).toLoadRect = stV x16 g hg := by
  rw [View.readCov_eq_canon']
  funext i
  have hp : View.PiecesOf (fun y : S128x4096.Idx => x16 (ix3 0 (y 1) (y 0))) (kernelRun0_A.sl.HS2_8 (F := Ideal) c arg18 harg18 x16) := by
    unfold kernelRun0_A.sl.HS2_8 kernelRun0_A.sl.v1467 kernelRun0_A.sl.v1464 kernelRun0_A.sl.v1463 kernelRun0_A.sl.v1473 kernelRun0_A.sl.v1470
      kernelRun0_A.sl.v1469 kernelRun0_A.sl.v1479 kernelRun0_A.sl.v1476 kernelRun0_A.sl.v1475
    simp only [View.readAt_eq_ld, harg18.read_unread]
    refine ⟨?_, ?_, ?_, ?_, ?_, ?_, ?_, ?_, trivial⟩ <;> intro x <;>
    · obtain ⟨n, j, rfl⟩ : ∃ (n : Fin 128) (j : Fin 512), x = ix2 n j := ⟨x 0, x 1, eq_ix2 x⟩
      pointwise [k0_pay16, k0_pay17, k0_pay18, k0_pay19, k0_pay20]
      refine congrArg x16 (funext fun a => Fin.ext ?_)
      match a with
      | ⟨0, _⟩ => rfl
      | ⟨1, _⟩ => show _ = _ + 1 * j.val; rw [Nat.one_mul]; first | rfl | exact (Nat.zero_add _).symm
      | ⟨2, _⟩ => show n.val = 0 + 1 * n.val; omega
  rw [View.canon_apply_of_pieces (fun y : S128x4096.Idx => x16 (ix3 0 (y 1) (y 0))) _ hp.mem _ (View.cover_of_tiledL (kernelRun0_A.sl.HS2_8 (F := Ideal) c arg18 harg18 x16) S128x512.size (by sl_kernel_rfl) _)]
  obtain ⟨n, j, rfl⟩ : ∃ (n : Fin 128) (j : Fin 512), i = ix2 n j := ⟨i 0, i 1, eq_ix2 i⟩
  show x16 _ = x16 _
  congr 1; funext a; apply Fin.ext
  match a with
  | ⟨0, _⟩ => rfl
  | ⟨1, _⟩ => show 512 * g + 1 * j.val = 512 * g + j.val; omega
  | ⟨2, _⟩ => show 0 + 1 * n.val = n.val; omega

theorem st0_eq : kernelRun0_A.sl.v173 (F := Ideal) c arg18 harg18 arg23 x16 = stV x16 0 (by decide) := by
  unfold kernelRun0_A.sl.v173

  exact st_init c arg18 harg18 x16 arg23.view 0 (by decide)
theorem st1_eq : kernelRun0_A.sl.v304 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 1 (by decide) := by
  unfold kernelRun0_A.sl.v304 kernelRun0_A.sl.HS2_9
  rw [View.readCov_skip _ _ _ _ _ (by rfl)]
  exact st_init c arg18 harg18 x16 arg23.view 1 (by decide)
theorem st2_eq : kernelRun0_A.sl.v435 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 2 (by decide) := by
  unfold kernelRun0_A.sl.v435 kernelRun0_A.sl.HS2_10 kernelRun0_A.sl.HS2_9
  rw [View.readCov_skip _ _ _ _ _ (by rfl), View.readCov_skip _ _ _ _ _ (by rfl)]
  exact st_init c arg18 harg18 x16 arg23.view 2 (by decide)
theorem st3_eq : kernelRun0_A.sl.v566 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 3 (by decide) := by
  unfold kernelRun0_A.sl.v566 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl)]
  exact st_init c arg18 harg18 x16 arg23.view 3 (by decide)
theorem st4_eq : kernelRun0_A.sl.v697 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 4 (by decide) := by
  unfold kernelRun0_A.sl.v697 kernelRun0_A.sl.HS2_12 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl), View.readCov_skip _ _ _ _ _ (by rfl)]
  exact st_init c arg18 harg18 x16 arg23.view 4 (by decide)
theorem st5_eq : kernelRun0_A.sl.v828 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 5 (by decide) := by
  unfold kernelRun0_A.sl.v828 kernelRun0_A.sl.HS2_13 kernelRun0_A.sl.HS2_12 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl), View.readCov_skip _ _ _ _ _ (by rfl), View.readCov_skip _ _ _ _ _ (by rfl)]
  exact st_init c arg18 harg18 x16 arg23.view 5 (by decide)
theorem st6_eq : kernelRun0_A.sl.v959 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 6 (by decide) := by
  unfold kernelRun0_A.sl.v959 kernelRun0_A.sl.HS2_14 kernelRun0_A.sl.HS2_13 kernelRun0_A.sl.HS2_12 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  exact st_init c arg18 harg18 x16 arg23.view 6 (by decide)
theorem st7_eq : kernelRun0_A.sl.v1090 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = stV x16 7 (by decide) := by
  unfold kernelRun0_A.sl.v1090 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl)]
  exact st_init c arg18 harg18 x16 arg23.view 7 (by decide)

/-! ### The carried state, read after every group's store -/

theorem fin0_eq : kernelRun0_A.sl.v1452 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 0 (by decide) := by
  unfold kernelRun0_A.sl.v1452 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 0 (by decide) (st0_eq c arg18 harg18 arg23 x16)
theorem fin1_eq : kernelRun0_A.sl.v1457 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 1 (by decide) := by
  unfold kernelRun0_A.sl.v1457 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 1 (by decide) (st1_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin2_eq : kernelRun0_A.sl.v1462 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 2 (by decide) := by
  unfold kernelRun0_A.sl.v1462 kernelRun0_A.sl.HS2_16 kernelRun0_A.sl.HS2_15 kernelRun0_A.sl.HS2_14 kernelRun0_A.sl.HS2_13 kernelRun0_A.sl.HS2_12 kernelRun0_A.sl.HS2_11
  rw [View.readCov_skip _ _ _ _ _ (by rfl), View.readCov_skip _ _ _ _ _ (by rfl), View.readCov_skip _ _ _ _ _ (by rfl), View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 2 (by decide) (st2_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin3_eq : kernelRun0_A.sl.v1467_1 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 3 (by decide) := by
  unfold kernelRun0_A.sl.v1467_1 kernelRun0_A.sl.HS2_16 kernelRun0_A.sl.HS2_15 kernelRun0_A.sl.HS2_14 kernelRun0_A.sl.HS2_13 kernelRun0_A.sl.HS2_12
  rw [View.readCov_skip _ _ _ _ _ (by rfl), View.readCov_skip _ _ _ _ _ (by rfl), View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 3 (by decide) (st3_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin4_eq : kernelRun0_A.sl.v1472_1 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 4 (by decide) := by
  unfold kernelRun0_A.sl.v1472_1 kernelRun0_A.sl.HS2_16 kernelRun0_A.sl.HS2_15 kernelRun0_A.sl.HS2_14 kernelRun0_A.sl.HS2_13
  rw [View.readCov_skip _ _ _ _ _ (by rfl), View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 4 (by decide) (st4_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin5_eq : kernelRun0_A.sl.v1477_1 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 5 (by decide) := by
  unfold kernelRun0_A.sl.v1477_1 kernelRun0_A.sl.HS2_16 kernelRun0_A.sl.HS2_15 kernelRun0_A.sl.HS2_14
  rw [View.readCov_skip _ _ _ _ _ (by rfl), View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 5 (by decide) (st5_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin6_eq : kernelRun0_A.sl.v1482 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 6 (by decide) := by
  unfold kernelRun0_A.sl.v1482 kernelRun0_A.sl.HS2_16 kernelRun0_A.sl.HS2_15
  rw [View.readCov_skip _ _ _ _ _ (by rfl), View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 6 (by decide) (st6_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)
theorem fin7_eq : kernelRun0_A.sl.v1487 (F := Ideal) c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16 = newG x0 x2 x3 x4 x5 x6 x7 x8 x9 x12 x13 x14 x15 x16 7 (by decide) := by
  unfold kernelRun0_A.sl.v1487 kernelRun0_A.sl.HS2_16
  rw [View.readCov_cons_toLoadRect]
  exact newG_eq c arg2 harg2 arg4 harg4 arg5 harg5 arg6 harg6 arg7 harg7 arg8 harg8 arg9 harg9 arg10 harg10 arg11 harg11 arg14 harg14 arg15 harg15 arg16 harg16 arg17 harg17 arg21 arg22 x0 x2 x3 x4 x5 x6 x7 x8 x9 x12 x13 x14 x15 x16 _ 7 (by decide) (st7_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)

variable (arg19 : Memref sig .tc .vmem S1x64x4096 .bf16) (harg19 : arg19.IsWhole) (arg20 : Memref sig .tc .vmem S1x4096x128 .f32) (harg20 : arg20.IsWhole)
  (harg21 : arg21.IsWhole) (harg22 : arg22.IsWhole) (harg23 : arg23.IsWhole) (harg24 : arg24.IsWhole) (harg25 : arg25.IsWhole)
  (i : grid0.Coords) (hc0 : cond0_0 i) (hc1 : cond0_1 i)

set_option maxHeartbeats 8000000 in
theorem out17_eq : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 = at17 (outG x0 x1 x2 x3 x4 x5 x6 x7 x8 x9 x10 x11 x12 x13 x14 x15 x16) := by
  unfold out0_A_17
  rw [View.read_writes_eq_canon _ _ _ (cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16)]
  have hp : View.PiecesOf (at17 (outG x0 x1 x2 x3 x4 x5 x6 x7 x8 x9 x10 x11 x12 x13 x14 x15 x16)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16).1 := by
    unfold kernelRun0_A
    dsimp only
    have key := outG_eq c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg21 arg22 arg24 arg25 x0 x1 x2 x3 x4 x5 x6 x7 x8 x9 x10 x11 x12 x13 x14 x15 x16
    refine ⟨?_, ?_, ?_, ?_, ?_, ?_, ?_, ?_, trivial⟩ <;> intro x
    · exact (congrFun (key _ 7 (by decide) (st7_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 7 (by decide) (inb17 7 (by decide)) x)
    · exact (congrFun (key _ 6 (by decide) (st6_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 6 (by decide) (inb17 6 (by decide)) x)
    · exact (congrFun (key _ 5 (by decide) (st5_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 5 (by decide) (inb17 5 (by decide)) x)
    · exact (congrFun (key _ 4 (by decide) (st4_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 4 (by decide) (inb17 4 (by decide)) x)
    · exact (congrFun (key _ 3 (by decide) (st3_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 3 (by decide) (inb17 3 (by decide)) x)
    · exact (congrFun (key _ 2 (by decide) (st2_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 2 (by decide) (inb17 2 (by decide)) x)
    · exact (congrFun (key _ 1 (by decide) (st1_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)) x).trans (piece17 (outG x0 x1 x2 x3 x4 x5 x6 x7 x8 x9 x10 x11 x12 x13 x14 x15 x16) 1 (by decide) (inb17 1 (by decide)) x)
    · exact (congrFun (key _ 0 (by decide) (st0_eq c arg18 harg18 arg23 x16)) x).trans (piece17 (outG x0 x1 x2 x3 x4 x5 x6 x7 x8 x9 x10 x11 x12 x13 x14 x15 x16) 0 (by decide) (inb17 0 (by decide)) x)
  funext y
  exact View.canon_apply_of_pieces _ _ hp.mem y (cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 y)

set_option maxHeartbeats 8000000 in
theorem out18_eq : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 = at18 (newG x0 x2 x3 x4 x5 x6 x7 x8 x9 x12 x13 x14 x15 x16) := by
  unfold out0_A_18
  rw [View.read_writes_eq_canon _ _ _ (cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16)]
  have hp : View.PiecesOf (at18 (newG x0 x2 x3 x4 x5 x6 x7 x8 x9 x12 x13 x14 x15 x16)) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16).2.1 := by
    unfold kernelRun0_A
    dsimp only
    refine ⟨?_, ?_, ?_, ?_, ?_, ?_, ?_, ?_, trivial⟩ <;> intro x
    · exact (congrArg (fun N => shapeCast S1x512x128 (transpose S512x128 [1, 0] N transposes_S128x512_p1_0_S512x128) shapeCasts_S512x128_S1x512x128 x) (fin7_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 7 (by decide) (inb18 7 (by decide)) x)
    · exact (congrArg (fun N => shapeCast S1x512x128 (transpose S512x128 [1, 0] N transposes_S128x512_p1_0_S512x128) shapeCasts_S512x128_S1x512x128 x) (fin6_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 6 (by decide) (inb18 6 (by decide)) x)
    · exact (congrArg (fun N => shapeCast S1x512x128 (transpose S512x128 [1, 0] N transposes_S128x512_p1_0_S512x128) shapeCasts_S512x128_S1x512x128 x) (fin5_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 5 (by decide) (inb18 5 (by decide)) x)
    · exact (congrArg (fun N => shapeCast S1x512x128 (transpose S512x128 [1, 0] N transposes_S128x512_p1_0_S512x128) shapeCasts_S512x128_S1x512x128 x) (fin4_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 4 (by decide) (inb18 4 (by decide)) x)
    · exact (congrArg (fun N => shapeCast S1x512x128 (transpose S512x128 [1, 0] N transposes_S128x512_p1_0_S512x128) shapeCasts_S512x128_S1x512x128 x) (fin3_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 3 (by decide) (inb18 3 (by decide)) x)
    · exact (congrArg (fun N => shapeCast S1x512x128 (transpose S512x128 [1, 0] N transposes_S128x512_p1_0_S512x128) shapeCasts_S512x128_S1x512x128 x) (fin2_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 2 (by decide) (inb18 2 (by decide)) x)
    · exact (congrArg (fun N => shapeCast S1x512x128 (transpose S512x128 [1, 0] N transposes_S128x512_p1_0_S512x128) shapeCasts_S512x128_S1x512x128 x) (fin1_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 1 (by decide) (inb18 1 (by decide)) x)
    · exact (congrArg (fun N => shapeCast S1x512x128 (transpose S512x128 [1, 0] N transposes_S128x512_p1_0_S512x128) shapeCasts_S512x128_S1x512x128 x) (fin0_eq c arg2 harg2 arg4 harg4 arg5 harg5 arg6 harg6 arg7 harg7 arg8 harg8 arg9 harg9 arg10 harg10 arg11 harg11 arg14 harg14 arg15 harg15 arg16 harg16 arg17 harg17 arg18 harg18 arg21 arg22 arg23 x0 x2 x3 x4 x5 x6 x7 x8 x9 x12 x13 x14 x15 x16)).trans
        (piece18 (newG x0 x2 x3 x4 x5 x6 x7 x8 x9 x12 x13 x14 x15 x16) 0 (by decide) (inb18 0 (by decide)) x)
  funext y
  exact View.canon_apply_of_pieces _ _ hp.mem y (cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 y)

end Outs

end Cert.Proof.Ssd

end
-- ==== Proof.SsdForm.lean ====
/- The scan's formulas: a row of the causal sum, its gated and normalized row, the state after the chunk, each from a
   sequence's heads, channels and rows; and those quantities from the call's nine arguments. -/
module

public import proofs.«01_k».proof.Proof.SsdRun

@[expose] public section

set_option maxRecDepth 16384

noncomputable section

open Idealize.ShloMosaic Idealize.ShloMosaic.TcCoe Idealize.SL.Sem
open scoped BigOperators

namespace Cert.Proof.Ssd

/-! ### The formulas -/

/-- A channel's head and its group; a channel of a group. -/
def hd (l : Fin 4096) : Fin 64 := ⟨l.val / 64, by have := l.isLt; omega⟩
def gr (l : Fin 4096) : Fin 8 := ⟨l.val / 512, by have := l.isLt; omega⟩
def chn (g : Fin 8) (k : Fin 512) : Fin 4096 := ⟨512 * g.val + k.val, by have := g.isLt; have := k.isLt; omega⟩

/-- A row's output channel before the gate: the causal sum over the rows, the carried state's part and the skip. -/
def yS (X : Fin 64 → Fin 4096 → EReal) (B C : Fin 64 → Fin 8 → Fin 128 → EReal) (DT KS : Fin 64 → Fin 64 → EReal)
    (S : Fin 4096 → Fin 128 → EReal) (D : Fin 4096 → EReal) (t : Fin 64) (l : Fin 4096) : EReal :=
  (∑ s : Fin 64, (∑ n : Fin 128, C t (gr l) n * B s (gr l) n)
      * Ideal.exp (if s.val ≤ t.val then KS t (hd l) - KS s (hd l) else Ideal.ofBits .f32 0xFF800000#32) * DT s (hd l) * X s l)
    + (∑ n : Fin 128, C t (gr l) n * S l n) * Ideal.exp (KS t (hd l)) + D l * X t l

/-- A gated row normalized over each group's channels and scaled. -/
def oS (Y Z : Fin 64 → Fin 4096 → EReal) (G : Fin 4096 → EReal) (t : Fin 64) (l : Fin 4096) : EReal :=
  (Y t l * siluE (Z t l)) * Ideal.rsqrt (Ideal.div (∑ k : Fin 512, (Y t (chn (gr l) k) * siluE (Z t (chn (gr l) k))) * (Y t (chn (gr l) k) * siluE (Z t (chn (gr l) k))))
    (Ideal.ofBits .f32 0x44000000#32) + Ideal.ofBits .f32 0x3727C5AC#32) * G l

/-- The state after the chunk. -/
def nS (X : Fin 64 → Fin 4096 → EReal) (B : Fin 64 → Fin 8 → Fin 128 → EReal) (DT KS : Fin 64 → Fin 64 → EReal)
    (S : Fin 4096 → Fin 128 → EReal) (l : Fin 4096) (n : Fin 128) : EReal :=
  S l n * Ideal.exp (KS 63 (hd l)) + ∑ t : Fin 64, B t (gr l) n * (X t l * DT t (hd l) * Ideal.exp (KS 63 (hd l) - KS t (hd l)))

/-- The slot a head's step sizes are kept in: the even heads' first, then the odd ones'. -/
def slot (h : Fin 64) : Fin 64 := ⟨32 * (h.val % 2) + h.val / 2, by have := h.isLt; omega⟩

/-! ### The quantities, from the arguments -/

section Args
variable (a0 : (⟨3, ![8, 64, 20736]⟩ : Shape).Idx → EReal) (a1 : (⟨3, ![8, 3, 6144]⟩ : Shape).Idx → EReal)
  (a2 : (⟨4, ![8, 64, 64, 128]⟩ : Shape).Idx → EReal) (a3 : (⟨2, ![4, 6144]⟩ : Shape).Idx → EReal)
  (a4 : (⟨1, ![6144]⟩ : Shape).Idx → EReal) (a5 a6 a7 : (⟨1, ![64]⟩ : Shape).Idx → EReal) (a8 : (⟨1, ![4096]⟩ : Shape).Idx → EReal)

/-- Row `u` of a sequence's three carried rows followed by its 64 projected ones, at a convolved channel. -/
def xrA (b : Fin 8) (u : ℕ) (hu : u < 67) (c : Fin 6144) : EReal :=
  if h : u < 3 then a1 (ix3 b ⟨u, h⟩ c)
  else if h' : c.val < 4096 then a0 (ix3 b ⟨u - 3, by omega⟩ ⟨c.val, by omega⟩)
  else a0 (ix3 b ⟨u - 3, by omega⟩ ⟨12288 + (c.val - 4096), by have := c.isLt; omega⟩)

/-- The convolved and gated channels. -/
def cA (b : Fin 8) (t : Fin 64) (c : Fin 6144) : EReal :=
  siluE (a4 (ix1 c) + xrA a0 a1 b (t.val + 0) (by omega) c * a3 (ix2 0 c) + xrA a0 a1 b (t.val + 1) (by omega) c * a3 (ix2 1 c)
    + xrA a0 a1 b (t.val + 2) (by omega) c * a3 (ix2 2 c) + xrA a0 a1 b (t.val + 3) (by omega) c * a3 (ix2 3 c))

def XA (b : Fin 8) (t : Fin 64) (l : Fin 4096) : EReal := cA a0 a1 a3 a4 b t ⟨l.val, by have := l.isLt; omega⟩
def BA (b : Fin 8) (t : Fin 64) (g : Fin 8) (n : Fin 128) : EReal :=
  cA a0 a1 a3 a4 b t ⟨4096 + 128 * g.val + n.val, by have := g.isLt; have := n.isLt; omega⟩
def CA (b : Fin 8) (t : Fin 64) (g : Fin 8) (n : Fin 128) : EReal :=
  cA a0 a1 a3 a4 b t ⟨5120 + 128 * g.val + n.val, by have := g.isLt; have := n.isLt; omega⟩

/-- A head's step size. -/
def dtA (b : Fin 8) (t h : Fin 64) : EReal :=
  max (a0 (ix3 b t ⟨20480 + (slot h).val, by have := (slot h).isLt; omega⟩) + a5 (ix1 h)) 0
    + Ideal.log (1 + Ideal.exp (-FloatOps.absf (F := Ideal) (φ := .f32) (a0 (ix3 b t ⟨20480 + (slot h).val, by have := (slot h).isLt; omega⟩) + a5 (ix1 h))))

/-- The running sum of a head's decays. -/
def ksA (b : Fin 8) (t h : Fin 64) : EReal :=
  ∑ j : Fin 64, (if j.val ≤ t.val then 1 else 0) * (dtA a0 a5 b j h * -Ideal.exp (a6 (ix1 h)))

def SA (b : Fin 8) (l : Fin 4096) (n : Fin 128) : EReal :=
  a2 (ix4 b (hd l) ⟨l.val % 64, Nat.mod_lt _ (by decide)⟩ n)
def ZA (b : Fin 8) (t : Fin 64) (l : Fin 4096) : EReal := a0 (ix3 b t ⟨4096 + l.val, by have := l.isLt; omega⟩)

/-- The call's two results at an index. -/
def yA (b : Fin 8) (t : Fin 64) (l : Fin 4096) : EReal :=
  oS (yS (XA a0 a1 a3 a4 b) (BA a0 a1 a3 a4 b) (CA a0 a1 a3 a4 b) (dtA a0 a5 b) (ksA a0 a5 a6 b) (SA a2 b) (fun l => a7 (ix1 (hd l))))
    (ZA a0 b) (fun l => a8 (ix1 l)) t l
def nA (b : Fin 8) (l : Fin 4096) (n : Fin 128) : EReal :=
  nS (XA a0 a1 a3 a4 b) (BA a0 a1 a3 a4 b) (dtA a0 a5 b) (ksA a0 a5 a6 b) (SA a2 b) l n

end Args

end Cert.Proof.Ssd

end
-- ==== Proof.SsdSpec.lean ====
/- One sequence's chunk of the scan as plain formulas over its heads, channels and rows, and the body's two blocks read as them. -/
module

public import proofs.«01_k».proof.Proof.SsdOut
public import proofs.«01_k».proof.Proof.SsdForm

@[expose] public section

set_option maxRecDepth 16384

noncomputable section

open Idealize.ShloMosaic Idealize.ShloMosaic.TcCoe Idealize.SL.Sem
open scoped BigOperators

namespace Cert.Proof.Ssd

open Cert.KernelIdeal Cert.KernelIdeal.Gen

/-! ### The body's blocks as the formulas -/

theorem gateV_apply (y0 y1 y2 y3 : FVec Ideal S64x128 .f32) (z : FVec Ideal S1x64x4096 .f32) (g : ℕ) (hg : g < 8) (Y : Fin 64 → Fin 512 → EReal)
    (h0 : ∀ t (j : Fin 128), y0 (ix2 t j) = Y t ⟨128 * 0 + j.val, by have := j.isLt; omega⟩)
    (h1 : ∀ t (j : Fin 128), y1 (ix2 t j) = Y t ⟨128 * 1 + j.val, by have := j.isLt; omega⟩)
    (h2 : ∀ t (j : Fin 128), y2 (ix2 t j) = Y t ⟨128 * 2 + j.val, by have := j.isLt; omega⟩)
    (h3 : ∀ t (j : Fin 128), y3 (ix2 t j) = Y t ⟨128 * 3 + j.val, by have := j.isLt; omega⟩) (t : Fin 64) (j : Fin 512) :
    gateV y0 y1 y2 y3 z g hg (ix2 t j) = Y t j * siluE (z (ix3 0 t ⟨512 * g + j.val, by have := j.isLt; omega⟩)) := by
  unfold siluE
  pointwise [gateV, k0_pay157, sub_eq_add_neg, h0, h1, h2, h3]
  refine congrArg (· * _) ?_
  split_ifs
  · rfl
  all_goals first
    | exact absurd rfl ‹_›
    | exact congrArg (Y t) (Fin.ext (by show 128 + (j.val - 128) = j.val; omega))
    | exact congrArg (Y t) (Fin.ext (by show 256 + (j.val - 128 - 128) = j.val; omega))
    | exact congrArg (Y t) (Fin.ext (by show 384 + (j.val - 128 - 128 - 128) = j.val; omega))

theorem kd_apply (x3 : FVec Ideal S1x64x256 .f32) (x8 x9 : FVec Ideal S1x64 .f32) (x12 : FVec Ideal S64x4096 .f32) (x13 : FVec Ideal S64x64 .f32)
    (h12 : ∀ q l, x12 (ix2 q l) = if q = slot (hd l) then 1 else 0) (t : Fin 64) (l : Fin 4096) :
    seE x3 x8 x9 x12 x13 t l = ksE x3 x8 x9 x13 t (slot (hd l)) := by
  unfold seE
  simp only [h12, mul_ite, mul_one, mul_zero, Finset.sum_ite_eq', Finset.mem_univ, if_true]
theorem dl_apply (x3 : FVec Ideal S1x64x256 .f32) (x8 : FVec Ideal S1x64 .f32) (x12 : FVec Ideal S64x4096 .f32)
    (h12 : ∀ q l, x12 (ix2 q l) = if q = slot (hd l) then 1 else 0) (t : Fin 64) (l : Fin 4096) :
    dlE x3 x8 x12 t l = dtE x3 x8 t (slot (hd l)) := by
  unfold dlE
  simp only [h12, mul_ite, mul_one, mul_zero, Finset.sum_ite_eq', Finset.mem_univ, if_true]

/-- A sum over two heads' rows of which only the column's own head's count. -/
theorem sum_half (a : Fin 128 → EReal) (b : Fin 64 → EReal) (j : Fin 128) :
    (∑ k : Fin 128, a k * (if k.val < 64 then (if j.val < 64 then b ⟨k.val % 64, by omega⟩ else 0) else (if j.val < 64 then 0 else b ⟨k.val % 64, by omega⟩)))
      = ∑ s : Fin 64, a ⟨64 * (j.val / 64) + s.val, by have := j.isLt; have := s.isLt; omega⟩ * b s := by
  refine (Fin.sum_univ_add (a := 64) (b := 64) _).trans ?_
  by_cases hj : j.val < 64
  · rw [Finset.sum_eq_zero (s := (Finset.univ : Finset (Fin 64))) (f := fun i => a (Fin.natAdd 64 i) * _) ?_, add_zero]
    · refine Finset.sum_congr rfl fun s _ => ?_
      have hs := s.isLt
      have e0 : 64 * (j.val / 64) + s.val = s.val := by omega
      rw [if_pos (show (Fin.castAdd 64 s).val < 64 from hs), if_pos hj]
      congr 2
      · exact Fin.ext e0.symm
      · exact Fin.ext (Nat.mod_eq_of_lt hs)
    · intro s _
      rw [if_neg (show ¬ (Fin.natAdd 64 s).val < 64 from by show ¬ 64 + s.val < 64; omega), if_pos hj, mul_zero]
  · rw [Finset.sum_eq_zero (s := (Finset.univ : Finset (Fin 64))) (f := fun i => a (Fin.castAdd 64 i) * _) ?_, zero_add]
    · refine Finset.sum_congr rfl fun s _ => ?_
      have hs := s.isLt
      have hj' := j.isLt
      have e0 : 64 * (j.val / 64) + s.val = 64 + s.val := by omega
      rw [if_neg (show ¬ (Fin.natAdd 64 s).val < 64 from by show ¬ 64 + s.val < 64; omega), if_neg hj]
      congr 2
      · exact Fin.ext e0.symm
      · exact Fin.ext (by show (64 + s.val) % 64 = s.val; omega)
    · intro s _
      rw [if_pos (show (Fin.castAdd 64 s).val < 64 from s.isLt), if_neg hj, mul_zero]

section Blocks

variable (x0 x1 : FVec Ideal S1x64x4096 .f32) (x2 : FVec Ideal S1x64x2048 .f32) (x3 : FVec Ideal S1x64x256 .f32) (x4 : FVec Ideal S4x4096 .f32)
  (x5 : FVec Ideal S1x4096 .f32) (x6 : FVec Ideal S4x2048 .f32) (x7 : FVec Ideal S1x2048 .f32) (x8 x9 : FVec Ideal S1x64 .f32)
  (x10 x11 : FVec Ideal S1x4096 .f32) (x12 : FVec Ideal S64x4096 .f32) (x13 : FVec Ideal S64x64 .f32) (x14 : FVec Ideal S1x3x4096 .f32)
  (x15 : FVec Ideal S1x3x2048 .f32) (x16 : FVec Ideal S1x4096x128 .f32)

/-- The body's rows of B and C by group, its step sizes and decays by head, and its state, skip, gate and gain. -/
def kB (t : Fin 64) (g : Fin 8) (n : Fin 128) : EReal := bcE x2 x6 x7 x15 t ⟨128 * g.val + n.val, by have := g.isLt; have := n.isLt; omega⟩
def kC (t : Fin 64) (g : Fin 8) (n : Fin 128) : EReal := bcE x2 x6 x7 x15 t ⟨1024 + 128 * g.val + n.val, by have := g.isLt; have := n.isLt; omega⟩
def kDT (t h : Fin 64) : EReal := dtE x3 x8 t (slot h)
def kKS (t h : Fin 64) : EReal := ksE x3 x8 x9 x13 t (slot h)

theorem pair_apply (h12 : ∀ q l, x12 (ix2 q l) = if q = slot (hd l) then 1 else 0) (g p : ℕ) (h : g < 8 ∧ p < 4) (t : Fin 64) (j : Fin 128) :
    pairV (xcV x0 x4 x5 x14) (seV x3 x8 x9 x12 x13) (eeV x3 x8 x9 x12 x13) x10 (cbV (bcV x2 x6 x7 x15) g h.1) (ysV (bcV x2 x6 x7 x15) (stV x16 g h.1) g h.1)
      (srV x3 x8 x9 x13 (4 * g + p) (by omega)) (drV x3 x8 (4 * g + p) (by omega)) g p h (ix2 t j)
    = yS (xcE x0 x4 x5 x14) (kB x2 x6 x7 x15) (kC x2 x6 x7 x15) (kDT x3 x8) (kKS x3 x8 x9 x13) (fun l n => x16 (ix3 0 l n)) (fun l => x10 (ix2 0 l))
        t ⟨512 * g + (128 * p + j.val), by have := j.isLt; omega⟩ := by
  obtain ⟨hg, hp⟩ := h
  have hj := j.isLt
  rw [pairV_apply]
  simp only [rhsV_apply]
  rw [sum_half (fun k => cbV (bcV x2 x6 x7 x15) g hg (ix2 t k) * decV (seV x3 x8 x9 x12 x13) (srV x3 x8 x9 x13 (4 * g + p) (by omega)) g p ⟨hg, hp⟩ (ix2 t k)
      * drV x3 x8 (4 * g + p) (by omega) (ix2 0 k))
    (fun s => xcV x0 x4 x5 x14 (ix2 s ⟨512 * g + 128 * p + j.val, by omega⟩)) j]
  simp only [cbV_apply, decV_apply, ysV_apply]
  have el : (⟨512 * g + 128 * p + j.val, by omega⟩ : Fin 4096) = ⟨512 * g + (128 * p + j.val), by omega⟩ := Fin.ext (by show 512 * g + 128 * p + j.val = 512 * g + (128 * p + j.val); omega)
  rw [el]
  generalize hl : (⟨512 * g + (128 * p + j.val), by omega⟩ : Fin 4096) = l
  have hlv : l.val = 512 * g + (128 * p + j.val) := by rw [← hl]
  have hgr : gr l = ⟨g, hg⟩ := Fin.ext (by show l.val / 512 = g; omega)
  unfold yS
  rw [hgr]
  refine congrArg₂ _ (congrArg₂ _ (Finset.sum_congr rfl fun s _ => ?_) (congrArg₂ _ ?_ ?_)) rfl
  · have hs := s.isLt
    have ed : 64 * (j.val / 64) + s.val < 128 := by omega
    have em : (⟨(64 * (j.val / 64) + s.val) % 64, by omega⟩ : Fin 64) = s := Fin.ext (by show (64 * (j.val / 64) + s.val) % 64 = s.val; omega)
    have eslot : (⟨32 * ((64 * (j.val / 64) + s.val) / 64) + (4 * g + p), by omega⟩ : Fin 64) = slot (hd l) :=
      Fin.ext (by show 32 * ((64 * (j.val / 64) + s.val) / 64) + (4 * g + p) = 32 * (l.val / 64 % 2) + l.val / 64 / 2; omega)
    have ehd : hd (⟨512 * g + 128 * p + (64 * (j.val / 64) + s.val), by omega⟩ : Fin 4096) = hd l :=
      Fin.ext (by show (512 * g + 128 * p + (64 * (j.val / 64) + s.val)) / 64 = l.val / 64; omega)
    have e1 : (64 * (j.val / 64) + s.val) % 64 = s.val := by omega
    show (∑ n : Fin 128, bcE x2 x6 x7 x15 t _ * bcE x2 x6 x7 x15 ⟨(64 * (j.val / 64) + s.val) % 64, _⟩ _)
      * Ideal.exp (if (64 * (j.val / 64) + s.val) % 64 ≤ t.val then seE x3 x8 x9 x12 x13 t ⟨512 * g + 128 * p + (64 * (j.val / 64) + s.val), _⟩
          - ksE x3 x8 x9 x13 ⟨(64 * (j.val / 64) + s.val) % 64, _⟩ ⟨32 * ((64 * (j.val / 64) + s.val) / 64) + (4 * g + p), _⟩ else _)
      * dtE x3 x8 ⟨(64 * (j.val / 64) + s.val) % 64, _⟩ ⟨32 * ((64 * (j.val / 64) + s.val) / 64) + (4 * g + p), _⟩ * xcE x0 x4 x5 x14 s l = _
    rw [kd_apply _ _ _ _ _ h12, ehd, eslot, em]
    simp only [e1]
    rfl
  · refine Finset.sum_congr rfl fun n _ => ?_
    show bcE x2 x6 x7 x15 t _ * x16 (ix3 0 ⟨512 * g + (128 * p + j.val), _⟩ n) = _
    rw [hl]; rfl
  · show Ideal.exp (seE x3 x8 x9 x12 x13 t l) = _
    rw [kd_apply _ _ _ _ _ h12]; rfl

theorem outG_apply (h12 : ∀ q l, x12 (ix2 q l) = if q = slot (hd l) then 1 else 0) (g : Fin 8) (t : Fin 64) (j : Fin 512) :
    outG x0 x1 x2 x3 x4 x5 x6 x7 x8 x9 x10 x11 x12 x13 x14 x15 x16 g.val g.isLt (ix3 0 t j)
    = oS (yS (xcE x0 x4 x5 x14) (kB x2 x6 x7 x15) (kC x2 x6 x7 x15) (kDT x3 x8) (kKS x3 x8 x9 x13) (fun l n => x16 (ix3 0 l n)) (fun l => x10 (ix2 0 l)))
        (fun t l => x1 (ix3 0 t l)) (fun l => x11 (ix2 0 l)) t (chn g j) := by
  have hgr : gr (chn g j) = g := Fin.ext (by have := j.isLt; show (512 * g.val + j.val) / 512 = g.val; omega)
  unfold outG outV oS
  rw [normV_apply, hgr]
  simp only [gateV_apply _ _ _ _ x1 g.val g.isLt (fun t j => yS (xcE x0 x4 x5 x14) (kB x2 x6 x7 x15) (kC x2 x6 x7 x15) (kDT x3 x8) (kKS x3 x8 x9 x13)
      (fun l n => x16 (ix3 0 l n)) (fun l => x10 (ix2 0 l)) t (chn g j))
    (fun t j => pair_apply x0 x2 x3 x4 x5 x6 x7 x8 x9 x10 x12 x13 x14 x15 x16 h12 g.val 0 ⟨g.isLt, by decide⟩ t j)
    (fun t j => pair_apply x0 x2 x3 x4 x5 x6 x7 x8 x9 x10 x12 x13 x14 x15 x16 h12 g.val 1 ⟨g.isLt, by decide⟩ t j)
    (fun t j => pair_apply x0 x2 x3 x4 x5 x6 x7 x8 x9 x10 x12 x13 x14 x15 x16 h12 g.val 2 ⟨g.isLt, by decide⟩ t j)
    (fun t j => pair_apply x0 x2 x3 x4 x5 x6 x7 x8 x9 x10 x12 x13 x14 x15 x16 h12 g.val 3 ⟨g.isLt, by decide⟩ t j)]
  rfl

theorem newG_apply (h12 : ∀ q l, x12 (ix2 q l) = if q = slot (hd l) then 1 else 0) (g : Fin 8) (j : Fin 512) (n : Fin 128) :
    newG x0 x2 x3 x4 x5 x6 x7 x8 x9 x12 x13 x14 x15 x16 g.val g.isLt (ix2 n j)
    = nS (xcE x0 x4 x5 x14) (kB x2 x6 x7 x15) (kDT x3 x8) (kKS x3 x8 x9 x13) (fun l n => x16 (ix3 0 l n)) (chn g j) n := by
  have hgr : gr (chn g j) = g := Fin.ext (by have := j.isLt; show (512 * g.val + j.val) / 512 = g.val; omega)
  unfold newG nS
  rw [newV_apply, hgr]
  refine congrArg₂ _ (congrArg₂ _ rfl ?_) (Finset.sum_congr rfl fun t _ => congrArg₂ _ rfl ?_)
  · show Ideal.exp (seE x3 x8 x9 x12 x13 63 (chn g j)) = _
    rw [kd_apply _ _ _ _ _ h12]; rfl
  · show xcE x0 x4 x5 x14 t (chn g j) * dlE x3 x8 x12 t (chn g j) * Ideal.exp (seE x3 x8 x9 x12 x13 63 (chn g j) - seE x3 x8 x9 x12 x13 t (chn g j)) = _
    rw [kd_apply _ _ _ _ _ h12, kd_apply _ _ _ _ _ h12, dl_apply _ _ _ h12]; rfl

end Blocks

end Cert.Proof.Ssd

end
-- ==== Proof.SsdHost.lean ====
/- The arrays the scan's call is given, read at an index from the nine arguments: the convolution's weights by part, the
   biases and decays by slot, the skip and gain by channel, the two tables, and the carried rows and state. -/
module

public import proofs.«01_k».proof.Proof.SsdForm
public import proofs.«01_k».proof.Proof.Gen.KernelIdeal.Value

@[expose] public section

set_option maxRecDepth 16384

noncomputable section

open Idealize.ShloMosaic Idealize.ShloMosaic.TcCoe Idealize.SL.Sem
open scoped BigOperators

namespace Cert.Proof.Ssd

open Cert.KernelIdeal Cert.KernelIdeal.Gen

variable (m : (ℓ : Loc nD τ sig) → Buf (Elt Ideal) ℓ) (c : Dev nD)

abbrev A0 : S8x64x20736.Idx → EReal := m ((c : Thread nD τ).loc main_arg0)
abbrev A1 : S8x3x6144.Idx → EReal := m ((c : Thread nD τ).loc main_arg1)
abbrev A2 : S8x64x64x128.Idx → EReal := m ((c : Thread nD τ).loc main_arg2)
abbrev A3 : S4x6144.Idx → EReal := m ((c : Thread nD τ).loc main_arg3)
abbrev A4 : S6144.Idx → EReal := m ((c : Thread nD τ).loc main_arg4)
abbrev A5 : S64.Idx → EReal := m ((c : Thread nD τ).loc main_arg5)
abbrev A6 : S64.Idx → EReal := m ((c : Thread nD τ).loc main_arg6)
abbrev A7 : S64.Idx → EReal := m ((c : Thread nD τ).loc main_arg7)
abbrev A8 : S4096.Idx → EReal := m ((c : Thread nD τ).loc main_arg8)

theorem V21_eq : V m c main_v21 = extractStridedSlice S4x4096 ![0, 0] (A3 m c) slices_S4x6144_S4x4096_0_0 := by
  unfold V; rfl
theorem V21_apply (i : Fin 4) (l : Fin 4096) : (V m c main_v21 : S4x4096.Idx → EReal) (ix2 i l) = A3 m c (ix2 i ⟨l.val, by have := l.isLt; omega⟩) := by
  rw [V21_eq]; pointwise
theorem V22_eq : V m c main_v22 = extractStridedSlice S4x2048 ![0, 4096] (A3 m c) slices_S4x6144_S4x2048_0_4096 := by
  unfold V; rfl
theorem V22_apply (i : Fin 4) (l : Fin 2048) : (V m c main_v22 : S4x2048.Idx → EReal) (ix2 i l) = A3 m c (ix2 i ⟨4096 + l.val, by have := l.isLt; omega⟩) := by
  rw [V22_eq]; pointwise
theorem V24_eq : V m c main_v24 = broadcastInDim S1x4096 ![1] bcast_S4096_S1x4096_1 (extractStridedSlice S4096 ![0] (A4 m c) slices_S6144_S4096_0) := by
  unfold V; after_results; rfl
theorem V24_apply (l : Fin 4096) : (V m c main_v24 : S1x4096.Idx → EReal) (ix2 0 l) = A4 m c (ix1 ⟨l.val, by have := l.isLt; omega⟩) := by
  rw [V24_eq]; pointwise
theorem V26_eq : V m c main_v26 = broadcastInDim S1x2048 ![1] bcast_S2048_S1x2048_1 (extractStridedSlice S2048 ![4096] (A4 m c) slices_S6144_S2048_4096) := by
  unfold V; after_results; rfl
theorem V26_apply (l : Fin 2048) : (V m c main_v26 : S1x2048.Idx → EReal) (ix2 0 l) = A4 m c (ix1 ⟨4096 + l.val, by have := l.isLt; omega⟩) := by
  rw [V26_eq]; pointwise
theorem V41_eq : V m c main_v41 = broadcastInDim S1x4096 ![1] bcast_S4096_S1x4096_1 (shapeCast S4096 (broadcastInDim S64x64 ![0] bcast_S64_S64x64_0 (A7 m c)) shapeCasts_S64x64_S4096) := by
  unfold V; after_results; rfl
theorem V41_apply (l : Fin 4096) : (V m c main_v41 : S1x4096.Idx → EReal) (ix2 0 l) = A7 m c (ix1 (hd l)) := by
  have hl := l.isLt
  unfold hd
  rw [V41_eq]; pointwise
theorem V42_eq : V m c main_v42 = broadcastInDim S1x4096 ![1] bcast_S4096_S1x4096_1 (A8 m c) := by
  unfold V; after_results; rfl
theorem V42_apply (l : Fin 4096) : (V m c main_v42 : S1x4096.Idx → EReal) (ix2 0 l) = A8 m c (ix1 l) := by
  rw [V42_eq]; pointwise
theorem V43_eq : V m c main_v43 = extractStridedSlice S8x3x4096 ![0, 0, 0] (A1 m c) slices_S8x3x6144_S8x3x4096_0_0_0 := by
  unfold V; rfl
theorem V43_apply (b : Fin 8) (u : Fin 3) (l : Fin 4096) : (V m c main_v43 : S8x3x4096.Idx → EReal) (ix3 b u l) = A1 m c (ix3 b u ⟨l.val, by have := l.isLt; omega⟩) := by
  rw [V43_eq]; pointwise
theorem V44_eq : V m c main_v44 = extractStridedSlice S8x3x2048 ![0, 0, 4096] (A1 m c) slices_S8x3x6144_S8x3x2048_0_0_4096 := by
  unfold V; rfl
theorem V44_apply (b : Fin 8) (u : Fin 3) (l : Fin 2048) : (V m c main_v44 : S8x3x2048.Idx → EReal) (ix3 b u l) = A1 m c (ix3 b u ⟨4096 + l.val, by have := l.isLt; omega⟩) := by
  rw [V44_eq]; pointwise
theorem V45_eq : V m c main_v45 = shapeCast S8x4096x128 (A2 m c) shapeCasts_S8x64x64x128_S8x4096x128 := by
  unfold V; rfl
theorem V45_apply (b : Fin 8) (l : Fin 4096) (n : Fin 128) : (V m c main_v45 : S8x4096x128.Idx → EReal) (ix3 b l n) = SA (A2 m c) b l n := by
  have hl := l.isLt
  rw [V45_eq]
  unfold SA
  refine shapeCast_apply _ _ _ _ ?_
  refine (Shape.rowMajor_val_four _).trans (Eq.trans ?_ (Shape.rowMajor_val_three _).symm)
  show ((b.val * 64 + l.val / 64) * 64 + l.val % 64) * 128 + n.val = (b.val * 4096 + l.val) * 128 + n.val
  omega

/-! ### The gathers by slot -/

/-- The heads' positions as the slots list them. -/
def perm : Vec Ideal S64x1 .i32 := broadcastInDim S64x1 ![0] bcast_S64_S64x1_0
  (select (constantI S64 1 0#1) (addi (fun i => lit0 (S64.rowMajor i)) (broadcastInDim S64 ![] bcast_S_S64 (constantI S_ 32 64#32))) (fun i => lit0 (S64.rowMajor i)))

theorem V32_eq : V m c main_v32 = broadcastInDim S1x64 ![1] bcast_S64_S1x64_1 (Host.gather gather_S64_S64x1_S64_n_0_n_n_0_1_1 (A5 m c) perm) := by
  unfold V; after_results; rfl
theorem V38_eq : V m c main_v38 = broadcastInDim S1x64 ![1] bcast_S64_S1x64_1 (Host.gather gather_S64_S64x1_S64_n_0_n_n_0_1_1 (A6 m c) perm) := by
  unfold V; after_results; rfl

theorem gather_at : ∀ h : Fin 64, (gather_S64_S64x1_S64_n_0_n_n_0_1_1.operandIdx (ix1 (slot h)) perm 0).val = h.val := by
  decide +kernel

theorem V32_apply (h : Fin 64) : (V m c main_v32 : S1x64.Idx → EReal) (ix2 0 (slot h)) = A5 m c (ix1 h) := by
  rw [V32_eq]
  show A5 m c (gather_S64_S64x1_S64_n_0_n_n_0_1_1.operandIdx _ perm) = _
  congr 1; funext a; apply Fin.ext
  match a with
  | ⟨0, _⟩ => exact gather_at h
theorem V38_apply (h : Fin 64) : (V m c main_v38 : S1x64.Idx → EReal) (ix2 0 (slot h)) = A6 m c (ix1 h) := by
  rw [V38_eq]
  show A6 m c (gather_S64_S64x1_S64_n_0_n_n_0_1_1.operandIdx _ perm) = _
  congr 1; funext a; apply Fin.ext
  match a with
  | ⟨0, _⟩ => exact gather_at h

/-! ### The tables -/

theorem lit1_eq : ∀ n : Fin 4096, lit1 n = if n.val % 64 ≤ n.val / 64 then 0x3F800000#32 else 0#32 := by
  decide +kernel

theorem Vcst_eq : V m c main_cst = fun i => FloatOps.ofBits (F := Ideal) .f32 (lit1 (S64x64.rowMajor i)) := by
  unfold V; rfl

theorem Vcst_apply (t j : Fin 64) : (V m c main_cst : S64x64.Idx → EReal) (ix2 t j) = if j.val ≤ t.val then (1 : EReal) else 0 := by
  have ht := t.isLt; have hj := j.isLt
  rw [Vcst_eq]
  refine (congrArg (Ideal.ofBits .f32) (lit1_eq (S64x64.rowMajor (ix2 t j)))).trans ?_
  have r : (S64x64.rowMajor (ix2 t j)).val = t.val * 64 + j.val := Shape.rowMajor_val_two _
  rw [r, show (t.val * 64 + j.val) % 64 = j.val by omega, show (t.val * 64 + j.val) / 64 = t.val by omega]
  by_cases h : j.val ≤ t.val
  · rw [if_pos h, if_pos h]; exact Ideal.ofBits_one_f32
  · rw [if_neg h, if_neg h]; exact Ideal.ofBits_zero_f32

/-- The table that carries a slot's value to its head's channels. -/
def head : Vec Ideal S64x4096 .i32 :=
  select (cmpi .slt (iotaInDim S64x4096 32 0) (broadcastInDim S64x4096 ![] bcast_S_S64x4096 (constantI S_ 32 32#32)))
    (muli (broadcastInDim S64x4096 ![] bcast_S_S64x4096 (constantI S_ 32 2#32)) (iotaInDim S64x4096 32 0))
    (subi (muli (broadcastInDim S64x4096 ![] bcast_S_S64x4096 (constantI S_ 32 2#32)) (iotaInDim S64x4096 32 0))
      (broadcastInDim S64x4096 ![] bcast_S_S64x4096 (constantI S_ 32 63#32)))

theorem V20_eq : V m c main_v20 = uitofp (F := Ideal) .f32 (andi
    (cmpi .sle (muli head (broadcastInDim S64x4096 ![] bcast_S_S64x4096 (constantI S_ 32 64#32))) (iotaInDim S64x4096 32 1))
    (cmpi .slt (iotaInDim S64x4096 32 1) (addi (muli head (broadcastInDim S64x4096 ![] bcast_S_S64x4096 (constantI S_ 32 64#32)))
      (broadcastInDim S64x4096 ![] bcast_S_S64x4096 (constantI S_ 32 64#32))))) := by
  unfold V; after_results; rfl

theorem int_small (n : ℕ) (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem sle_small (a b : ℕ) (ha : a < 2 ^ 31) (hb : b < 2 ^ 31) :
    IntOp.cmpi CmpIPredicate.sle (BitVec.ofNat 32 a) (BitVec.ofNat 32 b) = if a ≤ b then 1#1 else 0#1 := by
  show BitVec.ofBool (decide ((BitVec.ofNat 32 a).toInt ≤ (BitVec.ofNat 32 b).toInt)) = _
  rw [int_small a ha, int_small b hb]
  by_cases h : a ≤ b
  · rw [if_pos h, decide_eq_true (by exact_mod_cast h)]; rfl
  · rw [if_neg h, decide_eq_false (by exact_mod_cast h)]; rfl

theorem slt_small (a b : ℕ) (ha : a < 2 ^ 31) (hb : b < 2 ^ 31) :
    IntOp.cmpi CmpIPredicate.slt (BitVec.ofNat 32 a) (BitVec.ofNat 32 b) = if a < b then 1#1 else 0#1 := by
  show BitVec.ofBool (decide ((BitVec.ofNat 32 a).toInt < (BitVec.ofNat 32 b).toInt)) = _
  rw [int_small a ha, int_small b hb]
  by_cases h : a < b
  · rw [if_pos h, decide_eq_true (by exact_mod_cast h)]; rfl
  · rw [if_neg h, decide_eq_false (by exact_mod_cast h)]; rfl

/-- The head a slot holds. -/
def headOf (q : Fin 64) : ℕ := if q.val < 32 then 2 * q.val else 2 * q.val - 63

theorem start_eq : ∀ q : Fin 64, IntOp.muli
    (Scalar.select (IntOp.cmpi CmpIPredicate.slt (BitVec.ofNat 32 q.val) 32#32)
      (IntOp.muli (2#32) (BitVec.ofNat 32 q.val)) (IntOp.subi (IntOp.muli (2#32) (BitVec.ofNat 32 q.val)) 63#32)) 64#32
    = BitVec.ofNat 32 (64 * headOf q) := by
  decide +kernel

theorem stop_eq : ∀ q : Fin 64, IntOp.addi (BitVec.ofNat 32 (64 * headOf q)) 64#32 = BitVec.ofNat 32 (64 * headOf q + 64) := by
  decide +kernel

theorem headOf_lt : ∀ q : Fin 64, headOf q < 64 := by decide +kernel
theorem headOf_iff : ∀ q h : Fin 64, headOf q = h.val ↔ q = slot h := by decide +kernel

theorem V20_apply (q : Fin 64) (l : Fin 4096) : (V m c main_v20 : S64x4096.Idx → EReal) (ix2 q l) = if q = slot (hd l) then (1 : EReal) else 0 := by
  have hq := headOf_lt q
  have hl := l.isLt
  rw [V20_eq]
  pointwise [head]
  rw [start_eq, stop_eq, sle_small _ _ (by omega) (by omega), slt_small _ _ (by omega) (by omega)]
  have e : headOf q = (hd l).val ↔ (64 * headOf q ≤ l.val ∧ l.val < 64 * headOf q + 64) := by
    show headOf q = l.val / 64 ↔ _
    omega
  by_cases h : q = slot (hd l)
  · obtain ⟨h1, h2⟩ := e.mp ((headOf_iff q _).mpr h)
    rw [if_pos h, if_pos h1, if_pos h2]
    show (((1#1 &&& 1#1 : BitVec 1).toNat : ℝ) : EReal) = 1
    norm_num
  · have hn : ¬ (64 * headOf q ≤ l.val ∧ l.val < 64 * headOf q + 64) := fun k => h ((headOf_iff q _).mp (e.mpr k))
    rw [if_neg h]
    have z : IntOp.andi (if 64 * headOf q ≤ l.val then 1#1 else 0#1) (if l.val < 64 * headOf q + 64 then 1#1 else 0#1) = 0#1 := by
      split_ifs with h1 h2
      · exact absurd ⟨h1, h2⟩ hn
      all_goals rfl
    rw [z]
    show (((0#1 : BitVec 1).toNat : ℝ) : EReal) = 0
    norm_num

end Cert.Proof.Ssd

end
-- ==== Proof.SsdRef.lean ====
/- The reference's operations read at an index: the convolved channels, the step sizes and their running sums, the causal
   sum with the carried state's part, the gated and normalized row, and the state after the chunk. -/
module

public import proofs.«01_k».proof.Defs
public import proofs.«01_k».proof.Proof.Gen.ReferenceIdeal.Run
public import proofs.«01_k».proof.Proof.SsdForm
public import Idealize.ShloMosaic.Lib.Pointwise

@[expose] public section

set_option maxRecDepth 16384

noncomputable section

open Idealize.ShloMosaic Idealize.ShloMosaic.TcCoe Idealize.SL.Sem
open scoped BigOperators

namespace Cert.Proof.Ssd

section Ref
open Cert.ReferenceIdeal Cert.ReferenceIdeal.Gen Cert.ReferenceIdeal.Value

/-! ### The running sum -/

theorem foldl_sum (l : List (Fin 64)) (f : Fin 64 → EReal) (v : EReal) : l.foldl (fun r n => r + f n) v = v + (l.map f).sum := by
  induction l generalizing v with
  | nil => rw [List.foldl_nil, List.map_nil, List.sum_nil, add_zero]
  | cons a l ih => rw [List.foldl_cons, ih, List.map_cons, List.sum_cons, add_assoc]

/-- Sliding a window of 64 positions, padded low by 63, to row `t` sums the rows up to `t`. -/
theorem sum_slide (G : Fin 64 → EReal) (t : Fin 64) :
    (∑ n : Fin 64, if h : 63 ≤ t.val + n.val then G ⟨t.val + n.val - 63, by have := t.isLt; have := n.isLt; omega⟩ else 0)
      = ∑ j : Fin 64, if j.val ≤ t.val then G j else 0 := by
  have ht := t.isLt
  refine Finset.sum_bij_ne_zero (fun n hn h0 => ⟨t.val + n.val - 63, by have := n.isLt; omega⟩) (fun _ _ _ => Finset.mem_univ _) ?_ ?_ ?_
  · intro a ha h1 b hb h2 e
    have ea := congrArg Fin.val e
    have p : 63 ≤ t.val + a.val := by by_contra q; exact h1 (dif_neg q)
    have q : 63 ≤ t.val + b.val := by by_contra q; exact h2 (dif_neg q)
    refine Fin.ext ?_
    change t.val + a.val - 63 = t.val + b.val - 63 at ea
    omega
  · intro j _ hj
    have p : j.val ≤ t.val := by by_contra q; exact hj (if_neg q)
    have ej : (⟨t.val + (j.val + 63 - t.val) - 63, by omega⟩ : Fin 64) = j := Fin.ext (by show t.val + (j.val + 63 - t.val) - 63 = j.val; omega)
    refine ⟨⟨j.val + 63 - t.val, by omega⟩, Finset.mem_univ _, ?_, ej⟩
    rw [dif_pos (show 63 ≤ t.val + (j.val + 63 - t.val) by omega)]
    rw [if_pos p] at hj
    exact fun h => hj ((congrArg G ej).symm.trans h)
  · intro n _ h1
    have p : 63 ≤ t.val + n.val := by by_contra q; exact h1 (dif_neg q)
    rw [dif_pos p, if_pos (show t.val + n.val - 63 ≤ t.val by have := n.isLt; omega)]

/-- A window's position: the row it reads, or padding. -/
theorem win_at (x : FVec Ideal S8x64x8x8 .f32) (b : Fin 8) (t : Fin 64) (g e : Fin 8) (n : Fin 64) (w : (⟨4, ![1, 64, 1, 1]⟩ : Shape).Idx)
    (r : ((⟨4, ![1, 64, 1, 1]⟩ : Shape).rowMajor w).val = n.val)
    [Decidable (∀ a : Fin 4, (![0, 63, 0, 0] : Fin 4 → ℕ) a ≤ (ix4 b t g e a).val * (![1, 1, 1, 1] : Fin 4 → ℕ) a + (w a).val
        ∧ (ix4 b t g e a).val * (![1, 1, 1, 1] : Fin 4 → ℕ) a + (w a).val - (![0, 63, 0, 0] : Fin 4 → ℕ) a < (![8, 64, 8, 8] : Fin 4 → ℕ) a)] :
    (if hin : ∀ a : Fin 4, (![0, 63, 0, 0] : Fin 4 → ℕ) a ≤ (ix4 b t g e a).val * (![1, 1, 1, 1] : Fin 4 → ℕ) a + (w a).val
        ∧ (ix4 b t g e a).val * (![1, 1, 1, 1] : Fin 4 → ℕ) a + (w a).val - (![0, 63, 0, 0] : Fin 4 → ℕ) a < (![8, 64, 8, 8] : Fin 4 → ℕ) a
      then x (fun a => ⟨(ix4 b t g e a).val * (![1, 1, 1, 1] : Fin 4 → ℕ) a + (w a).val - (![0, 63, 0, 0] : Fin 4 → ℕ) a, (hin a).2⟩) else 0)
      = if h : 63 ≤ t.val + n.val then x (ix4 b ⟨t.val + n.val - 63, by have := t.isLt; have := n.isLt; omega⟩ g e) else 0 := by
  rw [Shape.rowMajor_val_four] at r
  have w0 : (w 0).val < 1 := (w 0).isLt
  have w2 : (w 2).val < 1 := (w 2).isLt
  have w3 : (w 3).val < 1 := (w 3).isLt
  change (((w 0).val * 64 + (w 1).val) * 1 + (w 2).val) * 1 + (w 3).val = n.val at r
  have ht := t.isLt
  have hn := n.isLt
  by_cases p : 63 ≤ t.val + n.val
  · rw [dif_pos p, dif_pos]
    · congr 1; funext a; apply Fin.ext
      match a with
      | ⟨0, _⟩ => show b.val * 1 + (w 0).val - 0 = b.val; omega
      | ⟨1, _⟩ => show t.val * 1 + (w 1).val - 63 = t.val + n.val - 63; omega
      | ⟨2, _⟩ => show g.val * 1 + (w 2).val - 0 = g.val; omega
      | ⟨3, _⟩ => show e.val * 1 + (w 3).val - 0 = e.val; omega
    · intro a
      have hb := b.isLt; have hg := g.isLt; have he := e.isLt
      match a with
      | ⟨0, _⟩ => show 0 ≤ b.val * 1 + (w 0).val ∧ b.val * 1 + (w 0).val - 0 < 8; omega
      | ⟨1, _⟩ => show 63 ≤ t.val * 1 + (w 1).val ∧ t.val * 1 + (w 1).val - 63 < 64; omega
      | ⟨2, _⟩ => show 0 ≤ g.val * 1 + (w 2).val ∧ g.val * 1 + (w 2).val - 0 < 8; omega
      | ⟨3, _⟩ => show 0 ≤ e.val * 1 + (w 3).val ∧ e.val * 1 + (w 3).val - 0 < 8; omega
  · rw [dif_neg p, dif_neg]
    intro q
    have q1 := (q 1).1
    change 63 ≤ t.val * 1 + (w 1).val at q1
    omega

theorem cum_apply (x : FVec Ideal S8x64x8x8 .f32) (init : FVec Ideal S_ .f32) (hi : ∀ i, init i = 0)
    (h : S8x64x8x8.ReduceWindows ![1, 64, 1, 1] ![1, 1, 1, 1] ![0, 63, 0, 0] ![0, 0, 0, 0] S8x64x8x8) (hu : 0 < S_.numel)
    (b : Fin 8) (t : Fin 64) (g e : Fin 8) :
    Host.reduceWindowAdd (F := Ideal) (φ := .f32) ![1, 64, 1, 1] ![1, 1, 1, 1] ![0, 63, 0, 0] ![0, 0, 0, 0] x init h hu (ix4 b t g e)
      = ∑ j : Fin 64, if j.val ≤ t.val then x (ix4 b j g e) else 0 := by
  refine Eq.trans ?_ (sum_slide (fun j => x (ix4 b j g e)) t)
  show Host.reduceWindow (u := S_) (α := EReal) (fun x y => x + y) ![1, 64, 1, 1] ![1, 1, 1, 1] ![0, 63, 0, 0] ![0, 0, 0, 0] x (fun _ => init (Shape.Idx.first hu)) h hu (ix4 b t g e) = _
  rw [hi]
  unfold Host.reduceWindow
  dsimp only
  refine (foldl_sum (List.finRange 64) _ 0).trans ((zero_add _).trans ((Fin.sum_univ_def (n := 64) _).symm.trans ?_))
  refine Finset.sum_congr rfl fun n _ => ?_
  exact (dite_congr rfl (fun _ => rfl) (fun _ => rfl)).trans
    (win_at x b t g e n _ (congrArg Fin.val (Equiv.apply_symm_apply (⟨4, ![1, 64, 1, 1]⟩ : Shape).rowMajor n)))

/-! ### The arguments' quantities -/

variable (V0 : Valuation τ sig (Elt Ideal))

abbrev R0 : S8x64x20736.Idx → EReal := V0 (Proc.devRef .tc main_arg0)
abbrev R1 : S8x3x6144.Idx → EReal := V0 (Proc.devRef .tc main_arg1)
abbrev R2 : S8x64x64x128.Idx → EReal := V0 (Proc.devRef .tc main_arg2)
abbrev R3 : S4x6144.Idx → EReal := V0 (Proc.devRef .tc main_arg3)
abbrev R4 : S6144.Idx → EReal := V0 (Proc.devRef .tc main_arg4)
abbrev R5 : S64.Idx → EReal := V0 (Proc.devRef .tc main_arg5)
abbrev R6 : S64.Idx → EReal := V0 (Proc.devRef .tc main_arg6)
abbrev R7 : S64.Idx → EReal := V0 (Proc.devRef .tc main_arg7)
abbrev R8 : S4096.Idx → EReal := V0 (Proc.devRef .tc main_arg8)

theorem v8_apply (b : Fin 8) (u : Fin 67) (c : Fin 6144) : res_main_v8 V0 (ix3 b u c) = xrA (R0 V0) (R1 V0) b u.val u.isLt c := by
  have hc := c.isLt
  unfold res_main_v8 xrA R0 R1
  generalize V0 (Proc.devRef .tc main_arg0) = a0
  generalize V0 (Proc.devRef .tc main_arg1) = a1
  pointwise

theorem v41_apply (b : Fin 8) (t : Fin 64) (c : Fin 6144) :
    res_main_v41 V0 (ix3 b t c) = cA (R0 V0) (R1 V0) (R3 V0) (R4 V0) b t c := by
  have h8 := v8_apply V0 b
  unfold res_main_v41 res_main_v40 cA siluE R3 R4
  generalize res_main_v8 V0 = w at h8
  generalize V0 (Proc.devRef .tc main_arg3) = a3
  generalize V0 (Proc.devRef .tc main_arg4) = a4
  pointwise [h8, sub_eq_add_neg, add_assoc, zero_add]
  simp only [Nat.add_comm 1, Nat.add_comm 2, Nat.add_comm 3]

/-- A channel and a head by group. -/
def chp (g e : Fin 8) (p : Fin 64) : Fin 4096 := ⟨512 * g.val + 64 * e.val + p.val, by have := g.isLt; have := e.isLt; have := p.isLt; omega⟩
def hd2 (g e : Fin 8) : Fin 64 := ⟨8 * g.val + e.val, by have := g.isLt; have := e.isLt; omega⟩

theorem v43_apply (b : Fin 8) (t : Fin 64) (g e : Fin 8) (p : Fin 64) :
    res_main_v43 V0 (ix5 b t g e p) = XA (R0 V0) (R1 V0) (R3 V0) (R4 V0) b t (chp g e p) := by
  have hp := p.isLt; have hg := g.isLt; have he := e.isLt
  unfold res_main_v43 XA
  refine (shapeCast_apply _ _ _ (ix3 b t (chp g e p)) ?_).trans ?_
  · refine (Shape.rowMajor_val_three _).trans (Eq.trans ?_ (Shape.rowMajor_val_five _).symm)
    show (b.val * 64 + t.val) * 4096 + (512 * g.val + 64 * e.val + p.val) = (((b.val * 64 + t.val) * 8 + g.val) * 8 + e.val) * 64 + p.val
    omega
  · rw [← v41_apply]
    generalize res_main_v41 V0 = w
    pointwise

theorem v45_apply (b : Fin 8) (t : Fin 64) (g : Fin 8) (n : Fin 128) :
    res_main_v45 V0 (ix4 b t g n) = BA (R0 V0) (R1 V0) (R3 V0) (R4 V0) b t g n := by
  have hg := g.isLt; have hn := n.isLt
  unfold res_main_v45 BA
  refine (shapeCast_apply _ _ _ (ix3 b t (⟨128 * g.val + n.val, by omega⟩ : Fin 1024)) ?_).trans ?_
  · refine (Shape.rowMajor_val_three _).trans (Eq.trans ?_ (Shape.rowMajor_val_four _).symm)
    show (b.val * 64 + t.val) * 1024 + (128 * g.val + n.val) = ((b.val * 64 + t.val) * 8 + g.val) * 128 + n.val
    omega
  · rw [← v41_apply]
    generalize res_main_v41 V0 = w
    pointwise
    exact congrArg (fun q => w (ix3 b t q)) (Fin.ext (by show 4096 + (128 * g.val + n.val) = 4096 + 128 * g.val + n.val; omega))

theorem v47_apply (b : Fin 8) (t : Fin 64) (g : Fin 8) (n : Fin 128) :
    res_main_v47 V0 (ix4 b t g n) = CA (R0 V0) (R1 V0) (R3 V0) (R4 V0) b t g n := by
  have hg := g.isLt; have hn := n.isLt
  unfold res_main_v47 CA
  refine (shapeCast_apply _ _ _ (ix3 b t (⟨128 * g.val + n.val, by omega⟩ : Fin 1024)) ?_).trans ?_
  · refine (Shape.rowMajor_val_three _).trans (Eq.trans ?_ (Shape.rowMajor_val_four _).symm)
    show (b.val * 64 + t.val) * 1024 + (128 * g.val + n.val) = ((b.val * 64 + t.val) * 8 + g.val) * 128 + n.val
    omega
  · rw [← v41_apply]
    generalize res_main_v41 V0 = w
    pointwise
    exact congrArg (fun q => w (ix3 b t q)) (Fin.ext (by show 5120 + (128 * g.val + n.val) = 5120 + 128 * g.val + n.val; omega))

theorem v50_apply (b : Fin 8) (t h : Fin 64) :
    res_main_v50 V0 (ix3 b t h) = R0 V0 (ix3 b t ⟨20480 + (slot h).val, by have := (slot h).isLt; omega⟩) + R5 V0 (ix1 h) := by
  have hh := h.isLt
  unfold res_main_v50 slot R0 R5
  generalize V0 (Proc.devRef .tc main_arg0) = a0
  generalize V0 (Proc.devRef .tc main_arg5) = a5
  pointwise
  simp only [Nat.mul_comm 32]

theorem une_self (x : EReal) : FloatOps.cmpf (F := Ideal) (φ := .f32) .une x x = 0#1 := by
  show BitVec.ofBool (decide (x ≠ x)) = 0#1
  rw [decide_eq_false (not_not.mpr rfl)]; rfl

theorem v52_apply (b : Fin 8) (t : Fin 64) (g e : Fin 8) : res_main_v52 V0 (ix4 b t g e) = dtA (R0 V0) (R5 V0) b t (hd2 g e) := by
  have h50 := v50_apply V0 b t (hd2 g e)
  unfold res_main_v52 res_main_call1_v3 res_main_call1_cst dtA
  refine (shapeCast_apply _ _ _ (ix3 b t (hd2 g e)) ?_).trans ?_
  · refine (Shape.rowMajor_val_three _).trans (Eq.trans ?_ (Shape.rowMajor_val_four _).symm)
    show (b.val * 64 + t.val) * 64 + (8 * g.val + e.val) = ((b.val * 64 + t.val) * 8 + g.val) * 8 + e.val
    omega
  · rw [← h50]
    generalize res_main_v50 V0 = w
    pointwise [une_self, sub_zero]
    rfl

theorem v57_apply (b g e : Fin 8) (p : Fin 64) (n : Fin 128) : res_main_v57 V0 (ix5 b g e p n) = SA (R2 V0) b (chp g e p) n := by
  have hp := p.isLt; have hg := g.isLt; have he := e.isLt
  unfold res_main_v57 SA R2
  refine (shapeCast_apply _ _ _ (ix4 b (hd2 g e) p n) ?_).trans ?_
  · refine (Shape.rowMajor_val_four _).trans (Eq.trans ?_ (Shape.rowMajor_val_five _).symm)
    show ((b.val * 64 + (8 * g.val + e.val)) * 64 + p.val) * 128 + n.val = (((b.val * 8 + g.val) * 8 + e.val) * 64 + p.val) * 128 + n.val
    omega
  · congr 1
    refine congrArg₂ (fun q r => ix4 b q r n) (Fin.ext ?_) (Fin.ext ?_)
    · show 8 * g.val + e.val = (512 * g.val + 64 * e.val + p.val) / 64; omega
    · show p.val = (512 * g.val + 64 * e.val + p.val) % 64; omega

theorem v61_apply (b : Fin 8) (t : Fin 64) (g e : Fin 8) : res_main_v61 V0 (ix4 b t g e) = ksA (R0 V0) (R5 V0) (R6 V0) b t (hd2 g e) := by
  have h52 : ∀ j, res_main_v52 V0 (ix4 b j g e) = _ := fun j => v52_apply V0 b j g e
  unfold res_main_v61 ksA R6
  refine (cum_apply _ _ (fun i => ?_) _ _ b t g e).trans (Finset.sum_congr rfl fun j _ => ?_)
  · pointwise
  · rw [ite_mul, one_mul, zero_mul, ← h52]
    generalize res_main_v52 V0 = w
    generalize V0 (Proc.devRef .tc main_arg6) = a6
    refine if_congr Iff.rfl ?_ rfl
    unfold hd2
    pointwise
    simp only [Nat.mul_comm 8]

theorem v74_apply (b : Fin 8) (t : Fin 64) (g e : Fin 8) (p : Fin 64) : res_main_v74 V0 (ix5 b t g e p)
    = XA (R0 V0) (R1 V0) (R3 V0) (R4 V0) b t (chp g e p) * dtA (R0 V0) (R5 V0) b t (hd2 g e) := by
  rw [← v43_apply, ← v52_apply]
  unfold res_main_v74
  generalize res_main_v43 V0 = x
  generalize res_main_v52 V0 = d
  pointwise

/-! ### The results -/

theorem hd_chp (g e : Fin 8) (p : Fin 64) : hd (chp g e p) = hd2 g e := by
  have hp := p.isLt
  exact Fin.ext (by show (512 * g.val + 64 * e.val + p.val) / 64 = 8 * g.val + e.val; omega)

theorem gr_chp (g e : Fin 8) (p : Fin 64) : gr (chp g e p) = g := by
  have hp := p.isLt; have he := e.isLt
  exact Fin.ext (by show (512 * g.val + 64 * e.val + p.val) / 512 = g.val; omega)

/-- A sequence's quantities, and its row before the gate and the norm. -/
abbrev rX (b : Fin 8) : Fin 64 → Fin 4096 → EReal := XA (R0 V0) (R1 V0) (R3 V0) (R4 V0) b
abbrev rB (b : Fin 8) : Fin 64 → Fin 8 → Fin 128 → EReal := BA (R0 V0) (R1 V0) (R3 V0) (R4 V0) b
abbrev rC (b : Fin 8) : Fin 64 → Fin 8 → Fin 128 → EReal := CA (R0 V0) (R1 V0) (R3 V0) (R4 V0) b
abbrev rY (b : Fin 8) : Fin 64 → Fin 4096 → EReal :=
  yS (rX V0 b) (rB V0 b) (rC V0 b) (dtA (R0 V0) (R5 V0) b) (ksA (R0 V0) (R5 V0) (R6 V0) b) (SA (R2 V0) b) (fun l => R7 V0 (ix1 (hd l)))

/-- The causal mask: a row's position is not before a column's. -/
theorem tril_bit : ∀ t s : Fin 64, Scalar.select (IntOp.cmpi CmpIPredicate.sge (IntOp.addi (BitVec.ofNat 32 t.val) 0#32) (BitVec.ofNat 32 s.val)) 1#1 0#1
    = if s.val ≤ t.val then 1#1 else 0#1 := by
  decide +kernel

theorem v112_apply (b : Fin 8) (t : Fin 64) (g : Fin 8) (j : Fin 512) :
    res_main_v112 V0 (ix4 b t g j) = rY V0 b t (chn g j) * siluE (ZA (R0 V0) b t (chn g j)) := by
  have hg := g.isLt; have hj := j.isLt
  unfold res_main_v112
  refine (shapeCast_apply _ _ _ (ix3 b t (chn g j)) ?_).trans ?_
  · refine (Shape.rowMajor_val_three _).trans (Eq.trans ?_ (Shape.rowMajor_val_four _).symm)
    show (b.val * 64 + t.val) * 4096 + (512 * g.val + j.val) = ((b.val * 64 + t.val) * 8 + g.val) * 512 + j.val
    omega
  refine congrArg₂ (fun x y : EReal => x * y) ?_ ?_
  · have ec : chn g j = chp g ⟨j.val / 64, by omega⟩ ⟨j.val % 64, Nat.mod_lt _ (by decide)⟩ :=
      Fin.ext (by show 512 * g.val + j.val = 512 * g.val + 64 * (j.val / 64) + j.val % 64; omega)
    rw [ec]
    generalize (⟨j.val / 64, by omega⟩ : Fin 8) = e
    generalize (⟨j.val % 64, Nat.mod_lt _ (by decide)⟩ : Fin 64) = p
    have hp := p.isLt; have he := e.isLt
    refine (shapeCast_apply _ _ _ (ix5 b t g e p) ?_).trans ?_
    · refine (Shape.rowMajor_val_five _).trans (Eq.trans ?_ (Shape.rowMajor_val_three _).symm)
      show (((b.val * 64 + t.val) * 8 + g.val) * 8 + e.val) * 64 + p.val = (b.val * 64 + t.val) * 4096 + (512 * g.val + 64 * e.val + p.val)
      omega
    have h43 := v43_apply V0 b t g e p
    have h45 : ∀ s n, res_main_v45 V0 (ix4 b s g n) = _ := fun s n => v45_apply V0 b s g n
    have h47 : ∀ n, res_main_v47 V0 (ix4 b t g n) = _ := fun n => v47_apply V0 b t g n
    have h57 : ∀ n, res_main_v57 V0 (ix5 b g e p n) = _ := fun n => v57_apply V0 b g e p n
    have h61 : ∀ s, res_main_v61 V0 (ix4 b s g e) = _ := fun s => v61_apply V0 b s g e
    have h74 : ∀ s, res_main_v74 V0 (ix5 b s g e p) = _ := fun s => v74_apply V0 b s g e p
    unfold rY yS
    rw [hd_chp, gr_chp]
    simp only [← h45, ← h47, ← h57, ← h61, ← h43, R7]
    simp only [rX]
    generalize res_main_v43 V0 = w43 at *
    generalize res_main_v45 V0 = w45 at *
    generalize res_main_v47 V0 = w47 at *
    generalize res_main_v57 V0 = w57 at *
    generalize res_main_v61 V0 = w61 at *
    generalize res_main_v74 V0 = w74 at *
    generalize V0 (Proc.devRef .tc main_arg7) = a7
    pointwise
    simp only [tril_bit, sel_ite, h74, Nat.mul_comm _ 8]
    refine congrArg₂ (fun x y : EReal => x + y) (congrArg₂ (fun x y : EReal => x + y) (Finset.sum_congr rfl fun s _ => ?_) ?_) ?_
    · rw [mul_comm, ← mul_assoc, mul_right_comm]
      refine congrArg (fun x : EReal => x * _ * _ * _) (Finset.sum_congr rfl fun n _ => mul_comm (G := EReal) _ _)
    · exact congrArg (fun x : EReal => x * _) (Finset.sum_congr rfl fun n _ => mul_comm (G := EReal) _ _)
    · rw [hd_chp]; rfl
  · unfold res_main_v3 ZA siluE R0
    generalize V0 (Proc.devRef .tc main_arg0) = a0
    pointwise

/-- Over the reals a rounding is the identity. -/
theorem trunc_at {s : Shape} (x : FVec Ideal s .f32) (h : FTy.bf16.bits < FTy.f32.bits) (i : s.Idx) : (truncf .bf16 x h i : EReal) = x i := rfl

theorem refY_apply (b : Fin 8) (t : Fin 64) (l : Fin 4096) :
    (val3 V0 (Proc.devRef .tc main_v128) : S8x64x4096.Idx → EReal) (ix3 b t l)
      = yA (R0 V0) (R1 V0) (R2 V0) (R3 V0) (R4 V0) (R5 V0) (R6 V0) (R7 V0) (R8 V0) b t l := by
  have hl := l.isLt
  have el : l = chn (gr l) ⟨l.val % 512, Nat.mod_lt _ (by decide)⟩ := Fin.ext (by show l.val = 512 * (l.val / 512) + l.val % 512; omega)
  have h112 : ∀ k, res_main_v112 V0 (ix4 b t (gr l) k) = _ := fun k => v112_apply V0 b t (gr l) k
  unfold yA oS
  generalize hg : gr l = g at *
  generalize (⟨l.val % 512, Nat.mod_lt _ (by decide)⟩ : Fin 512) = j at el
  subst el
  have hgl := g.isLt; have hj := j.isLt
  refine (congrFun (val3_main_v128 V0) _).trans ?_
  refine (trunc_at _ _ _).trans ?_
  refine (shapeCast_apply _ _ _ (ix4 b t g j) ?_).trans ?_
  · refine (Shape.rowMajor_val_four _).trans (Eq.trans ?_ (Shape.rowMajor_val_three _).symm)
    show ((b.val * 64 + t.val) * 8 + g.val) * 512 + j.val = (b.val * 64 + t.val) * 4096 + (512 * g.val + j.val)
    omega
  simp only [← h112]
  unfold R8
  generalize res_main_v112 V0 = w
  generalize V0 (Proc.devRef .tc main_arg8) = a8
  unfold chn
  pointwise
  simp only [Nat.mul_comm 512]

theorem refN_apply (b : Fin 8) (l : Fin 4096) (n : Fin 128) :
    (val3 V0 (Proc.devRef .tc main_v129) : S8x4096x128.Idx → EReal) (ix3 b l n)
      = nA (R0 V0) (R1 V0) (R2 V0) (R3 V0) (R4 V0) (R5 V0) (R6 V0) b l n := by
  have hl := l.isLt
  have el : l = chp ⟨l.val / 512, by omega⟩ ⟨l.val / 64 % 8, Nat.mod_lt _ (by decide)⟩ ⟨l.val % 64, Nat.mod_lt _ (by decide)⟩ :=
    Fin.ext (by show l.val = 512 * (l.val / 512) + 64 * (l.val / 64 % 8) + l.val % 64; omega)
  generalize (⟨l.val / 512, by omega⟩ : Fin 8) = g at el
  generalize (⟨l.val / 64 % 8, Nat.mod_lt _ (by decide)⟩ : Fin 8) = e at el
  generalize (⟨l.val % 64, Nat.mod_lt _ (by decide)⟩ : Fin 64) = p at el
  subst el
  have hg := g.isLt; have he := e.isLt; have hp := p.isLt; have hb := b.isLt
  refine (congrFun (val3_main_v129 V0) _).trans ?_
  refine (shapeCast_apply _ _ _ (ix5 b g e p n) ?_).trans ?_
  · refine (Shape.rowMajor_val_five _).trans (Eq.trans ?_ (Shape.rowMajor_val_three _).symm)
    show (((b.val * 8 + g.val) * 8 + e.val) * 64 + p.val) * 128 + n.val = (b.val * 4096 + (512 * g.val + 64 * e.val + p.val)) * 128 + n.val
    omega
  have h45 : ∀ s, res_main_v45 V0 (ix4 b s g n) = _ := fun s => v45_apply V0 b s g n
  have h57 := v57_apply V0 b g e p n
  have h61 : ∀ s, res_main_v61 V0 (ix4 b s g e) = _ := fun s => v61_apply V0 b s g e
  have h74 : ∀ s, res_main_v74 V0 (ix5 b s g e p) = _ := fun s => v74_apply V0 b s g e p
  unfold nA nS
  rw [hd_chp, gr_chp]
  simp only [← h45, ← h57, ← h61, ← h74]
  generalize res_main_v45 V0 = w45
  generalize res_main_v57 V0 = w57
  generalize res_main_v61 V0 = w61
  generalize res_main_v74 V0 = w74
  pointwise
  refine congrArg₂ (fun x y : EReal => x + y) (mul_comm (G := EReal) _ _) (Finset.sum_congr rfl fun s _ => ?_)
  exact (mul_comm (G := EReal) _ _).trans (congrArg (fun x : EReal => _ * x) (mul_comm (G := EReal) _ _))

end Ref

/-! ### The arrays of the two results -/

section Arrays
variable (a0 : (⟨3, ![8, 64, 20736]⟩ : Shape).Idx → EReal) (a1 : (⟨3, ![8, 3, 6144]⟩ : Shape).Idx → EReal)
  (a2 : (⟨4, ![8, 64, 64, 128]⟩ : Shape).Idx → EReal) (a3 : (⟨2, ![4, 6144]⟩ : Shape).Idx → EReal)
  (a4 : (⟨1, ![6144]⟩ : Shape).Idx → EReal) (a5 a6 a7 : (⟨1, ![64]⟩ : Shape).Idx → EReal) (a8 : (⟨1, ![4096]⟩ : Shape).Idx → EReal)

def GY : (⟨3, ![8, 64, 4096]⟩ : Shape).Idx → EReal := fun i => yA a0 a1 a2 a3 a4 a5 a6 a7 a8 (i 0) (i 1) (i 2)
def GN : (⟨3, ![8, 4096, 128]⟩ : Shape).Idx → EReal := fun i => nA a0 a1 a2 a3 a4 a5 a6 (i 0) (i 1) (i 2)
end Arrays

section Run
open Cert.ReferenceIdeal Cert.ReferenceIdeal.Gen Cert.ReferenceIdeal.Value

variable (m : (ℓ : Loc nD τ sig) → Buf (Elt Ideal) ℓ) (ρ : Dev nD → PrngReg)

theorem refY_eq (V0 : Valuation τ sig (Elt Ideal)) : (val3 V0 (Proc.devRef .tc main_v128) : S8x64x4096.Idx → EReal)
    = GY (R0 V0) (R1 V0) (R2 V0) (R3 V0) (R4 V0) (R5 V0) (R6 V0) (R7 V0) (R8 V0) := by
  funext i
  obtain ⟨b, t, l, rfl⟩ : ∃ (b : Fin 8) (t : Fin 64) (l : Fin 4096), i = ix3 b t l := ⟨i 0, i 1, i 2, eq_ix3 i⟩
  exact refY_apply V0 b t l

theorem refN_eq (V0 : Valuation τ sig (Elt Ideal)) : (val3 V0 (Proc.devRef .tc main_v129) : S8x4096x128.Idx → EReal)
    = GN (R0 V0) (R1 V0) (R2 V0) (R3 V0) (R4 V0) (R5 V0) (R6 V0) := by
  funext i
  obtain ⟨b, l, n, rfl⟩ : ∃ (b : Fin 8) (l : Fin 4096) (n : Fin 128), i = ix3 b l n := ⟨i 0, i 1, i 2, eq_ix3 i⟩
  exact refN_apply V0 b l n

/-- The reference's run, with its results read. -/
theorem ref_run : θ_run defs (onTc (τ := τ) (main (F := Ideal))) ⟨m, fun _ => 0, ρ⟩ fun r => ∀ c : Dev nD,
      r.2.mem ((c.tc : Thread nD τ).loc main_v128) = GY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v129) = GN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val3_main_v128 _).symm.trans (refY_eq _)),
    (h c).2.1.trans ((val3_main_v129 _).symm.trans (refN_eq _)), (h c).2.2⟩) (Value.run m ρ)

end Run

end Cert.Proof.Ssd

end
-- ==== Proof.Ssd.lean ====
/- The scan: every block the call's windows stage, read from the nine arguments; a sequence's two blocks as the formulas;
   the blocks together as the two results; and the claim. -/
module

public import proofs.«01_k».proof.Defs
public import proofs.«01_k».proof.Proof.SsdSpec
public import proofs.«01_k».proof.Proof.SsdHost
public import proofs.«01_k».proof.Proof.SsdRef

@[expose] public section

set_option maxRecDepth 16384

noncomputable section

open Idealize.ShloMosaic Idealize.ShloMosaic.TcCoe Idealize.SL.Sem
open scoped BigOperators

namespace Cert.Proof.Ssd

section Kernel
open Cert.KernelIdeal Cert.KernelIdeal.Gen

variable (m : (ℓ : Loc nD τ sig) → Buf (Elt Ideal) ℓ) (c : Dev nD)

/-- The sequence a point works on. -/
def sq (t : Fin cfg0.N) : Fin 8 := ⟨t.val, by have h : cfg0.N = 8 := N_0; have := t.isLt; omega⟩

/-! ### Where each window's block lies -/

theorem hi0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem hi1 : ∀ t : Fin cfg0.N, win0_1.index t 0 = t.val ∧ win0_1.index t 1 = 0 ∧ win0_1.index t 2 = 1 :=
  (by decide +kernel : ∀ t : Fin grid0.N, win0_1.index t 0 = t.val ∧ win0_1.index t 1 = 0 ∧ win0_1.index t 2 = 1)
theorem hi2 : ∀ t : Fin cfg0.N, win0_2.index t 0 = t.val ∧ win0_2.index t 1 = 0 ∧ win0_2.index t 2 = 6 :=
  (by decide +kernel : ∀ t : Fin grid0.N, win0_2.index t 0 = t.val ∧ win0_2.index t 1 = 0 ∧ win0_2.index t 2 = 6)
theorem hi3 : ∀ t : Fin cfg0.N, win0_3.index t 0 = t.val ∧ win0_3.index t 1 = 0 ∧ win0_3.index t 2 = 80 :=
  (by decide +kernel : ∀ t : Fin grid0.N, win0_3.index t 0 = t.val ∧ win0_3.index t 1 = 0 ∧ win0_3.index t 2 = 80)
theorem hi4 : ∀ t : Fin cfg0.N, win0_4.index t 0 = 0 ∧ win0_4.index t 1 = 0 :=
  (by decide +kernel : ∀ t : Fin grid0.N, win0_4.index t 0 = 0 ∧ win0_4.index t 1 = 0)
theorem hi5 : ∀ t : Fin cfg0.N, win0_5.index t 0 = 0 ∧ win0_5.index t 1 = 0 :=
  (by decide +kernel : ∀ t : Fin grid0.N, win0_5.index t 0 = 0 ∧ win0_5.index t 1 = 0)
theorem hi6 : ∀ t : Fin cfg0.N, win0_6.index t 0 = 0 ∧ win0_6.index t 1 = 0 :=
  (by decide +kernel : ∀ t : Fin grid0.N, win0_6.index t 0 = 0 ∧ win0_6.index t 1 = 0)
theorem hi7 : ∀ t : Fin cfg0.N, win0_7.index t 0 = 0 ∧ win0_7.index t 1 = 0 :=
  (by decide +kernel : ∀ t : Fin grid0.N, win0_7.index t 0 = 0 ∧ win0_7.index t 1 = 0)
theorem hi8 : ∀ t : Fin cfg0.N, win0_8.index t 0 = 0 ∧ win0_8.index t 1 = 0 :=
  (by decide +kernel : ∀ t : Fin grid0.N, win0_8.index t 0 = 0 ∧ win0_8.index t 1 = 0)
theorem hi9 : ∀ t : Fin cfg0.N, win0_9.index t 0 = 0 ∧ win0_9.index t 1 = 0 :=
  (by decide +kernel : ∀ t : Fin grid0.N, win0_9.index t 0 = 0 ∧ win0_9.index t 1 = 0)
theorem hi10 : ∀ t : Fin cfg0.N, win0_10.index t 0 = 0 ∧ win0_10.index t 1 = 0 :=
  (by decide +kernel : ∀ t : Fin grid0.N, win0_10.index t 0 = 0 ∧ win0_10.index t 1 = 0)
theorem hi11 : ∀ t : Fin cfg0.N, win0_11.index t 0 = 0 ∧ win0_11.index t 1 = 0 :=
  (by decide +kernel : ∀ t : Fin grid0.N, win0_11.index t 0 = 0 ∧ win0_11.index t 1 = 0)
theorem hi12 : ∀ t : Fin cfg0.N, win0_12.index t 0 = 0 ∧ win0_12.index t 1 = 0 :=
  (by decide +kernel : ∀ t : Fin grid0.N, win0_12.index t 0 = 0 ∧ win0_12.index t 1 = 0)
theorem hi13 : ∀ t : Fin cfg0.N, win0_13.index t 0 = 0 ∧ win0_13.index t 1 = 0 :=
  (by decide +kernel : ∀ t : Fin grid0.N, win0_13.index t 0 = 0 ∧ win0_13.index t 1 = 0)
theorem hi14 : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)
theorem hi15 : ∀ t : Fin cfg0.N, win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0)
theorem hi16 : ∀ t : Fin cfg0.N, win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0)
theorem hi17 : ∀ t : Fin cfg0.N, win0_17.index t 0 = t.val ∧ win0_17.index t 1 = 0 ∧ win0_17.index t 2 = 0 :=
  (by decide +kernel : ∀ t : Fin grid0.N, win0_17.index t 0 = t.val ∧ win0_17.index t 1 = 0 ∧ win0_17.index t 2 = 0)
theorem hi18 : ∀ t : Fin cfg0.N, win0_18.index t 0 = t.val ∧ win0_18.index t 1 = 0 ∧ win0_18.index t 2 = 0 :=
  (by decide +kernel : ∀ t : Fin grid0.N, win0_18.index t 0 = t.val ∧ win0_18.index t 1 = 0 ∧ win0_18.index t 2 = 0)

/-! ### The staged blocks at an index -/

theorem X0_apply (t : Fin cfg0.N) (r : Fin 64) (l : Fin 4096) : (X0_0 m c t : S1x64x4096.Idx → EReal) (ix3 0 r l) = A0 m c (ix3 (sq t) r ⟨l.val, by have := l.isLt; omega⟩) := by
  obtain ⟨h0, h1, h2⟩ := hi0 t
  unfold A0
  rw [← V_main_arg0 m c]
  unfold X0_0 Pipeline.Window.fill
  rw [dif_pos (moved0_0 t _)]
  show V m c main_arg0 _ = V m c main_arg0 _
  congr 1; funext a; apply Fin.ext
  match a with
  | ⟨0, _⟩ => show win0_0.index t 0 * 1 + 1 * 0 = t.val; rw [h0]; omega
  | ⟨1, _⟩ => show win0_0.index t 1 * 64 + 1 * r.val = r.val; rw [h1]; omega
  | ⟨2, _⟩ => show win0_0.index t 2 * 4096 + 1 * l.val = l.val; rw [h2]; omega
theorem X1_apply (t : Fin cfg0.N) (r : Fin 64) (l : Fin 4096) : (X0_1 m c t : S1x64x4096.Idx → EReal) (ix3 0 r l) = A0 m c (ix3 (sq t) r ⟨4096 + l.val, by have := l.isLt; omega⟩) := by
  obtain ⟨h0, h1, h2⟩ := hi1 t
  unfold A0
  rw [← V_main_arg0 m c]
  unfold X0_1 Pipeline.Window.fill
  rw [dif_pos (moved0_1 t _)]
  show V m c main_arg0 _ = V m c main_arg0 _
  congr 1; funext a; apply Fin.ext
  match a with
  | ⟨0, _⟩ => show win0_1.index t 0 * 1 + 1 * 0 = t.val; rw [h0]; omega
  | ⟨1, _⟩ => show win0_1.index t 1 * 64 + 1 * r.val = r.val; rw [h1]; omega
  | ⟨2, _⟩ => show win0_1.index t 2 * 4096 + 1 * l.val = 4096 + l.val; rw [h2]; omega
theorem X2_apply (t : Fin cfg0.N) (r : Fin 64) (l : Fin 2048) : (X0_2 m c t : S1x64x2048.Idx → EReal) (ix3 0 r l) = A0 m c (ix3 (sq t) r ⟨12288 + l.val, by have := l.isLt; omega⟩) := by
  obtain ⟨h0, h1, h2⟩ := hi2 t
  unfold A0
  rw [← V_main_arg0 m c]
  unfold X0_2 Pipeline.Window.fill
  rw [dif_pos (moved0_2 t _)]
  show V m c main_arg0 _ = V m c main_arg0 _
  congr 1; funext a; apply Fin.ext
  match a with
  | ⟨0, _⟩ => show win0_2.index t 0 * 1 + 1 * 0 = t.val; rw [h0]; omega
  | ⟨1, _⟩ => show win0_2.index t 1 * 64 + 1 * r.val = r.val; rw [h1]; omega
  | ⟨2, _⟩ => show win0_2.index t 2 * 2048 + 1 * l.val = 12288 + l.val; rw [h2]; omega
theorem X3_apply (t : Fin cfg0.N) (r : Fin 64) (l : Fin 256) : (iblk m c 3 t : S1x64x256.Idx → EReal) (ix3 0 r l) = A0 m c (ix3 (sq t) r ⟨20480 + l.val, by have := l.isLt; omega⟩) := by
  obtain ⟨h0, h1, h2⟩ := hi3 t
  unfold A0
  rw [← V_main_arg0 m c]
  show V m c main_arg0 _ = V m c main_arg0 _
  congr 1; funext a; apply Fin.ext
  match a with
  | ⟨0, _⟩ => show win0_3.index t 0 * 1 + 1 * 0 = t.val; rw [h0]; omega
  | ⟨1, _⟩ => show win0_3.index t 1 * 64 + 1 * r.val = r.val; rw [h1]; omega
  | ⟨2, _⟩ => show win0_3.index t 2 * 256 + 1 * l.val = 20480 + l.val; rw [h2]; omega
theorem iblk4_apply (t : Fin cfg0.N) (i : Fin 4) (l : Fin 4096) : (iblk m c 4 t : S4x4096.Idx → EReal) (ix2 i l) = (V m c main_v21 : S4x4096.Idx → EReal) (ix2 i l) := by
  obtain ⟨h0, h1⟩ := hi4 t
  show V m c main_v21 _ = V m c main_v21 _
  congr 1; funext a; apply Fin.ext
  match a with
  | ⟨0, _⟩ => show win0_4.index t 0 * 4 + 1 * i.val = i.val; rw [h0]; omega
  | ⟨1, _⟩ => show win0_4.index t 1 * 4096 + 1 * l.val = l.val; rw [h1]; omega
theorem iblk5_apply (t : Fin cfg0.N) (i : Fin 1) (l : Fin 4096) : (iblk m c 5 t : S1x4096.Idx → EReal) (ix2 i l) = (V m c main_v24 : S1x4096.Idx → EReal) (ix2 i l) := by
  obtain ⟨h0, h1⟩ := hi5 t
  show V m c main_v24 _ = V m c main_v24 _
  congr 1; funext a; apply Fin.ext
  match a with
  | ⟨0, _⟩ => show win0_5.index t 0 * 1 + 1 * i.val = i.val; rw [h0]; omega
  | ⟨1, _⟩ => show win0_5.index t 1 * 4096 + 1 * l.val = l.val; rw [h1]; omega
theorem iblk6_apply (t : Fin cfg0.N) (i : Fin 4) (l : Fin 2048) : (iblk m c 6 t : S4x2048.Idx → EReal) (ix2 i l) = (V m c main_v22 : S4x2048.Idx → EReal) (ix2 i l) := by
  obtain ⟨h0, h1⟩ := hi6 t
  show V m c main_v22 _ = V m c main_v22 _
  congr 1; funext a; apply Fin.ext
  match a with
  | ⟨0, _⟩ => show win0_6.index t 0 * 4 + 1 * i.val = i.val; rw [h0]; omega
  | ⟨1, _⟩ => show win0_6.index t 1 * 2048 + 1 * l.val = l.val; rw [h1]; omega
theorem iblk7_apply (t : Fin cfg0.N) (i : Fin 1) (l : Fin 2048) : (iblk m c 7 t : S1x2048.Idx → EReal) (ix2 i l) = (V m c main_v26 : S1x2048.Idx → EReal) (ix2 i l) := by
  obtain ⟨h0, h1⟩ := hi7 t
  show V m c main_v26 _ = V m c main_v26 _
  congr 1; funext a; apply Fin.ext
  match a with
  | ⟨0, _⟩ => show win0_7.index t 0 * 1 + 1 * i.val = i.val; rw [h0]; omega
  | ⟨1, _⟩ => show win0_7.index t 1 * 2048 + 1 * l.val = l.val; rw [h1]; omega
theorem iblk8_apply (t : Fin cfg0.N) (i : Fin 1) (l : Fin 64) : (iblk m c 8 t : S1x64.Idx → EReal) (ix2 i l) = (V m c main_v32 : S1x64.Idx → EReal) (ix2 i l) := by
  obtain ⟨h0, h1⟩ := hi8 t
  show V m c main_v32 _ = V m c main_v32 _
  congr 1; funext a; apply Fin.ext
  match a with
  | ⟨0, _⟩ => show win0_8.index t 0 * 1 + 1 * i.val = i.val; rw [h0]; omega
  | ⟨1, _⟩ => show win0_8.index t 1 * 64 + 1 * l.val = l.val; rw [h1]; omega
theorem iblk9_apply (t : Fin cfg0.N) (i : Fin 1) (l : Fin 64) : (iblk m c 9 t : S1x64.Idx → EReal) (ix2 i l) = (V m c main_v38 : S1x64.Idx → EReal) (ix2 i l) := by
  obtain ⟨h0, h1⟩ := hi9 t
  show V m c main_v38 _ = V m c main_v38 _
  congr 1; funext a; apply Fin.ext
  match a with
  | ⟨0, _⟩ => show win0_9.index t 0 * 1 + 1 * i.val = i.val; rw [h0]; omega
  | ⟨1, _⟩ => show win0_9.index t 1 * 64 + 1 * l.val = l.val; rw [h1]; omega
theorem iblk10_apply (t : Fin cfg0.N) (i : Fin 1) (l : Fin 4096) : (iblk m c 10 t : S1x4096.Idx → EReal) (ix2 i l) = (V m c main_v41 : S1x4096.Idx → EReal) (ix2 i l) := by
  obtain ⟨h0, h1⟩ := hi10 t
  show V m c main_v41 _ = V m c main_v41 _
  congr 1; funext a; apply Fin.ext
  match a with
  | ⟨0, _⟩ => show win0_10.index t 0 * 1 + 1 * i.val = i.val; rw [h0]; omega
  | ⟨1, _⟩ => show win0_10.index t 1 * 4096 + 1 * l.val = l.val; rw [h1]; omega
theorem iblk11_apply (t : Fin cfg0.N) (i : Fin 1) (l : Fin 4096) : (iblk m c 11 t : S1x4096.Idx → EReal) (ix2 i l) = (V m c main_v42 : S1x4096.Idx → EReal) (ix2 i l) := by
  obtain ⟨h0, h1⟩ := hi11 t
  show V m c main_v42 _ = V m c main_v42 _
  congr 1; funext a; apply Fin.ext
  match a with
  | ⟨0, _⟩ => show win0_11.index t 0 * 1 + 1 * i.val = i.val; rw [h0]; omega
  | ⟨1, _⟩ => show win0_11.index t 1 * 4096 + 1 * l.val = l.val; rw [h1]; omega
theorem iblk12_apply (t : Fin cfg0.N) (i : Fin 64) (l : Fin 4096) : (iblk m c 12 t : S64x4096.Idx → EReal) (ix2 i l) = (V m c main_v20 : S64x4096.Idx → EReal) (ix2 i l) := by
  obtain ⟨h0, h1⟩ := hi12 t
  show V m c main_v20 _ = V m c main_v20 _
  congr 1; funext a; apply Fin.ext
  match a with
  | ⟨0, _⟩ => show win0_12.index t 0 * 64 + 1 * i.val = i.val; rw [h0]; omega
  | ⟨1, _⟩ => show win0_12.index t 1 * 4096 + 1 * l.val = l.val; rw [h1]; omega
theorem iblk13_apply (t : Fin cfg0.N) (i : Fin 64) (l : Fin 64) : (iblk m c 13 t : S64x64.Idx → EReal) (ix2 i l) = (V m c main_cst : S64x64.Idx → EReal) (ix2 i l) := by
  obtain ⟨h0, h1⟩ := hi13 t
  show V m c main_cst _ = V m c main_cst _
  congr 1; funext a; apply Fin.ext
  match a with
  | ⟨0, _⟩ => show win0_13.index t 0 * 64 + 1 * i.val = i.val; rw [h0]; omega
  | ⟨1, _⟩ => show win0_13.index t 1 * 64 + 1 * l.val = l.val; rw [h1]; omega
theorem iblk14_apply (t : Fin cfg0.N) (u : Fin 3) (l : Fin 4096) :
    (iblk m c 14 t : S1x3x4096.Idx → EReal) (ix3 0 u l) = (V m c main_v43 : S8x3x4096.Idx → EReal) (ix3 (sq t) u l) := by
  obtain ⟨h0, h1, h2⟩ := hi14 t
  show V m c main_v43 _ = V m c main_v43 _
  congr 1; funext a; apply Fin.ext
  match a with
  | ⟨0, _⟩ => show win0_14.index t 0 * 1 + 1 * 0 = t.val; rw [h0]; omega
  | ⟨1, _⟩ => show win0_14.index t 1 * 3 + 1 * u.val = u.val; rw [h1]; omega
  | ⟨2, _⟩ => show win0_14.index t 2 * 4096 + 1 * l.val = l.val; rw [h2]; omega
theorem iblk15_apply (t : Fin cfg0.N) (u : Fin 3) (l : Fin 2048) :
    (iblk m c 15 t : S1x3x2048.Idx → EReal) (ix3 0 u l) = (V m c main_v44 : S8x3x2048.Idx → EReal) (ix3 (sq t) u l) := by
  obtain ⟨h0, h1, h2⟩ := hi15 t
  show V m c main_v44 _ = V m c main_v44 _
  congr 1; funext a; apply Fin.ext
  match a with
  | ⟨0, _⟩ => show win0_15.index t 0 * 1 + 1 * 0 = t.val; rw [h0]; omega
  | ⟨1, _⟩ => show win0_15.index t 1 * 3 + 1 * u.val = u.val; rw [h1]; omega
  | ⟨2, _⟩ => show win0_15.index t 2 * 2048 + 1 * l.val = l.val; rw [h2]; omega
theorem iblk16_apply (t : Fin cfg0.N) (u : Fin 4096) (l : Fin 128) :
    (iblk m c 16 t : S1x4096x128.Idx → EReal) (ix3 0 u l) = (V m c main_v45 : S8x4096x128.Idx → EReal) (ix3 (sq t) u l) := by
  obtain ⟨h0, h1, h2⟩ := hi16 t
  show V m c main_v45 _ = V m c main_v45 _
  congr 1; funext a; apply Fin.ext
  match a with
  | ⟨0, _⟩ => show win0_16.index t 0 * 1 + 1 * 0 = t.val; rw [h0]; omega
  | ⟨1, _⟩ => show win0_16.index t 1 * 4096 + 1 * u.val = u.val; rw [h1]; omega
  | ⟨2, _⟩ => show win0_16.index t 2 * 128 + 1 * l.val = l.val; rw [h2]; omega

/-! ### The body's quantities are the arguments' -/

theorem xrow_eq (t : Fin cfg0.N) (o : ℕ) (ho : o ≤ 3) (r : Fin 64) (l : Fin 4096) :
    xrow (X0_0 m c t) (iblk m c 14 t) o ho r l = xrA (A0 m c) (A1 m c) (sq t) (r.val + o) (by have := r.isLt; omega) ⟨l.val, by have := l.isLt; omega⟩ := by
  unfold xrow xrA
  split_ifs with h h2
  · exact (iblk14_apply m c t _ l).trans (V43_apply m c _ _ l)
  · exact X0_apply m c t _ l
  · exact absurd l.isLt h2

theorem brow_eq (t : Fin cfg0.N) (o : ℕ) (ho : o ≤ 3) (r : Fin 64) (l : Fin 2048) :
    brow (X0_2 m c t) (iblk m c 15 t) o ho r l = xrA (A0 m c) (A1 m c) (sq t) (r.val + o) (by have := r.isLt; omega) ⟨4096 + l.val, by have := l.isLt; omega⟩ := by
  unfold brow xrA
  split_ifs with h h2
  · exact (iblk15_apply m c t _ l).trans (V44_apply m c _ _ l)
  · exact absurd (show 4096 + l.val < 4096 from h2) (by omega)
  · refine (X2_apply m c t _ l).trans (congrArg (fun q => A0 m c (ix3 (sq t) _ q)) (Fin.ext ?_))
    show 12288 + l.val = 12288 + (4096 + l.val - 4096); omega

theorem xcE_eq (t : Fin cfg0.N) :
    xcE (X0_0 m c t) (iblk m c 4 t) (iblk m c 5 t) (iblk m c 14 t) = XA (A0 m c) (A1 m c) (A3 m c) (A4 m c) (sq t) := by
  funext r l
  unfold xcE XA cA
  rw [xrow_eq, xrow_eq, xrow_eq, xrow_eq]
  have h5 : (iblk m c 5 t : S1x4096.Idx → EReal) (ix2 0 l) = _ := (iblk5_apply m c t 0 l).trans (V24_apply m c l)
  have h4 : ∀ i : Fin 4, (iblk m c 4 t : S4x4096.Idx → EReal) (ix2 i l) = _ := fun i => (iblk4_apply m c t i l).trans (V21_apply m c i l)
  rw [h5, h4, h4, h4, h4]

theorem bcE_eq (t : Fin cfg0.N) (r : Fin 64) (l : Fin 2048) : bcE (X0_2 m c t) (iblk m c 6 t) (iblk m c 7 t) (iblk m c 15 t) r l
    = cA (A0 m c) (A1 m c) (A3 m c) (A4 m c) (sq t) r ⟨4096 + l.val, by have := l.isLt; omega⟩ := by
  unfold bcE cA
  rw [brow_eq, brow_eq, brow_eq, brow_eq]
  have h7 : (iblk m c 7 t : S1x2048.Idx → EReal) (ix2 0 l) = _ := (iblk7_apply m c t 0 l).trans (V26_apply m c l)
  have h6 : ∀ i : Fin 4, (iblk m c 6 t : S4x2048.Idx → EReal) (ix2 i l) = _ := fun i => (iblk6_apply m c t i l).trans (V22_apply m c i l)
  rw [h7, h6, h6, h6, h6]

theorem kB_eq (t : Fin cfg0.N) : kB (X0_2 m c t) (iblk m c 6 t) (iblk m c 7 t) (iblk m c 15 t) = BA (A0 m c) (A1 m c) (A3 m c) (A4 m c) (sq t) := by
  funext r g n
  refine (bcE_eq m c t r _).trans (congrArg (cA _ _ _ _ _ r) (Fin.ext ?_))
  show 4096 + (128 * g.val + n.val) = 4096 + 128 * g.val + n.val; omega

theorem kC_eq (t : Fin cfg0.N) : kC (X0_2 m c t) (iblk m c 6 t) (iblk m c 7 t) (iblk m c 15 t) = CA (A0 m c) (A1 m c) (A3 m c) (A4 m c) (sq t) := by
  funext r g n
  refine (bcE_eq m c t r _).trans (congrArg (cA _ _ _ _ _ r) (Fin.ext ?_))
  show 4096 + (1024 + 128 * g.val + n.val) = 5120 + 128 * g.val + n.val; omega

theorem kDT_eq (t : Fin cfg0.N) : kDT (iblk m c 3 t) (iblk m c 8 t) = dtA (A0 m c) (A5 m c) (sq t) := by
  funext r h
  have hs := (slot h).isLt
  unfold kDT dtE dtA
  have h3 : (iblk m c 3 t : S1x64x256.Idx → EReal) (ix3 0 r ⟨(slot h).val, by omega⟩) = _ := X3_apply m c t r ⟨(slot h).val, by omega⟩
  have h8 : (iblk m c 8 t : S1x64.Idx → EReal) (ix2 0 (slot h)) = _ := (iblk8_apply m c t 0 (slot h)).trans (V32_apply m c h)
  dsimp only
  rw [h3, h8]

theorem kKS_eq (t : Fin cfg0.N) : kKS (iblk m c 3 t) (iblk m c 8 t) (iblk m c 9 t) (iblk m c 13 t) = ksA (A0 m c) (A5 m c) (A6 m c) (sq t) := by
  funext r h
  unfold kKS ksE ksA
  have h9 : (iblk m c 9 t : S1x64.Idx → EReal) (ix2 0 (slot h)) = _ := (iblk9_apply m c t 0 (slot h)).trans (V38_apply m c h)
  have h13 : ∀ j, (iblk m c 13 t : S64x64.Idx → EReal) (ix2 r j) = _ := fun j => (iblk13_apply m c t r j).trans (Vcst_apply m c r j)
  refine Finset.sum_congr rfl fun j _ => ?_
  rw [h9, h13]
  exact congrArg (fun x : EReal => _ * (x * _)) (congrFun (congrFun (kDT_eq m c t) j) h)

theorem st_eq (t : Fin cfg0.N) : (fun (l : Fin 4096) (n : Fin 128) => (iblk m c 16 t : S1x4096x128.Idx → EReal) (ix3 0 l n)) = SA (A2 m c) (sq t) := by
  funext l n; exact (iblk16_apply m c t l n).trans (V45_apply m c _ l n)
theorem dk_eq (t : Fin cfg0.N) : (fun l : Fin 4096 => (iblk m c 10 t : S1x4096.Idx → EReal) (ix2 0 l)) = fun l => A7 m c (ix1 (hd l)) := by
  funext l; exact (iblk10_apply m c t 0 l).trans (V41_apply m c l)
theorem gain_eq (t : Fin cfg0.N) : (fun l : Fin 4096 => (iblk m c 11 t : S1x4096.Idx → EReal) (ix2 0 l)) = fun l => A8 m c (ix1 l) := by
  funext l; exact (iblk11_apply m c t 0 l).trans (V42_apply m c l)
theorem gate_eq (t : Fin cfg0.N) : (fun (r : Fin 64) (l : Fin 4096) => (X0_1 m c t : S1x64x4096.Idx → EReal) (ix3 0 r l)) = ZA (A0 m c) (sq t) := by
  funext r l; exact X1_apply m c t r l
theorem ex_eq (t : Fin cfg0.N) (q : Fin 64) (l : Fin 4096) : (iblk m c 12 t : S64x4096.Idx → EReal) (ix2 q l) = if q = slot (hd l) then (1 : EReal) else 0 :=
  (iblk12_apply m c t q l).trans (V20_apply m c q l)

/-! ### The two results -/

abbrev outY : S8x64x4096.Idx → EReal := GY (A0 m c) (A1 m c) (A2 m c) (A3 m c) (A4 m c) (A5 m c) (A6 m c) (A7 m c) (A8 m c)
abbrev outN : S8x4096x128.Idx → EReal := GN (A0 m c) (A1 m c) (A2 m c) (A3 m c) (A4 m c) (A5 m c) (A6 m c)

theorem chn_gr (l : Fin 4096) : chn (gr l) ⟨l.val % 512, Nat.mod_lt _ (by decide)⟩ = l :=
  Fin.ext (by show 512 * (l.val / 512) + l.val % 512 = l.val; omega)

theorem blkY (t : Fin cfg0.N) (r : Fin 64) (l : Fin 4096) :
    at17 (outG (X0_0 m c t) (X0_1 m c t) (X0_2 m c t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t)) (ix3 0 r l)
    = yA (A0 m c) (A1 m c) (A2 m c) (A3 m c) (A4 m c) (A5 m c) (A6 m c) (A7 m c) (A8 m c) (sq t) r l := by
  refine (at17_eq _ (gr l).val (gr l).isLt _ r ⟨l.val % 512, Nat.mod_lt _ (by decide)⟩ rfl ?_).trans ?_
  · show l.val = 512 * (l.val / 512) + l.val % 512; omega
  refine (outG_apply _ _ _ _ _ _ _ _ _ _ _ _ _ _ _ _ _ (ex_eq m c t) (gr l) r _).trans ?_
  rw [chn_gr, xcE_eq, kB_eq, kC_eq, kDT_eq, kKS_eq]
  unfold yA
  exact congrArg (fun f => f r l) (congr (congr (congrArg oS (congr (congrArg _ (st_eq m c t)) (dk_eq m c t))) (gate_eq m c t)) (gain_eq m c t))

theorem blkN (t : Fin cfg0.N) (l : Fin 4096) (n : Fin 128) :
    at18 (newG (X0_0 m c t) (X0_2 m c t) (iblk m c 3 t) (iblk m c 4 t) (iblk m c 5 t) (iblk m c 6 t) (iblk m c 7 t) (iblk m c 8 t)
      (iblk m c 9 t) (iblk m c 12 t) (iblk m c 13 t) (iblk m c 14 t) (iblk m c 15 t) (iblk m c 16 t)) (ix3 0 l n)
    = nA (A0 m c) (A1 m c) (A2 m c) (A3 m c) (A4 m c) (A5 m c) (A6 m c) (sq t) l n := by
  refine (at18_eq _ (gr l).val (gr l).isLt _ ⟨l.val % 512, Nat.mod_lt _ (by decide)⟩ n rfl ?_).trans ?_
  · show l.val = 512 * (l.val / 512) + l.val % 512; omega
  refine (newG_apply _ _ _ _ _ _ _ _ _ _ _ _ _ _ (ex_eq m c t) (gr l) _ n).trans ?_
  rw [chn_gr, xcE_eq, kB_eq, kDT_eq, kKS_eq]
  unfold nA
  exact congrArg (fun S => nS _ _ _ _ S l n) (st_eq m c t)

/-- What a point writes back is its sequence's block of each result. -/
theorem flushed17_eq (t : Fin cfg0.N) : (dats m 0 c).flushed 17 t = ((cfg0.win 17).blk t).view.read (Elt Ideal) (outY m c) := by
  obtain ⟨h0, h1, h2⟩ := hi17 t
  rw [Value.flushed17_A, out17_eq]
  funext i
  obtain ⟨u, r, l, rfl⟩ : ∃ (u : Fin 1) (r : Fin 64) (l : Fin 4096), i = ix3 u r l := ⟨i 0, i 1, i 2, eq_ix3 i⟩
  obtain rfl : u = 0 := Subsingleton.elim _ _
  refine (blkY m c t r l).trans ?_
  show outY m c (ix3 (sq t) r l) = outY m c _
  congr 1; funext a; apply Fin.ext
  match a with
  | ⟨0, _⟩ => show t.val = win0_17.index t 0 * 1 + 1 * 0; rw [h0]; omega
  | ⟨1, _⟩ => show r.val = win0_17.index t 1 * 64 + 1 * r.val; rw [h1]; omega
  | ⟨2, _⟩ => show l.val = win0_17.index t 2 * 4096 + 1 * l.val; rw [h2]; omega

theorem flushed18_eq (t : Fin cfg0.N) : (dats m 0 c).flushed 18 t = ((cfg0.win 18).blk t).view.read (Elt Ideal) (outN m c) := by
  obtain ⟨h0, h1, h2⟩ := hi18 t
  rw [Value.flushed18_A, out18_eq]
  funext i
  obtain ⟨u, l, n, rfl⟩ : ∃ (u : Fin 1) (l : Fin 4096) (n : Fin 128), i = ix3 u l n := ⟨i 0, i 1, i 2, eq_ix3 i⟩
  obtain rfl : u = 0 := Subsingleton.elim _ _
  refine (blkN m c t l n).trans ?_
  show outN m c (ix3 (sq t) l n) = outN m c _
  congr 1; funext a; apply Fin.ext
  match a with
  | ⟨0, _⟩ => show t.val = win0_18.index t 0 * 1 + 1 * 0; rw [h0]; omega
  | ⟨1, _⟩ => show l.val = win0_18.index t 1 * 4096 + 1 * l.val; rw [h1]; omega
  | ⟨2, _⟩ => show n.val = win0_18.index t 2 * 128 + 1 * n.val; rw [h2]; omega

/-- The blocks cover the arrays. -/
theorem cover17 (i : S8x64x4096.Idx) : ∃ t : Fin cfg0.N, (cfg0.win 17).flush t = true ∧ i ∈ ((cfg0.win 17).blk t).view.set := by
  have hN : cfg0.N = 8 := N_0
  have hi0 : (i 0 : Nat) < 8 := (i 0).isLt
  have hi1 : (i 1 : Nat) < 64 := (i 1).isLt
  have hi2 : (i 2 : Nat) < 4096 := (i 2).isLt
  obtain ⟨t, ht⟩ : ∃ t : Fin cfg0.N, t.val = (i 0 : Nat) := ⟨⟨_, by omega⟩, rfl⟩
  refine ⟨t, flush0_17 _, ?_⟩
  obtain ⟨h0, h1, h2⟩ := hi17 t
  show i ∈ ((View.whole main_v46_0).slice (win0_17.rect t)).set
  rw [View.set_slice_whole, Rect.mem_set_unit]
  intro a
  match a with
  | ⟨0, _⟩ => show win0_17.index t 0 * 1 ≤ (i 0 : Nat) ∧ (i 0 : Nat) < win0_17.index t 0 * 1 + 1
              rw [h0]; omega
  | ⟨1, _⟩ => show win0_17.index t 1 * 64 ≤ (i 1 : Nat) ∧ (i 1 : Nat) < win0_17.index t 1 * 64 + 64
              rw [h1]; omega
  | ⟨2, _⟩ => show win0_17.index t 2 * 4096 ≤ (i 2 : Nat) ∧ (i 2 : Nat) < win0_17.index t 2 * 4096 + 4096
              rw [h2]; omega

theorem cover18 (i : S8x4096x128.Idx) : ∃ t : Fin cfg0.N, (cfg0.win 18).flush t = true ∧ i ∈ ((cfg0.win 18).blk t).view.set := by
  have hN : cfg0.N = 8 := N_0
  have hi0 : (i 0 : Nat) < 8 := (i 0).isLt
  have hi1 : (i 1 : Nat) < 4096 := (i 1).isLt
  have hi2 : (i 2 : Nat) < 128 := (i 2).isLt
  obtain ⟨t, ht⟩ : ∃ t : Fin cfg0.N, t.val = (i 0 : Nat) := ⟨⟨_, by omega⟩, rfl⟩
  refine ⟨t, flush0_18 _, ?_⟩
  obtain ⟨h0, h1, h2⟩ := hi18 t
  show i ∈ ((View.whole main_v46_1).slice (win0_18.rect t)).set
  rw [View.set_slice_whole, Rect.mem_set_unit]
  intro a
  match a with
  | ⟨0, _⟩ => show win0_18.index t 0 * 1 ≤ (i 0 : Nat) ∧ (i 0 : Nat) < win0_18.index t 0 * 1 + 1
              rw [h0]; omega
  | ⟨1, _⟩ => show win0_18.index t 1 * 4096 ≤ (i 1 : Nat) ∧ (i 1 : Nat) < win0_18.index t 1 * 4096 + 4096
              rw [h1]; omega
  | ⟨2, _⟩ => show win0_18.index t 2 * 128 ≤ (i 2 : Nat) ∧ (i 2 : Nat) < win0_18.index t 2 * 128 + 128
              rw [h2]; omega

theorem final17 : (dats m 0 c).arrAt 17 cfg0.N = outY m c :=
  (dats m 0 c).arrAt_eq_of_cover 17 _ (fun t _ => flushed17_eq m c t) cover17
theorem final18 : (dats m 0 c).arrAt 18 cfg0.N = outN m c :=
  (dats m 0 c).arrAt_eq_of_cover 18 _ (fun t _ => flushed18_eq m c t) cover18

end Kernel

/-! ### The claim -/

theorem algebraic : Cert.algebraic_KernelIdeal_ReferenceIdeal := fun m ρ m' ρ' _ hag =>
  ⟨fun c => outY m c, fun c => outN m c,
    (θ_run _ _ _).mono (fun _ h c => ⟨(h c).1.trans (final17 m c), (h c).2.1.trans (final18 m c), (h c).2.2⟩) (Cert.KernelIdeal.Value.run_blocks m ρ),
    (θ_run _ _ _).mono (fun _ h c => ⟨(h c).1.trans (by
      obtain ⟨e0, e1, e2, e3, e4, e5, e6, e7, e8⟩ := hag c
      unfold outY A0 A1 A2 A3 A4 A5 A6 A7 A8
      rw [e0, e1, e2, e3, e4, e5, e6, e7, e8]), (h c).2.1.trans (by
      obtain ⟨e0, e1, e2, e3, e4, e5, e6, -, -⟩ := hag c
      unfold outN A0 A1 A2 A3 A4 A5 A6
      rw [e0, e1, e2, e3, e4, e5, e6]), (h c).2.2⟩) (ref_run m' ρ')⟩

end Cert.Proof.Ssd

end
-- ==== Proof.Inproj.lean ====
/- The value of the input projection: a row of the input normalized by its root mean square and scaled by the gain, times
   the projection weights. The kernel normalizes a block of rows once and keeps it while it passes over the weights'
   columns; the reference multiplies the whole arrays. Both results are read at an index and shown to be one function. -/
module

public import proofs.«01_k».proof.Defs
public import proofs.«01_k».proof.Proof.Gen.Kernel2Ideal.Value
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem
open scoped BigOperators

namespace Cert.Proof.Inproj

/-- A row divided by its root mean square and scaled by the gain. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The normalized row times one column of the weights. -/
def proj (x g w : Fin 2048 → EReal) : EReal := ∑ k : Fin 2048, nrm x g k * w k

/-- The row and the position in it of row `r` of the two batch axes taken as one. -/
def hiRow (r : Fin 32768) : Fin 8 := ⟨r.val / 4096, by have := r.isLt; omega⟩
def loRow (r : Fin 32768) : Fin 4096 := ⟨r.val % 4096, by omega⟩

/-- The two batch axes taken as one, read at an index. -/
theorem flat_apply {n : ℕ} {α : Type} (x : (⟨3, ![8, 4096, n]⟩ : Shape).Idx → α)
    (h : (⟨3, ![8, 4096, n]⟩ : Shape).ShapeCasts ⟨2, ![32768, n]⟩) (r : Fin 32768) (d : Fin n) :
    shapeCast ⟨2, ![32768, n]⟩ x h (ix2 r d) = x (ix3 (hiRow r) (loRow r) d) := by
  refine shapeCast_apply x h _ _ ?_
  rw [Shape.rowMajor_val_two, Shape.rowMajor_val_three]
  show (r.val / 4096 * 4096 + r.val % 4096) * n + d.val = r.val * n + d.val
  rw [Nat.div_add_mod']

/-- The result array, from the three arguments. -/
def G (x : (⟨3, ![8, 4096, 2048]⟩ : Shape).Idx → EReal) (g : (⟨1, ![2048]⟩ : Shape).Idx → EReal)
    (w : (⟨2, ![2048, 20736]⟩ : Shape).Idx → EReal) : (⟨2, ![32768, 20736]⟩ : Shape).Idx → EReal := fun i =>
  proj (fun k => x (ix3 (hiRow (i 0)) (loRow (i 0)) k)) (fun k => g (ix1 k)) (fun k => w (ix2 k (i 1)))

/-! ### The kernel -/

section Kernel
open Cert.Kernel2Ideal Cert.Kernel2Ideal.Gen

theorem hz : (![0, 0] : Fin 2 → Nat) = fun _ => 0 := funext fun a => by fin_cases a <;> rfl

/-- The normalized block at an index. -/
theorem pay1_apply (v8 : FVec Ideal S1024x2048 .f32) (v20 : FVec Ideal S1x2048 .f32) (r : Fin 1024) (k : Fin 2048) :
    k0_pay1 (F := Ideal) v8 v20 (ix2 r k) = nrm (fun k => v8 (ix2 r k)) (fun k => v20 (ix2 0 k)) k := by
  unfold nrm
  pointwise [k0_pay1]

/-- The product at an index. -/
theorem pay2_apply (v3 : FVec Ideal S1024x2048 .bf16) (v4 : FVec Ideal S2048x768 .bf16) (r : Fin 1024) (d : Fin 768) :
    k0_pay2 (F := Ideal) v3 v4 (ix2 r d) = ∑ k : Fin 2048, v3 (ix2 r k) * v4 (ix2 k d) := by
  pointwise [k0_pay2]

section Body
variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S1024x768 .f32) (h5 : a5.IsWhole)
  (a6 : Memref sig .tc .vmem S1024x2048 .bf16) (h6 : a6.IsWhole) (x0 : Vec Ideal S1024x2048 .f32) (x1 : Vec Ideal S1x2048 .f32)
  (x2 : Vec Ideal S2048x768 .bf16) (xs : Vec Ideal S1024x2048 .bf16)

/-- The first point of a block of rows stores the normalized block. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- It leaves the product of that block with the columns of the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.ld_unit_zero (S := S1024x2048) hz,
    View.ld_unit_zero (S := S1x2048) hz, View.ld_unit_zero (S := S2048x768) hz, View.readCov_unit_zero (S := S1024x2048) _ hz]

/-- The later points leave the product of the kept block with the columns of the weights. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread, View.ld_unit_zero (S := S1024x2048) hz,
    View.ld_unit_zero (S := S2048x768) hz]

end Body

variable (m : (ℓ : Loc nD τ sig) → Buf (Elt Ideal) ℓ) (c : Dev nD)

abbrev X0 : S8x4096x2048.Idx → EReal := m ((c : Thread nD τ).loc main_arg0)
abbrev G0 : S2048.Idx → EReal := m ((c : Thread nD τ).loc main_arg1)
abbrev W0 : S2048x20736.Idx → EReal := m ((c : Thread nD τ).loc main_arg2)

theorem V_x : V m c main_v0 = shapeCast S32768x2048 (X0 m c) shapeCasts_S8x4096x2048_S32768x2048 := by
  unfold V; after_results; rfl
theorem V_g : V m c main_v1 = fun i => G0 m c (ix1 (i 1)) := by
  unfold V; after_results; funext i; idx_vars i; pointwise
theorem V_w : V m c main_v2 = W0 m c := by
  unfold V; after_results; rfl

theorem hi : ∀ t : Fin cfg0.N, win0_0.index t 0 = t.val / 27 ∧ win0_0.index t 1 = 0 ∧ win0_1.index t 0 = 0 ∧ win0_1.index t 1 = 0
    ∧ win0_2.index t 0 = 0 ∧ win0_2.index t 1 = t.val % 27 ∧ win0_3.index t 0 = t.val / 27 ∧ win0_3.index t 1 = t.val % 27 :=
  (by decide +kernel : ∀ t : Fin grid0.N, win0_0.index t 0 = t.val / 27 ∧ win0_0.index t 1 = 0 ∧ win0_1.index t 0 = 0 ∧ win0_1.index t 1 = 0
    ∧ win0_2.index t 0 = 0 ∧ win0_2.index t 1 = t.val % 27 ∧ win0_3.index t 0 = t.val / 27 ∧ win0_3.index t 1 = t.val % 27)

/-- Row `r` of the block of rows that position `n` works on. -/
def row (n : ℕ) (h : n < 864) (r : Fin 1024) : Fin 32768 := ⟨n / 27 * 1024 + r.val, by have := r.isLt; omega⟩
/-- Column `d` of the block of columns that position `n` works on. -/
def col (n : ℕ) (d : Fin 768) : Fin 20736 := ⟨n % 27 * 768 + d.val, by have := d.isLt; omega⟩

theorem lt864 (t : Fin cfg0.N) : t.val < 864 := lt_of_lt_of_eq t.isLt N_0

theorem iblk0_apply (t : Fin cfg0.N) (r : Fin 1024) (k : Fin 2048) : (iblk m c 0 t : S1024x2048.Idx → EReal) (ix2 r k)
    = X0 m c (ix3 (hiRow (row t.val (lt864 t) r)) (loRow (row t.val (lt864 t) r)) k) := by
  obtain ⟨h0, h1, -⟩ := hi t
  rw [← flat_apply (X0 m c) shapeCasts_S8x4096x2048_S32768x2048, ← V_x]
  show V m c main_v0 _ = V m c main_v0 _
  congr 1; funext a; apply Fin.ext
  match a with
  | ⟨0, _⟩ => show win0_0.index t 0 * 1024 + 1 * r.val = t.val / 27 * 1024 + r.val; rw [h0]; omega
  | ⟨1, _⟩ => show win0_0.index t 1 * 2048 + 1 * k.val = k.val; rw [h1]; omega

theorem iblk1_apply (t : Fin cfg0.N) (d : Fin 2048) : (iblk m c 1 t : S1x2048.Idx → EReal) (ix2 0 d) = G0 m c (ix1 d) := by
  obtain ⟨-, -, h0, h1, -⟩ := hi t
  have e := congrFun (V_g m c) (ix2 0 d)
  refine Eq.trans ?_ e
  show V m c main_v1 _ = V m c main_v1 _
  congr 1; funext a; apply Fin.ext
  match a with
  | ⟨0, _⟩ => show win0_1.index t 0 * 1 + 1 * 0 = 0; rw [h0]
  | ⟨1, _⟩ => show win0_1.index t 1 * 2048 + 1 * d.val = d.val; rw [h1]; omega

theorem iblk2_apply (t : Fin cfg0.N) (k : Fin 2048) (d : Fin 768) :
    (iblk m c 2 t : S2048x768.Idx → EReal) (ix2 k d) = W0 m c (ix2 k (col t.val d)) := by
  obtain ⟨-, -, -, -, h0, h1, -⟩ := hi t
  rw [← V_w]
  show V m c main_v2 _ = V m c main_v2 _
  congr 1; funext a; apply Fin.ext
  match a with
  | ⟨0, _⟩ => show win0_2.index t 0 * 2048 + 1 * k.val = k.val; rw [h0]; omega
  | ⟨1, _⟩ => show win0_2.index t 1 * 768 + 1 * d.val = t.val % 27 * 768 + d.val; rw [h1]; omega

/-- The normalized rows that position `n` works on. -/
def kept (n : ℕ) (h : n < 864) : S1024x2048.Idx → EReal := fun i =>
  nrm (fun k => X0 m c (ix3 (hiRow (row n h (i 0))) (loRow (row n h (i 0))) k)) (fun k => G0 m c (ix1 k)) (i 1)

theorem pay1_eq (t : Fin cfg0.N) : k0_pay1 (F := Ideal) (iblk m c 0 t) (iblk m c 1 t) = kept m c t.val (lt864 t) := by
  funext i
  obtain ⟨r, k, rfl⟩ : ∃ (r : Fin 1024) (k : Fin 2048), i = ix2 r k := ⟨i 0, i 1, eq_ix2 i⟩
  refine (pay1_apply _ _ r k).trans ?_
  simp only [iblk0_apply, iblk1_apply]
  rfl

/-- Every point leaves the normalized rows of its block in the scratch. -/
theorem scratch_eq : ∀ (n : ℕ) (hn : n < cfg0.N), (outsAt0 m c n hn).2 = kept m c n (lt864 ⟨n, hn⟩) := by
  intro n
  induction n with
  | zero =>
    intro hn
    rw [outsAt0_A m c ⟨0, hn⟩ rfl]
    dsimp only
    rw [sout_A]
    exact pay1_eq m c ⟨0, hn⟩
  | succ n ih =>
    intro hn
    by_cases h0 : (n + 1) % 27 = 0
    · rw [outsAt0_A m c ⟨n + 1, hn⟩ h0]
      dsimp only
      rw [sout_A]
      exact pay1_eq m c ⟨n + 1, hn⟩
    · rw [outsAt0_B m c ⟨n + 1, hn⟩ h0]
      refine Eq.trans (ih (Nat.lt_of_succ_lt hn)) ?_
      have e : n / 27 = (n + 1) / 27 := by omega
      unfold kept row
      simp only [e]

/-- What point `t` leaves in the result's buffer. -/
theorem out_eq (t : Fin cfg0.N) :
    (outsAt0 m c t.val t.isLt).1 = k0_pay2 (F := Ideal) (kept m c t.val (lt864 t)) (iblk m c 2 t) := by
  by_cases h0 : t.val % 27 = 0
  · rw [outsAt0_A m c t h0]
    dsimp only
    rw [out_A, pay1_eq]
  · rw [outsAt0_B m c t h0]
    dsimp only
    rw [out_B, scratch_eq]
    have e : (t.val - 1) / 27 = t.val / 27 := by omega
    unfold kept row
    simp only [e]

/-- What point `t` writes back is block `t` of the result. -/
theorem flushed_eq (t : Fin cfg0.N) : (dats m 0 c).flushed 3 t
    = ((cfg0.win 3).blk t).view.read (Elt Ideal) (G (X0 m c) (G0 m c) (W0 m c)) := by
  obtain ⟨-, -, -, -, -, -, h0, h1⟩ := hi t
  rw [Value.flushed3, out_eq]
  funext i
  obtain ⟨r, d, rfl⟩ : ∃ (r : Fin 1024) (d : Fin 768), i = ix2 r d := ⟨i 0, i 1, eq_ix2 i⟩
  refine (pay2_apply _ _ r d).trans ?_
  have e : ((cfg0.win 3).blk t).view.read (Elt Ideal) (G (X0 m c) (G0 m c) (W0 m c)) (ix2 r d)
      = G (X0 m c) (G0 m c) (W0 m c) (ix2 (row t.val (lt864 t) r) (col t.val d)) := by
    show G (X0 m c) (G0 m c) (W0 m c) _ = _
    congr 1; funext a; apply Fin.ext
    match a with
    | ⟨0, _⟩ => show win0_3.index t 0 * 1024 + 1 * r.val = t.val / 27 * 1024 + r.val; rw [h0]; omega
    | ⟨1, _⟩ => show win0_3.index t 1 * 768 + 1 * d.val = t.val % 27 * 768 + d.val; rw [h1]; omega
  refine Eq.trans ?_ e.symm
  simp only [iblk2_apply]
  rfl

/-- The blocks cover the array. -/
theorem cover (i : S32768x20736.Idx) : ∃ t : Fin cfg0.N, (cfg0.win 3).flush t = true ∧ i ∈ ((cfg0.win 3).blk t).view.set :=
  (Value.covered_iff3 i).mpr ⟨Nat.zero_le _, (i 0).isLt, Nat.zero_le _, (i 1).isLt⟩

theorem final : (dats m 0 c).arrAt 3 cfg0.N = G (X0 m c) (G0 m c) (W0 m c) :=
  (dats m 0 c).arrAt_eq_of_cover 3 _ (fun t _ => flushed_eq m c t) (cover)

end Kernel

/-! ### The reference -/

section Ref
open Cert.Reference2Ideal Cert.Reference2Ideal.Gen

variable (m : (ℓ : Loc nD τ sig) → Buf (Elt Ideal) ℓ) (ρ : Dev nD → PrngReg)

/-- The composed term of the reference's operations, before its two leading axes are taken as one, at an index. -/
theorem ref_apply (x : FVec Ideal S8x4096x2048 .f32) (g : FVec Ideal S2048 .f32) (w : FVec Ideal S2048x20736 .f32)
    (b : Fin 8) (r : Fin 4096) (d : Fin 20736) :
    (Host.dotGeneral dot_S8x4096x2048_S2048x20736_S8x4096x20736_2_0_01_1_n_n none (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w : FVec Ideal S8x4096x20736 .f32) (ix3 b r d)
      = proj (fun k => x (ix3 b r k)) (fun k => g (ix1 k)) (fun k => w (ix2 k d)) := by
  unfold proj nrm
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v14) = G (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext i
      obtain ⟨r, d, rfl⟩ : ∃ (r : Fin 32768) (d : Fin 20736), i = ix2 r d := ⟨i 0, i 1, eq_ix2 i⟩
      refine (flat_apply _ _ r d).trans ?_
      exact ref_apply _ _ _ (hiRow r) (loRow r) d), (h c).2⟩) (Value.run m ρ)

end Ref

/-! ### The claim -/

theorem algebraic : Cert.algebraic_Kernel2Ideal_Reference2Ideal := fun m ρ m' ρ' _ hag =>
  ⟨fun c => G (X0 m c) (G0 m c) (W0 m c),
    (θ_run _ _ _).mono (fun _ h c => ⟨(h c).1.trans (final m c), (h c).2⟩) (Cert.Kernel2Ideal.Value.run_blocks m ρ),
    (θ_run _ _ _).mono (fun _ h c => ⟨(h c).1.trans (by
      obtain ⟨e0, e1, e2⟩ := hag c
      unfold X0 G0 W0
      rw [e0, e1, e2]), (h c).2⟩) (ref_run m' ρ')⟩

end Cert.Proof.Inproj

end
-- ==== Proof.Merge.lean ====
/- The value of the merging call: each branch's row times its own weights, gated by the logistic of the branch's part of
   the projection, and the two added. Both programs' results are read at an index and shown to be one function
   (`merge`) of the five arguments. -/
module

public import proofs.«01_k».proof.Defs
public import proofs.«01_k».proof.Proof.Gen.Kernel3Ideal.Value
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem
open scoped BigOperators

namespace Cert.Proof.Merge

/-- The logistic function as a division. -/
def gate (x : EReal) : EReal := Ideal.div 1 (1 + Ideal.exp (-x))

/-- One element of the merged branches, from a row of each branch, a column of each weight matrix and the two gates. -/
def merge (a : Fin 4096 → EReal) (b : Fin 2048 → EReal) (p q : EReal) (w : Fin 4096 → EReal) (u : Fin 2048 → EReal) : EReal :=
  gate p * (∑ k : Fin 4096, a k * w k) + gate q * ∑ k : Fin 2048, b k * u k

/-! ### The kernel -/

section Kernel
open Cert.Kernel3Ideal Cert.Kernel3Ideal.Gen

theorem hz : (![0, 0] : Fin 2 → Nat) = fun _ => 0 := funext fun a => by fin_cases a <;> rfl

/-- The body's payload at an index. -/
theorem pay_apply (v0 : FVec Ideal S512x4096 .bf16) (v1 : FVec Ideal S4096x512 .bf16) (v4 : FVec Ideal S512x2048 .bf16)
    (v5 : FVec Ideal S2048x512 .bf16) (v8 v17 : FVec Ideal S512x512 .f32) (r : Fin 512) (d : Fin 512) :
    k0_pay1 (F := Ideal) v0 v1 v4 v5 v8 v17 (ix2 r d)
      = merge (fun k => v0 (ix2 r k)) (fun k => v4 (ix2 r k)) (v8 (ix2 r d)) (v17 (ix2 r d))
          (fun k => v1 (ix2 k d)) (fun k => v5 (ix2 k d)) := by
  unfold merge gate
  pointwise [k0_pay1, sub_eq_add_neg]

variable (m : (ℓ : Loc nD τ sig) → Buf (Elt Ideal) ℓ) (c : Dev nD)

abbrev A0 : S32768x4096.Idx → EReal := m ((c : Thread nD τ).loc main_arg0)
abbrev B0 : S32768x2048.Idx → EReal := m ((c : Thread nD τ).loc main_arg1)
abbrev P0 : S32768x20736.Idx → EReal := m ((c : Thread nD τ).loc main_arg2)
abbrev W0 : S4096x2048.Idx → EReal := m ((c : Thread nD τ).loc main_arg3)
abbrev U0 : S2048x2048.Idx → EReal := m ((c : Thread nD τ).loc main_arg4)

theorem V_w : V m c main_v0 = W0 m c := by
  unfold V; after_results; rfl
theorem V_u : V m c main_v1 = U0 m c := by
  unfold V; after_results; rfl

/-- The result array, from the five arguments. -/
def G (a : S32768x4096.Idx → EReal) (b : S32768x2048.Idx → EReal) (p : S32768x20736.Idx → EReal) (w : S4096x2048.Idx → EReal)
    (u : S2048x2048.Idx → EReal) : S32768x2048.Idx → EReal := fun i =>
  have h : (i 1 : Nat) < 2048 := (i 1).isLt
  merge (fun k => a (ix2 (i 0) k)) (fun k => b (ix2 (i 0) k)) (p (ix2 (i 0) ⟨8192 + (i 1 : Nat), by omega⟩))
    (p (ix2 (i 0) ⟨10240 + (i 1 : Nat), by omega⟩)) (fun k => w (ix2 k (i 1))) (fun k => u (ix2 k (i 1)))

theorem hi : ∀ t : Fin cfg0.N, win0_0.index t 0 = t.val / 4 ∧ win0_0.index t 1 = 0 ∧ win0_1.index t 0 = t.val / 4 ∧ win0_1.index t 1 = 0
    ∧ win0_2.index t 0 = t.val / 4 ∧ win0_2.index t 1 = 16 + t.val % 4 ∧ win0_3.index t 0 = t.val / 4 ∧ win0_3.index t 1 = 20 + t.val % 4
    ∧ win0_4.index t 0 = 0 ∧ win0_4.index t 1 = t.val % 4 ∧ win0_5.index t 0 = 0 ∧ win0_5.index t 1 = t.val % 4
    ∧ win0_6.index t 0 = t.val / 4 ∧ win0_6.index t 1 = t.val % 4 :=
  (by decide +kernel : ∀ t : Fin grid0.N, win0_0.index t 0 = t.val / 4 ∧ win0_0.index t 1 = 0 ∧ win0_1.index t 0 = t.val / 4 ∧ win0_1.index t 1 = 0
    ∧ win0_2.index t 0 = t.val / 4 ∧ win0_2.index t 1 = 16 + t.val % 4 ∧ win0_3.index t 0 = t.val / 4 ∧ win0_3.index t 1 = 20 + t.val % 4
    ∧ win0_4.index t 0 = 0 ∧ win0_4.index t 1 = t.val % 4 ∧ win0_5.index t 0 = 0 ∧ win0_5.index t 1 = t.val % 4
    ∧ win0_6.index t 0 = t.val / 4 ∧ win0_6.index t 1 = t.val % 4)

/-- Row `r` of point `t`'s blocks, in the array. -/
def row (t : Fin cfg0.N) (r : Fin 512) : Fin 32768 := ⟨t.val / 4 * 512 + r.val, by
  have h : cfg0.N = 256 := N_0
  have := t.isLt; have := r.isLt; omega⟩
/-- Column `d` of point `t`'s blocks, in the result. -/
def col (t : Fin cfg0.N) (d : Fin 512) : Fin 2048 := ⟨t.val % 4 * 512 + d.val, by have := d.isLt; omega⟩

theorem iblk0_apply (t : Fin cfg0.N) (r : Fin 512) (k : Fin 4096) :
    (iblk m c 0 t : S512x4096.Idx → EReal) (ix2 r k) = A0 m c (ix2 (row t r) k) := by
  obtain ⟨h0, h1, -⟩ := hi t
  unfold A0
  rw [← V_main_arg0 m c]
  show V m c main_arg0 _ = V m c main_arg0 _
  congr 1; funext a; apply Fin.ext
  match a with
  | ⟨0, _⟩ => show win0_0.index t 0 * 512 + 1 * r.val = t.val / 4 * 512 + r.val; rw [h0]; omega
  | ⟨1, _⟩ => show win0_0.index t 1 * 4096 + 1 * k.val = k.val; rw [h1]; omega

theorem iblk1_apply (t : Fin cfg0.N) (r : Fin 512) (k : Fin 2048) :
    (iblk m c 1 t : S512x2048.Idx → EReal) (ix2 r k) = B0 m c (ix2 (row t r) k) := by
  obtain ⟨-, -, h0, h1, -⟩ := hi t
  unfold B0
  rw [← V_main_arg1 m c]
  show V m c main_arg1 _ = V m c main_arg1 _
  congr 1; funext a; apply Fin.ext
  match a with
  | ⟨0, _⟩ => show win0_1.index t 0 * 512 + 1 * r.val = t.val / 4 * 512 + r.val; rw [h0]; omega
  | ⟨1, _⟩ => show win0_1.index t 1 * 2048 + 1 * k.val = k.val; rw [h1]; omega

theorem X2_apply (t : Fin cfg0.N) (r d : Fin 512) :
    (X0_2 m c t : S512x512.Idx → EReal) (ix2 r d) = P0 m c (ix2 (row t r) ⟨8192 + (col t d).val, by have := (col t d).isLt; omega⟩) := by
  obtain ⟨-, -, -, -, h0, h1, -⟩ := hi t
  unfold P0
  rw [← V_main_arg2 m c]
  unfold X0_2 Pipeline.Window.fill
  rw [dif_pos (moved0_2 t _)]
  show V m c main_arg2 _ = V m c main_arg2 _
  congr 1; funext a; apply Fin.ext
  match a with
  | ⟨0, _⟩ => show win0_2.index t 0 * 512 + 1 * r.val = t.val / 4 * 512 + r.val; rw [h0]; omega
  | ⟨1, _⟩ => show win0_2.index t 1 * 512 + 1 * d.val = 8192 + (t.val % 4 * 512 + d.val); rw [h1]; omega

theorem X3_apply (t : Fin cfg0.N) (r d : Fin 512) :
    (X0_3 m c t : S512x512.Idx → EReal) (ix2 r d) = P0 m c (ix2 (row t r) ⟨10240 + (col t d).val, by have := (col t d).isLt; omega⟩) := by
  obtain ⟨-, -, -, -, -, -, h0, h1, -⟩ := hi t
  unfold P0
  rw [← V_main_arg2 m c]
  unfold X0_3 Pipeline.Window.fill
  rw [dif_pos (moved0_3 t _)]
  show V m c main_arg2 _ = V m c main_arg2 _
  congr 1; funext a; apply Fin.ext
  match a with
  | ⟨0, _⟩ => show win0_3.index t 0 * 512 + 1 * r.val = t.val / 4 * 512 + r.val; rw [h0]; omega
  | ⟨1, _⟩ => show win0_3.index t 1 * 512 + 1 * d.val = 10240 + (t.val % 4 * 512 + d.val); rw [h1]; omega

theorem iblk4_apply (t : Fin cfg0.N) (k : Fin 4096) (d : Fin 512) :
    (iblk m c 4 t : S4096x512.Idx → EReal) (ix2 k d) = W0 m c (ix2 k (col t d)) := by
  obtain ⟨-, -, -, -, -, -, -, -, h0, h1, -⟩ := hi t
  rw [← V_w m c]
  show V m c main_v0 _ = V m c main_v0 _
  congr 1; funext a; apply Fin.ext
  match a with
  | ⟨0, _⟩ => show win0_4.index t 0 * 4096 + 1 * k.val = k.val; rw [h0]; omega
  | ⟨1, _⟩ => show win0_4.index t 1 * 512 + 1 * d.val = t.val % 4 * 512 + d.val; rw [h1]; omega

theorem iblk5_apply (t : Fin cfg0.N) (k : Fin 2048) (d : Fin 512) :
    (iblk m c 5 t : S2048x512.Idx → EReal) (ix2 k d) = U0 m c (ix2 k (col t d)) := by
  obtain ⟨-, -, -, -, -, -, -, -, -, -, h0, h1, -⟩ := hi t
  rw [← V_u m c]
  show V m c main_v1 _ = V m c main_v1 _
  congr 1; funext a; apply Fin.ext
  match a with
  | ⟨0, _⟩ => show win0_5.index t 0 * 2048 + 1 * k.val = k.val; rw [h0]; omega
  | ⟨1, _⟩ => show win0_5.index t 1 * 512 + 1 * d.val = t.val % 4 * 512 + d.val; rw [h1]; omega

/-- What the body leaves in the result's buffer is its one store's payload. -/
theorem out_eq (i : grid0.Coords) (a2 : Memref sig .tc .vmem S512x4096 .bf16) (h2 : a2.IsWhole) (a3 : Memref sig .tc .vmem S512x2048 .bf16) (h3 : a3.IsWhole)
    (a4 : Memref sig .tc .vmem S512x512 .f32) (h4 : a4.IsWhole) (a5 : Memref sig .tc .vmem S512x512 .f32) (h5 : a5.IsWhole)
    (a6 : Memref sig .tc .vmem S4096x512 .bf16) (h6 : a6.IsWhole) (a7 : Memref sig .tc .vmem S2048x512 .bf16) (h7 : a7.IsWhole)
    (a8 : Memref sig .tc .vmem S512x512 .bf16) (h8 : a8.IsWhole) (x0 : Vec Ideal S512x4096 .bf16) (x1 : Vec Ideal S512x2048 .bf16)
    (x2 x3 : Vec Ideal S512x512 .f32) (x4 : Vec Ideal S4096x512 .bf16) (x5 : Vec Ideal S2048x512 .bf16) :
    out0_A_6 c i a2 h2 a3 h3 a4 h4 a5 h5 a6 h6 a7 h7 a8 h8 x0 x1 x2 x3 x4 x5 = k0_pay1 x0 x4 x1 x5 x2 x3 := by
  unfold out0_A_6
  rw [View.read_writes_eq_canon _ _ _ (cover0_A_6 c i a2 h2 a3 h3 a4 h4 a5 h5 a6 h6 a7 h7 a8 h8 x0 x1 x2 x3 x4 x5)]
  unfold kernelRun0_A
  dsimp only
  rw [View.canon_unit_zero hz]
  simp only [View.readAt_eq_ld, h2.read_unread, h3.read_unread, h4.read_unread, h5.read_unread, h6.read_unread, h7.read_unread,
    View.ld_unit_zero (S := S512x4096) hz, View.ld_unit_zero (S := S512x2048) hz, View.ld_unit_zero (S := S512x512) hz,
    View.ld_unit_zero (S := S4096x512) hz, View.ld_unit_zero (S := S2048x512) hz]

/-- What point `t` writes back is block `t` of the result. -/
theorem flushed_eq (t : Fin cfg0.N) : (dats m 0 c).flushed 6 t
    = ((cfg0.win 6).blk t).view.read (Elt Ideal) (G (A0 m c) (B0 m c) (P0 m c) (W0 m c) (U0 m c)) := by
  obtain ⟨-, -, -, -, -, -, -, -, -, -, -, -, h0, h1⟩ := hi t
  rw [Value.flushed6_A, out_eq]
  funext i
  obtain ⟨r, d, rfl⟩ : ∃ (r : Fin 512) (d : Fin 512), i = ix2 r d := ⟨i 0, i 1, eq_ix2 i⟩
  refine (pay_apply _ _ _ _ _ _ r d).trans ?_
  have e : ((cfg0.win 6).blk t).view.read (Elt Ideal) (G (A0 m c) (B0 m c) (P0 m c) (W0 m c) (U0 m c)) (ix2 r d)
      = G (A0 m c) (B0 m c) (P0 m c) (W0 m c) (U0 m c) (ix2 (row t r) (col t d)) := by
    show G (A0 m c) (B0 m c) (P0 m c) (W0 m c) (U0 m c) _ = _
    congr 1; funext a; apply Fin.ext
    match a with
    | ⟨0, _⟩ => show win0_6.index t 0 * 512 + 1 * r.val = t.val / 4 * 512 + r.val; rw [h0]; omega
    | ⟨1, _⟩ => show win0_6.index t 1 * 512 + 1 * d.val = t.val % 4 * 512 + d.val; rw [h1]; omega
  refine Eq.trans ?_ e.symm
  simp only [iblk0_apply, iblk1_apply, iblk4_apply, iblk5_apply, X2_apply, X3_apply]
  rfl

/-- The blocks cover the array. -/
theorem cover (i : S32768x2048.Idx) : ∃ t : Fin cfg0.N, (cfg0.win 6).flush t = true ∧ i ∈ ((cfg0.win 6).blk t).view.set := by
  have hN : cfg0.N = 256 := N_0
  have hi0 : (i 0 : Nat) < 32768 := (i 0).isLt
  have hi1 : (i 1 : Nat) < 2048 := (i 1).isLt
  obtain ⟨t, ht⟩ : ∃ t : Fin cfg0.N, t.val = (i 0 : Nat) / 512 * 4 + (i 1 : Nat) / 512 := ⟨⟨_, by omega⟩, rfl⟩
  refine ⟨t, flush0_6 _, ?_⟩
  obtain ⟨-, -, -, -, -, -, -, -, -, -, -, -, h0, h1⟩ := hi t
  show i ∈ ((View.whole main_v2).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [h0]; omega
  | ⟨1, _⟩ => show win0_6.index t 1 * 512 ≤ (i 1 : Nat) ∧ (i 1 : Nat) < win0_6.index t 1 * 512 + 512
              rw [h1]; omega

theorem final : (dats m 0 c).arrAt 6 cfg0.N = G (A0 m c) (B0 m c) (P0 m c) (W0 m c) (U0 m c) :=
  (dats m 0 c).arrAt_eq_of_cover 6 _ (fun t _ => flushed_eq m c t) (cover)

end Kernel

/-! ### The reference -/

section Ref
open Cert.Reference3Ideal Cert.Reference3Ideal.Gen

variable (m : (ℓ : Loc nD τ sig) → Buf (Elt Ideal) ℓ) (ρ : Dev nD → PrngReg)

/-- The composed term of the reference's operations, at an index. -/
theorem ref_apply (a : FVec Ideal S32768x4096 .bf16) (b : FVec Ideal S32768x2048 .bf16) (p : FVec Ideal S32768x20736 .f32)
    (w : FVec Ideal S4096x2048 .f32) (u : FVec Ideal S2048x2048 .f32) (r : Fin 32768) (d : Fin 2048) :
    (truncf .bf16 (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 8192] p slices_S32768x20736_S32768x2048_0_8192))))) (Host.dotGeneral dot_S32768x4096_S4096x2048_S32768x2048_1_0_0_1_n_n none (extf .f32 a bitsLt_bf16_f32) w)) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 10240] p slices_S32768x20736_S32768x2048_0_10240))))) (Host.dotGeneral dot_S32768x2048_S2048x2048_S32768x2048_1_0_0_1_n_n none (extf .f32 b bitsLt_bf16_f32) u))) bitsLt_bf16_f32 : FVec Ideal S32768x2048 .bf16) (ix2 r d) = G a b p w u (ix2 r d) := by
  unfold G merge gate
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v21) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext i
      obtain ⟨r, d, rfl⟩ : ∃ (r : Fin 32768) (d : Fin 2048), i = ix2 r d := ⟨i 0, i 1, eq_ix2 i⟩
      exact ref_apply _ _ _ _ _ r d), (h c).2⟩) (Value.run m ρ)

end Ref

/-! ### The claim -/

theorem algebraic : Cert.algebraic_Kernel3Ideal_Reference3Ideal := fun m ρ m' ρ' _ hag =>
  ⟨fun c => G (A0 m c) (B0 m c) (P0 m c) (W0 m c) (U0 m c),
    (θ_run _ _ _).mono (fun _ h c => ⟨(h c).1.trans (final m c), (h c).2⟩) (Cert.Kernel3Ideal.Value.run_blocks m ρ),
    (θ_run _ _ _).mono (fun _ h c => ⟨(h c).1.trans (by
      obtain ⟨e0, e1, e2, e3, e4⟩ := hag c
      unfold A0 B0 P0 W0 U0
      rw [e0, e1, e2, e3, e4]), (h c).2⟩) (ref_run m' ρ')⟩

end Cert.Proof.Merge

end
-- ==== Proof.Post.lean ====
/- The value of the last call: a row of the merged branches times the output weights, normalized by its own root mean
   square, scaled by the gain and added to the input row. Both programs' results are read at an index and shown to be
   one function (`post`) of the four arguments. -/
module

public import proofs.«01_k».proof.Defs
public import proofs.«01_k».proof.Proof.Gen.Kernel4Ideal.Value
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem
open scoped BigOperators

namespace Cert.Proof.Post

/-- One element of the product of a row of the merged branches with the output weights. -/
def outp {n : ℕ} (a : (⟨2, ![n, 2048]⟩ : Shape).Idx → EReal) (w : (⟨2, ![2048, 2048]⟩ : Shape).Idx → EReal)
    (r : Fin n) (d : Fin 2048) : EReal := ∑ k : Fin 2048, a (ix2 r k) * w (ix2 k d)

/-- The normalized, scaled product row added to the input row. -/
def post {n : ℕ} (a : (⟨2, ![n, 2048]⟩ : Shape).Idx → EReal) (x : (⟨2, ![n, 2048]⟩ : Shape).Idx → EReal)
    (w : (⟨2, ![2048, 2048]⟩ : Shape).Idx → EReal) (g : Fin 2048 → EReal) (r : Fin n) (d : Fin 2048) : EReal :=
  x (ix2 r d) + outp a w r d
    * Ideal.rsqrt (Ideal.div (∑ k : Fin 2048, outp a w r k * outp a w r k) (Ideal.ofBits .f32 0x45000000#32)
        + Ideal.ofBits .f32 0x358637BD#32) * g d

/-! ### The kernel -/

section Kernel
open Cert.Kernel4Ideal Cert.Kernel4Ideal.Gen

theorem hz : (![0, 0] : Fin 2 → Nat) = fun _ => 0 := funext fun a => by fin_cases a <;> rfl

/-- The body's payload at an index. -/
theorem pay_apply (v0 : Vec Ideal S512x2048 .bf16) (v1 : Vec Ideal S2048x2048 .bf16) (v9 : Vec Ideal S512x2048 .f32)
    (v16 : Vec Ideal S1x2048 .f32) (r : Fin 512) (d : Fin 2048) :
    k0_pay1 (F := Ideal) v0 v1 v9 v16 (ix2 r d) = post (n := 512) v0 v9 v1 (fun d => v16 (ix2 0 d)) r d := by
  pointwise [k0_pay1]
  rfl

variable (m : (ℓ : Loc nD τ sig) → Buf (Elt Ideal) ℓ) (c : Dev nD)

abbrev A0 : S32768x2048.Idx → EReal := m ((c : Thread nD τ).loc main_arg0)
abbrev X0 : S8x4096x2048.Idx → EReal := m ((c : Thread nD τ).loc main_arg1)
abbrev W0 : S2048x2048.Idx → EReal := m ((c : Thread nD τ).loc main_arg2)
abbrev G0 : S2048.Idx → EReal := m ((c : Thread nD τ).loc main_arg3)

theorem V_w : V m c main_v0 = W0 m c := by
  unfold V; after_results; rfl
theorem V_g : V m c main_v1 = fun i => G0 m c (ix1 (i 1)) := by
  unfold V; after_results; funext i; idx_vars i; pointwise
theorem V_x : V m c main_v2 = shapeCast S32768x2048 (X0 m c) shapeCasts_S8x4096x2048_S32768x2048 := by
  unfold V; after_results; rfl

/-- The kernel's result array. -/
def G : S32768x2048.Idx → EReal := fun i =>
  post (n := 32768) (A0 m c) (shapeCast S32768x2048 (X0 m c) shapeCasts_S8x4096x2048_S32768x2048) (W0 m c)
    (fun d => G0 m c (ix1 d)) (i 0) (i 1)

theorem hi : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0)

/-- Row `r` of block `t` is row `512 t + r` of the array. -/
def row (t : Fin cfg0.N) (r : Fin 512) : Fin 32768 := ⟨t.val * 512 + r.val, by
  have h : cfg0.N = 64 := N_0
  have := t.isLt; have := r.isLt; omega⟩

theorem iblk0_apply (t : Fin cfg0.N) (r : Fin 512) (k : Fin 2048) :
    (iblk m c 0 t : S512x2048.Idx → EReal) (ix2 r k) = A0 m c (ix2 (row t r) k) := by
  obtain ⟨h0, h1, -⟩ := hi t
  unfold A0
  rw [← V_main_arg0 m c]
  show V m c main_arg0 _ = V m c main_arg0 _
  congr 1; funext a; apply Fin.ext
  match a with
  | ⟨0, _⟩ => show win0_0.index t 0 * 512 + 1 * r.val = t.val * 512 + r.val; rw [h0]; omega
  | ⟨1, _⟩ => show win0_0.index t 1 * 2048 + 1 * k.val = k.val; rw [h1]; omega

theorem iblk1_apply (t : Fin cfg0.N) (r : Fin 512) (k : Fin 2048) :
    (iblk m c 1 t : S512x2048.Idx → EReal) (ix2 r k)
      = shapeCast S32768x2048 (X0 m c) shapeCasts_S8x4096x2048_S32768x2048 (ix2 (row t r) k) := by
  obtain ⟨-, -, h0, h1, -⟩ := hi t
  rw [← V_x]
  show V m c main_v2 _ = V m c main_v2 _
  congr 1; funext a; apply Fin.ext
  match a with
  | ⟨0, _⟩ => show win0_1.index t 0 * 512 + 1 * r.val = t.val * 512 + r.val; rw [h0]; omega
  | ⟨1, _⟩ => show win0_1.index t 1 * 2048 + 1 * k.val = k.val; rw [h1]; omega

theorem iblk2_eq (t : Fin cfg0.N) : (iblk m c 2 t : S2048x2048.Idx → EReal) = W0 m c := by
  obtain ⟨-, -, -, -, h0, h1, -⟩ := hi t
  funext i
  rw [← V_w]
  show V m c main_v0 _ = V m c main_v0 _
  congr 1; funext a; apply Fin.ext
  match a with
  | ⟨0, _⟩ => show win0_2.index t 0 * 2048 + 1 * (i 0).val = (i 0).val; rw [h0]; omega
  | ⟨1, _⟩ => show win0_2.index t 1 * 2048 + 1 * (i 1).val = (i 1).val; rw [h1]; omega

theorem iblk3_apply (t : Fin cfg0.N) (d : Fin 2048) : (iblk m c 3 t : S1x2048.Idx → EReal) (ix2 0 d) = G0 m c (ix1 d) := by
  obtain ⟨-, -, -, -, -, -, h0, h1, -⟩ := hi t
  have e := congrFun (V_g m c) (ix2 0 d)
  refine Eq.trans ?_ e
  show V m c main_v1 _ = V m c main_v1 _
  congr 1; funext a; apply Fin.ext
  match a with
  | ⟨0, _⟩ => show win0_3.index t 0 * 1 + 1 * 0 = 0; rw [h0]
  | ⟨1, _⟩ => show win0_3.index t 1 * 2048 + 1 * d.val = d.val; rw [h1]; omega

/-- What point `t` writes back is block `t` of the result. -/
theorem flushed_eq (t : Fin cfg0.N) : (dats m 0 c).flushed 4 t = ((cfg0.win 4).blk t).view.read (Elt Ideal) (G m c) := by
  obtain ⟨-, -, -, -, -, -, -, -, h0, h1⟩ := hi t
  rw [Value.flushed4]
  unfold out0_4
  rw [View.canon_unit_zero hz]
  simp only [View.ld_unit_zero (S := S512x2048) hz, View.ld_unit_zero (S := S2048x2048) hz, View.ld_unit_zero (S := S1x2048) hz]
  funext i
  obtain ⟨r, d, rfl⟩ : ∃ (r : Fin 512) (d : Fin 2048), i = ix2 r d := ⟨i 0, i 1, eq_ix2 i⟩
  refine (pay_apply _ _ _ _ r d).trans ?_
  have e : ((cfg0.win 4).blk t).view.read (Elt Ideal) (G m c) (ix2 r d) = G m c (ix2 (row t r) d) := by
    show G m c _ = _
    congr 1; funext a; apply Fin.ext
    match a with
    | ⟨0, _⟩ => show win0_4.index t 0 * 512 + 1 * r.val = t.val * 512 + r.val; rw [h0]; omega
    | ⟨1, _⟩ => show win0_4.index t 1 * 2048 + 1 * d.val = d.val; rw [h1]; omega
  refine Eq.trans ?_ e.symm
  unfold G post outp
  rw [iblk1_apply, iblk2_eq]
  simp only [iblk0_apply, iblk3_apply]
  rfl

/-- The blocks cover the array. -/
theorem cover (i : S32768x2048.Idx) : ∃ t : Fin cfg0.N, (cfg0.win 4).flush t = true ∧ i ∈ ((cfg0.win 4).blk t).view.set := by
  have hN : cfg0.N = 64 := N_0
  have hi0 : (i 0 : Nat) < 32768 := (i 0).isLt
  have hi1 : (i 1 : Nat) < 2048 := (i 1).isLt
  have ht : (i 0 : Nat) / 512 < cfg0.N := by omega
  refine ⟨⟨(i 0 : Nat) / 512, ht⟩, flush0_4 _, ?_⟩
  obtain ⟨-, -, -, -, -, -, -, -, h0, h1⟩ := hi ⟨(i 0 : Nat) / 512, ht⟩
  show i ∈ ((View.whole main_v3).slice (win0_4.rect ⟨(i 0 : Nat) / 512, ht⟩)).set
  rw [View.set_slice_whole, Rect.mem_set_unit]
  intro a
  match a with
  | ⟨0, _⟩ => show win0_4.index ⟨(i 0 : Nat) / 512, ht⟩ 0 * 512 ≤ (i 0 : Nat) ∧ (i 0 : Nat) < win0_4.index ⟨(i 0 : Nat) / 512, ht⟩ 0 * 512 + 512
              rw [h0]; dsimp only; omega
  | ⟨1, _⟩ => show win0_4.index ⟨(i 0 : Nat) / 512, ht⟩ 1 * 2048 ≤ (i 1 : Nat) ∧ (i 1 : Nat) < win0_4.index ⟨(i 0 : Nat) / 512, ht⟩ 1 * 2048 + 2048
              rw [h1]; omega

theorem final : (dats m 0 c).arrAt 4 cfg0.N = G m c :=
  (dats m 0 c).arrAt_eq_of_cover 4 (G m c) (fun t _ => flushed_eq m c t) (cover)

end Kernel

/-! ### The reference -/

section Ref
open Cert.Reference4Ideal Cert.Reference4Ideal.Gen

variable (m : (ℓ : Loc nD τ sig) → Buf (Elt Ideal) ℓ) (ρ : Dev nD → PrngReg)

/-- The reference's result array. -/
def RG (c : Dev nD) : S32768x2048.Idx → EReal := fun i =>
  post (n := 32768) (m ((c.tc : Thread nD τ).loc main_arg0))
    (shapeCast S32768x2048 (m ((c.tc : Thread nD τ).loc main_arg1) : S8x4096x2048.Idx → EReal) shapeCasts_S8x4096x2048_S32768x2048)
    (m ((c.tc : Thread nD τ).loc main_arg2))
    (fun d => (m ((c.tc : Thread nD τ).loc main_arg3) : S2048.Idx → EReal) (ix1 d)) (i 0) (i 1)

/-- The composed term of the reference's operations, at an index. -/
theorem ref_apply (a : FVec Ideal S32768x2048 .bf16) (x : FVec Ideal S32768x2048 .f32) (w : FVec Ideal S2048x2048 .f32)
    (g : FVec Ideal S2048 .f32) (r : Fin 32768) (d : Fin 2048) :
    (addf x (mulf (mulf (Host.dotGeneral dot_S32768x2048_S2048x2048_S32768x2048_1_0_0_1_n_n none (extf .f32 a bitsLt_bf16_f32) w) (broadcastInDim S32768x2048 ![0, 1] bcast_S32768x1_S32768x2048_0_1 (Host.rsqrt (addf (Host.divf (broadcastInDim S32768x1 ![0] bcast_S32768_S32768x1_0 (Host.reduceAdd (mulf (Host.dotGeneral dot_S32768x2048_S2048x2048_S32768x2048_1_0_0_1_n_n none (extf .f32 a bitsLt_bf16_f32) w) (Host.dotGeneral dot_S32768x2048_S2048x2048_S32768x2048_1_0_0_1_n_n none (extf .f32 a bitsLt_bf16_f32) w)) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) : FVec Ideal S32768x2048 .f32) (ix2 r d)
      = post (n := 32768) a x w (fun d => g (ix1 d)) r d := by
  unfold post outp
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v16) = RG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext i
      obtain ⟨r, d, rfl⟩ : ∃ (r : Fin 32768) (d : Fin 2048), i = ix2 r d := ⟨i 0, i 1, eq_ix2 i⟩
      exact ref_apply _ _ _ _ r d), (h c).2⟩) (Value.run m ρ)

end Ref

/-! ### The claim -/

theorem algebraic : Cert.algebraic_Kernel4Ideal_Reference4Ideal := fun m ρ m' ρ' _ hag =>
  ⟨fun c => G m c,
    (θ_run _ _ _).mono (fun _ h c => ⟨(h c).1.trans (final m c), (h c).2⟩) (Cert.Kernel4Ideal.Value.run_blocks m ρ),
    (θ_run _ _ _).mono (fun _ h c => ⟨(h c).1.trans (by
      obtain ⟨e0, e1, e2, e3⟩ := hag c
      unfold RG G A0 X0 W0 G0
      rw [e0, e1, e2, e3]), (h c).2⟩) (ref_run m' ρ')⟩

end Cert.Proof.Post

end
-- ==== Proof.ConvPrompt.lean ====
/- The value of the convolution state that a prompt batch leaves: the host lays out the weights, the kernel projects every
   row, and the host takes the last three rows of each sequence at the columns of the convolution. Read at an index, the
   result is the projection of one of these rows with one column of the weights as they were given; the reference, which
   multiplies by the given weights and takes the last rows behind a zero context, leaves the same. -/
module

public import proofs.«01_k».proof.Defs
public import proofs.«01_k».proof.Proof.Gen.Kernel5Ideal.Frame
public import proofs.«01_k».proof.Proof.Gen.Reference5Ideal.Run
public import proofs.«01_k».proof.Proof.Inproj
public import Idealize.ShloMosaic.Lib.Pointwise

@[expose] public section

set_option maxRecDepth 16384

noncomputable section

open Idealize.ShloMosaic Idealize.ShloMosaic.TcCoe Idealize.SL.Sem
open Cert.Proof.Inproj (nrm proj hiRow loRow flat_apply G hz row col)
open scoped BigOperators

namespace Cert.Proof.ConvPrompt

/-- The last three rows of a sequence, and the columns of the weights that the convolution reads. -/
def tailRow (u : Fin 3) : Fin 4096 := ⟨4093 + u.val, by have := u.isLt; omega⟩
def convCol (q : Fin 6144) : Fin 20560 := ⟨4096 + q.val, by have := q.isLt; omega⟩

/-- The result array, from the three arguments. -/
def C (x : (⟨3, ![8, 4096, 2048]⟩ : Shape).Idx → EReal) (g : (⟨1, ![2048]⟩ : Shape).Idx → EReal)
    (w : (⟨2, ![2048, 20560]⟩ : Shape).Idx → EReal) : (⟨3, ![8, 3, 6144]⟩ : Shape).Idx → EReal := fun i =>
  proj (fun k => x (ix3 (i 0) (tailRow (i 1)) k)) (fun k => g (ix1 k)) (fun k => w (ix2 k (convCol (i 2))))

/-! ### The kernel -/

section Kernel
open Cert.Kernel5Ideal Cert.Kernel5Ideal.Gen

/-- The normalized block at an index. -/
theorem pay1_apply (v8 : FVec Ideal S1024x2048 .f32) (v20 : FVec Ideal S1x2048 .f32) (r : Fin 1024) (k : Fin 2048) :
    k0_pay1 (F := Ideal) v8 v20 (ix2 r k) = nrm (fun k => v8 (ix2 r k)) (fun k => v20 (ix2 0 k)) k := by
  unfold nrm
  pointwise [k0_pay1]

/-- The product at an index. -/
theorem pay2_apply (v3 : FVec Ideal S1024x2048 .bf16) (v4 : FVec Ideal S2048x768 .bf16) (r : Fin 1024) (d : Fin 768) :
    k0_pay2 (F := Ideal) v3 v4 (ix2 r d) = ∑ k : Fin 2048, v3 (ix2 r k) * v4 (ix2 k d) := by
  pointwise [k0_pay2]

section Body
variable (c : Dev nD) (i : grid0.Coords) (a2 : Memref sig .tc .vmem S1024x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S1024x768 .f32) (h5 : a5.IsWhole)
  (a6 : Memref sig .tc .vmem S1024x2048 .bf16) (h6 : a6.IsWhole) (x0 : Vec Ideal S1024x2048 .f32) (x1 : Vec Ideal S1x2048 .f32)
  (x2 : Vec Ideal S2048x768 .bf16) (xs : Vec Ideal S1024x2048 .bf16)

/-- The first point of a block of rows stores the normalized block. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- It leaves the product of that block with the columns of the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.ld_unit_zero (S := S1024x2048) hz,
    View.ld_unit_zero (S := S1x2048) hz, View.ld_unit_zero (S := S2048x768) hz, View.readCov_unit_zero (S := S1024x2048) _ hz]

/-- The later points leave the product of the kept block with the columns of the weights. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread, View.ld_unit_zero (S := S1024x2048) hz,
    View.ld_unit_zero (S := S2048x768) hz]

end Body

variable (m : (ℓ : Loc nD τ sig) → Buf (Elt Ideal) ℓ) (c : Dev nD)

abbrev X0 : S8x4096x2048.Idx → EReal := m ((c : Thread nD τ).loc main_arg0)
abbrev G0 : S2048.Idx → EReal := m ((c : Thread nD τ).loc main_arg1)
abbrev W0 : S2048x20560.Idx → EReal := m ((c : Thread nD τ).loc main_arg2)
/-- The weights as the host lays them out for the kernel. -/
abbrev WP : S2048x20736.Idx → EReal := V m c main_v19

theorem V_x : V m c main_v20 = shapeCast S32768x2048 (X0 m c) shapeCasts_S8x4096x2048_S32768x2048 := by
  show StableHlo.after hostOps0 _ _ = _
  after_results; rfl
theorem V_g : V m c main_v21 = fun i => G0 m c (ix1 (i 1)) := by
  show StableHlo.after hostOps0 _ _ = _
  after_results; funext i; idx_vars i; pointwise

/-- The columns of the laid-out weights that the convolution state is taken from. -/
theorem V_xbc : V m c main_v1 = extractStridedSlice S2048x6144 ![0, 4096] (W0 m c) slices_S2048x20560_S2048x6144_0_4096 := by
  show StableHlo.after hostOps0 _ _ = _
  after_results
theorem V_xs : V m c main_v16 = extractStridedSlice S2048x4096 ![0, 0] (V m c main_v1) slices_S2048x6144_S2048x4096_0_0 := by
  show StableHlo.after hostOps0 _ _ = _
  after_results; rfl
theorem V_bc : V m c main_v17 = extractStridedSlice S2048x2048 ![0, 4096] (V m c main_v1) slices_S2048x6144_S2048x2048_0_4096 := by
  show StableHlo.after hostOps0 _ _ = _
  after_results; rfl
theorem V_wp : WP m c = (truncf .bf16 (concatenate S2048x20736 1 [⟨S2048x4096, (V m c main_v16 : FVec Ideal S2048x4096 .f32)⟩,
    ⟨S2048x4096, (V m c main_v0 : FVec Ideal S2048x4096 .f32)⟩, ⟨S2048x4096, (V m c main_v8 : FVec Ideal S2048x4096 .f32)⟩,
    ⟨S2048x2048, (V m c main_v17 : FVec Ideal S2048x2048 .f32)⟩, ⟨S2048x2048, (V m c main_v5 : FVec Ideal S2048x2048 .f32)⟩,
    ⟨S2048x2048, (V m c main_v6 : FVec Ideal S2048x2048 .f32)⟩, ⟨S2048x1024, (V m c main_v3 : FVec Ideal S2048x1024 .f32)⟩,
    ⟨S2048x1024, (V m c main_v4 : FVec Ideal S2048x1024 .f32)⟩, ⟨S2048x256, (V m c main_v15 : FVec Ideal S2048x256 .f32)⟩]
    concatenates_S2048x4096_S2048x4096_S2048x4096_S2048x2048_S2048x2048_S2048x2048_S2048x1024_S2048x1024_S2048x256_S2048x20736_d1 : FVec Ideal S2048x20736 .f32) bitsLt_bf16_f32 : FVec Ideal S2048x20736 .bf16) := by
  show StableHlo.after hostOps0 _ _ = _
  after_results; rfl

/-- Column `q` of the convolution in the laid-out weights: the first 4096 lead the layout, the other 2048 begin at 12288. -/
def lay (q : Fin 6144) : Fin 20736 := if h : q.val < 4096 then ⟨q.val, by omega⟩ else ⟨8192 + q.val, by have := q.isLt; omega⟩

/-- The layout of the weights, read at a column of the convolution. -/
theorem lay_apply (w : FVec Ideal S2048x20560 .f32) (a1 a2 : FVec Ideal S2048x4096 .f32) (a4 a5 : FVec Ideal S2048x2048 .f32)
    (a6 a7 : FVec Ideal S2048x1024 .f32) (a8 : FVec Ideal S2048x256 .f32) (k : Fin 2048) (q : Fin 6144) :
    (truncf .bf16 (concatenate S2048x20736 1 [⟨S2048x4096, extractStridedSlice S2048x4096 ![0, 0] (extractStridedSlice S2048x6144 ![0, 4096] w slices_S2048x20560_S2048x6144_0_4096) slices_S2048x6144_S2048x4096_0_0⟩,
      ⟨S2048x4096, a1⟩, ⟨S2048x4096, a2⟩,
      ⟨S2048x2048, extractStridedSlice S2048x2048 ![0, 4096] (extractStridedSlice S2048x6144 ![0, 4096] w slices_S2048x20560_S2048x6144_0_4096) slices_S2048x6144_S2048x2048_0_4096⟩,
      ⟨S2048x2048, a4⟩, ⟨S2048x2048, a5⟩, ⟨S2048x1024, a6⟩, ⟨S2048x1024, a7⟩, ⟨S2048x256, a8⟩]
      concatenates_S2048x4096_S2048x4096_S2048x4096_S2048x2048_S2048x2048_S2048x2048_S2048x1024_S2048x1024_S2048x256_S2048x20736_d1 : FVec Ideal S2048x20736 .f32) bitsLt_bf16_f32 : FVec Ideal S2048x20736 .bf16) (ix2 k (lay q)) = w (ix2 k (convCol q)) := by
  unfold lay convCol
  by_cases h : q.val < 4096
  · rw [dif_pos h]
    pointwise
    exact dif_pos h
  · rw [dif_neg h]
    pointwise
    have hq := q.isLt
    rw [dif_neg (by omega), dif_neg (by omega), dif_neg (by omega), dif_pos (by omega)]
    exact congrArg (fun l => w (ix2 k l)) (Fin.ext (by dsimp only; omega))

theorem WP_lay (k : Fin 2048) (q : Fin 6144) : WP m c (ix2 k (lay q)) = W0 m c (ix2 k (convCol q)) := by
  rw [V_wp, V_xs, V_bc, V_xbc]
  exact lay_apply _ _ _ _ _ _ _ _ k q

theorem hi : ∀ t : Fin cfg0.N, win0_0.index t 0 = t.val / 27 ∧ win0_0.index t 1 = 0 ∧ win0_1.index t 0 = 0 ∧ win0_1.index t 1 = 0
    ∧ win0_2.index t 0 = 0 ∧ win0_2.index t 1 = t.val % 27 ∧ win0_3.index t 0 = t.val / 27 ∧ win0_3.index t 1 = t.val % 27 :=
  (by decide +kernel : ∀ t : Fin grid0.N, win0_0.index t 0 = t.val / 27 ∧ win0_0.index t 1 = 0 ∧ win0_1.index t 0 = 0 ∧ win0_1.index t 1 = 0
    ∧ win0_2.index t 0 = 0 ∧ win0_2.index t 1 = t.val % 27 ∧ win0_3.index t 0 = t.val / 27 ∧ win0_3.index t 1 = t.val % 27)

/-- Row `r` of the block of rows that position `n` works on. -/
def row (n : ℕ) (h : n < 864) (r : Fin 1024) : Fin 32768 := ⟨n / 27 * 1024 + r.val, by have := r.isLt; omega⟩
/-- Column `d` of the block of columns that position `n` works on. -/
def col (n : ℕ) (d : Fin 768) : Fin 20736 := ⟨n % 27 * 768 + d.val, by have := d.isLt; omega⟩

theorem lt864 (t : Fin cfg0.N) : t.val < 864 := lt_of_lt_of_eq t.isLt N_0

theorem iblk0_apply (t : Fin cfg0.N) (r : Fin 1024) (k : Fin 2048) : (iblk m c 0 t : S1024x2048.Idx → EReal) (ix2 r k)
    = X0 m c (ix3 (hiRow (row t.val (lt864 t) r)) (loRow (row t.val (lt864 t) r)) k) := by
  obtain ⟨h0, h1, -⟩ := hi t
  rw [← flat_apply (X0 m c) shapeCasts_S8x4096x2048_S32768x2048, ← V_x]
  show V m c main_v20 _ = V m c main_v20 _
  congr 1; funext a; apply Fin.ext
  match a with
  | ⟨0, _⟩ => show win0_0.index t 0 * 1024 + 1 * r.val = t.val / 27 * 1024 + r.val; rw [h0]; omega
  | ⟨1, _⟩ => show win0_0.index t 1 * 2048 + 1 * k.val = k.val; rw [h1]; omega

theorem iblk1_apply (t : Fin cfg0.N) (d : Fin 2048) : (iblk m c 1 t : S1x2048.Idx → EReal) (ix2 0 d) = G0 m c (ix1 d) := by
  obtain ⟨-, -, h0, h1, -⟩ := hi t
  have e := congrFun (V_g m c) (ix2 0 d)
  refine Eq.trans ?_ e
  show V m c main_v21 _ = V m c main_v21 _
  congr 1; funext a; apply Fin.ext
  match a with
  | ⟨0, _⟩ => show win0_1.index t 0 * 1 + 1 * 0 = 0; rw [h0]
  | ⟨1, _⟩ => show win0_1.index t 1 * 2048 + 1 * d.val = d.val; rw [h1]; omega

theorem iblk2_apply (t : Fin cfg0.N) (k : Fin 2048) (d : Fin 768) :
    (iblk m c 2 t : S2048x768.Idx → EReal) (ix2 k d) = WP m c (ix2 k (col t.val d)) := by
  obtain ⟨-, -, -, -, h0, h1, -⟩ := hi t
  unfold WP
  show V m c main_v19 _ = V m c main_v19 _
  congr 1; funext a; apply Fin.ext
  match a with
  | ⟨0, _⟩ => show win0_2.index t 0 * 2048 + 1 * k.val = k.val; rw [h0]; omega
  | ⟨1, _⟩ => show win0_2.index t 1 * 768 + 1 * d.val = t.val % 27 * 768 + d.val; rw [h1]; omega

/-- The normalized rows that position `n` works on. -/
def kept (n : ℕ) (h : n < 864) : S1024x2048.Idx → EReal := fun i =>
  nrm (fun k => X0 m c (ix3 (hiRow (row n h (i 0))) (loRow (row n h (i 0))) k)) (fun k => G0 m c (ix1 k)) (i 1)

theorem pay1_eq (t : Fin cfg0.N) : k0_pay1 (F := Ideal) (iblk m c 0 t) (iblk m c 1 t) = kept m c t.val (lt864 t) := by
  funext i
  obtain ⟨r, k, rfl⟩ : ∃ (r : Fin 1024) (k : Fin 2048), i = ix2 r k := ⟨i 0, i 1, eq_ix2 i⟩
  refine (pay1_apply _ _ r k).trans ?_
  simp only [iblk0_apply, iblk1_apply]
  rfl

/-- Every point leaves the normalized rows of its block in the scratch. -/
theorem scratch_eq : ∀ (n : ℕ) (hn : n < cfg0.N), (outsAt0 m c n hn).2 = kept m c n (lt864 ⟨n, hn⟩) := by
  intro n
  induction n with
  | zero =>
    intro hn
    rw [outsAt0_A m c ⟨0, hn⟩ rfl]
    dsimp only
    rw [sout_A]
    exact pay1_eq m c ⟨0, hn⟩
  | succ n ih =>
    intro hn
    by_cases h0 : (n + 1) % 27 = 0
    · rw [outsAt0_A m c ⟨n + 1, hn⟩ h0]
      dsimp only
      rw [sout_A]
      exact pay1_eq m c ⟨n + 1, hn⟩
    · rw [outsAt0_B m c ⟨n + 1, hn⟩ h0]
      refine Eq.trans (ih (Nat.lt_of_succ_lt hn)) ?_
      have e : n / 27 = (n + 1) / 27 := by omega
      unfold kept row
      simp only [e]

/-- What point `t` leaves in the result's buffer. -/
theorem out_eq (t : Fin cfg0.N) :
    (outsAt0 m c t.val t.isLt).1 = k0_pay2 (F := Ideal) (kept m c t.val (lt864 t)) (iblk m c 2 t) := by
  by_cases h0 : t.val % 27 = 0
  · rw [outsAt0_A m c t h0]
    dsimp only
    rw [out_A, pay1_eq]
  · rw [outsAt0_B m c t h0]
    dsimp only
    rw [out_B, scratch_eq]
    have e : (t.val - 1) / 27 = t.val / 27 := by omega
    unfold kept row
    simp only [e]

/-- What point `t` writes back is block `t` of the projection. -/
theorem flushed_eq (t : Fin cfg0.N) : (dats m 0 c).flushed 3 t
    = ((cfg0.win 3).blk t).view.read (Elt Ideal) (G (X0 m c) (G0 m c) (WP m c)) := by
  obtain ⟨-, -, -, -, -, -, h0, h1⟩ := hi t
  show (cfg0.win 3).cut (grid0.coords t) ((dats m 0 c).after 3 t) = _
  rw [after0_3, out_eq]
  funext i
  obtain ⟨r, d, rfl⟩ : ∃ (r : Fin 1024) (d : Fin 768), i = ix2 r d := ⟨i 0, i 1, eq_ix2 i⟩
  refine (pay2_apply _ _ r d).trans ?_
  have e : ((cfg0.win 3).blk t).view.read (Elt Ideal) (G (X0 m c) (G0 m c) (WP m c)) (ix2 r d)
      = G (X0 m c) (G0 m c) (WP m c) (ix2 (row t.val (lt864 t) r) (col t.val d)) := by
    show G (X0 m c) (G0 m c) (WP m c) _ = _
    congr 1; funext a; apply Fin.ext
    match a with
    | ⟨0, _⟩ => show win0_3.index t 0 * 1024 + 1 * r.val = t.val / 27 * 1024 + r.val; rw [h0]; omega
    | ⟨1, _⟩ => show win0_3.index t 1 * 768 + 1 * d.val = t.val % 27 * 768 + d.val; rw [h1]; omega
  refine Eq.trans ?_ e.symm
  simp only [iblk2_apply]
  rfl

/-- The blocks cover the array. -/
theorem cover (i : S32768x20736.Idx) : ∃ t : Fin cfg0.N, (cfg0.win 3).flush t = true ∧ i ∈ ((cfg0.win 3).blk t).view.set := by
  have hr : (i 0).val < 32768 := (i 0).isLt
  have hd : (i 1).val < 20736 := (i 1).isLt
  have hN : (i 0).val / 1024 * 27 + (i 1).val / 768 < cfg0.N := lt_of_lt_of_eq (by omega) N_0.symm
  refine ⟨⟨_, hN⟩, flush0_3 _, ?_⟩
  obtain ⟨-, -, -, -, -, -, h0, h1⟩ := hi ⟨_, hN⟩
  show i ∈ ((View.whole main_v22).slice (win0_3.rect ⟨_, hN⟩)).set
  rw [View.set_slice_whole, Rect.mem_set_unit]
  intro a
  match a with
  | ⟨0, _⟩ =>
    show win0_3.index ⟨_, hN⟩ 0 * 1024 ≤ (i 0).val ∧ (i 0).val < win0_3.index ⟨_, hN⟩ 0 * 1024 + 1024
    rw [h0]; dsimp only; omega
  | ⟨1, _⟩ =>
    show win0_3.index ⟨_, hN⟩ 1 * 768 ≤ (i 1).val ∧ (i 1).val < win0_3.index ⟨_, hN⟩ 1 * 768 + 768
    rw [h1]; dsimp only; omega

theorem final : (dats m 0 c).arrAt 3 cfg0.N = G (X0 m c) (G0 m c) (WP m c) :=
  (dats m 0 c).arrAt_eq_of_cover 3 _ (fun t _ => flushed_eq m c t) (cover)

/-- The host's operations after the kernel, on the projection. -/
def tailOf (p : FVec Ideal S32768x20736 .f32) : FVec Ideal S8x3x6144 .f32 :=
  concatenate S8x3x6144 2 [⟨S8x3x4096, extractStridedSlice S8x3x4096 ![0, 4093, 0] (shapeCast S8x4096x20736 p shapeCasts_S32768x20736_S8x4096x20736) slices_S8x4096x20736_S8x3x4096_0_4093_0⟩,
    ⟨S8x3x2048, extractStridedSlice S8x3x2048 ![0, 4093, 12288] (shapeCast S8x4096x20736 p shapeCasts_S32768x20736_S8x4096x20736) slices_S8x4096x20736_S8x3x2048_0_4093_12288⟩]
    concatenates_S8x3x4096_S8x3x2048_S8x3x6144_d2

theorem tail_eq : Pipeline.afterTail₀ cfgs (dats m) 0 (V0 m) [hostOps1] c main_v26 = tailOf (G (X0 m c) (G0 m c) (WP m c)) := by
  have e : Pipeline.withArrays (cfgs 0).spec c (V0 m c) (fun w => (dats m 0 c).arrAt w (cfgs 0).N) (Proc.tc.devRef main_v22)
      = G (X0 m c) (G0 m c) (WP m c) :=
    (Pipeline.withArrays_arr (cfgs 0).spec (by decide) c (V0 m c) (fun w => (dats m 0 c).arrAt w (cfgs 0).N) 3).trans (final m c)
  show StableHlo.after hostOps1 _ _ = _
  after_results
  rw [e]
  rfl

theorem unflat_apply (p : FVec Ideal S32768x20736 .f32) (b : Fin 8) (t : Fin 4096) (d : Fin 20736) :
    shapeCast S8x4096x20736 p shapeCasts_S32768x20736_S8x4096x20736 (ix3 b t d)
      = p (ix2 ⟨b.val * 4096 + t.val, by have := b.isLt; have := t.isLt; omega⟩ d) := by
  refine shapeCast_apply p _ _ _ ?_
  rw [Shape.rowMajor_val_two, Shape.rowMajor_val_three]
  rfl

theorem tailOf_apply (p : FVec Ideal S32768x20736 .f32) (b : Fin 8) (u : Fin 3) (q : Fin 6144) : tailOf p (ix3 b u q)
    = p (ix2 ⟨b.val * 4096 + (tailRow u).val, by have := b.isLt; have := (tailRow u).isLt; omega⟩ (lay q)) := by
  refine Eq.trans ?_ (unflat_apply p b (tailRow u) (lay q))
  unfold tailOf
  generalize shapeCast S8x4096x20736 p shapeCasts_S32768x20736_S8x4096x20736 = P
  unfold lay tailRow
  by_cases h : q.val < 4096
  · rw [dif_pos h]
    pointwise
    exact dif_pos h
  · rw [dif_neg h]
    pointwise
    rw [dif_neg h]
    exact congrArg (fun l => P (ix3 b _ l)) (Fin.ext (by dsimp only; omega))

/-- The kernel's result. -/
theorem value : Pipeline.afterTail₀ cfgs (dats m) 0 (V0 m) [hostOps1] c main_v26 = C (X0 m c) (G0 m c) (W0 m c) := by
  rw [tail_eq]
  funext i
  obtain ⟨b, u, q, rfl⟩ : ∃ (b : Fin 8) (u : Fin 3) (q : Fin 6144), i = ix3 b u q := ⟨i 0, i 1, i 2, eq_ix3 i⟩
  refine (tailOf_apply _ b u q).trans ?_
  have hb := b.isLt
  have hu := (tailRow u).isLt
  have e0 : hiRow ⟨b.val * 4096 + (tailRow u).val, by omega⟩ = b := Fin.ext (by show (_ + _) / 4096 = _; omega)
  have e1 : loRow ⟨b.val * 4096 + (tailRow u).val, by omega⟩ = tailRow u := Fin.ext (by show (_ + _) % 4096 = _; omega)
  show proj _ _ _ = proj _ _ _
  congr 1
  · funext k
    show X0 m c (ix3 (hiRow ⟨b.val * 4096 + (tailRow u).val, by omega⟩) (loRow ⟨b.val * 4096 + (tailRow u).val, by omega⟩) k) = X0 m c (ix3 b (tailRow u) k)
    rw [e0, e1]
  · funext k
    exact WP_lay m c k q

theorem run (ρ : Dev nD → PrngReg) : θ_run defs (onTc (τ := τ) (main (F := Ideal))) ⟨m, fun _ => 0, ρ⟩ fun r => ∀ c : Dev nD,
      r.2.mem ((c.tc : Thread nD τ).loc main_v26) = C (X0 m c) (G0 m c) (W0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).2 main_v26 (Pipeline.mem_restRefs_of main_v26 (by decide) (by decide))).trans (value m c),
    h.2 c⟩) (θ_run_and (run_main m ρ) (unchanged m ρ))

end Kernel

/-! ### The reference -/

section Ref
open Cert.Reference5Ideal Cert.Reference5Ideal.Gen

variable (m : (ℓ : Loc nD τ sig) → Buf (Elt Ideal) ℓ) (ρ : Dev nD → PrngReg)

/-- The product of the normalized rows with the weights, at an index. -/
theorem dot_apply (x : FVec Ideal S8x4096x2048 .f32) (g : FVec Ideal S2048 .f32) (w : FVec Ideal S2048x20560 .f32)
    (b : Fin 8) (r : Fin 4096) (d : Fin 20560) :
    (Host.dotGeneral dot_S8x4096x2048_S2048x20560_S8x4096x20560_2_0_01_1_n_n none (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) w : FVec Ideal S8x4096x20560 .f32) (ix3 b r d)
      = proj (fun k => x (ix3 b r k)) (fun k => g (ix1 k)) (fun k => w (ix2 k d)) := by
  unfold proj nrm
  pointwise

/-- The last three rows behind a context, at the columns of the convolution. -/
theorem last_apply (z : FVec Ideal S8x3x6144 .f32) (p : FVec Ideal S8x4096x20560 .f32) (b : Fin 8) (u : Fin 3) (q : Fin 6144) :
    extractStridedSlice S8x3x6144 ![0, 4096, 0] (concatenate S8x4099x6144 1 [⟨S8x3x6144, z⟩, ⟨S8x4096x6144, (extractStridedSlice S8x4096x6144 ![0, 0, 4096] p slices_S8x4096x20560_S8x4096x6144_0_0_4096)⟩] concatenates_S8x3x6144_S8x4096x6144_S8x4099x6144_d1) slices_S8x4099x6144_S8x3x6144_0_4096_0 (ix3 b u q)
      = p (ix3 b (tailRow u) (convCol q)) := by
  unfold tailRow convCol
  pointwise
  rw [dif_neg (by omega)]
  congr 2
  exact Fin.ext (by show 4096 + u.val - 3 = 4093 + u.val; omega)

/-- The reference's run, with its result read. -/
theorem ref_run : θ_run defs (onTc (τ := τ) (main (F := Ideal))) ⟨m, fun _ => 0, ρ⟩ fun r => ∀ c : Dev nD,
      r.2.mem ((c.tc : Thread nD τ).loc main_v17) = C (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext i
      obtain ⟨b, u, q, rfl⟩ : ∃ (b : Fin 8) (u : Fin 3) (q : Fin 6144), i = ix3 b u q := ⟨i 0, i 1, i 2, eq_ix3 i⟩
      refine (last_apply _ _ b u q).trans ?_
      exact dot_apply _ _ _ b (tailRow u) (convCol q)), (h c).2⟩) (Value.run m ρ)

end Ref

/-! ### The claim -/

theorem algebraic : Cert.algebraic_Kernel5Ideal_Reference5Ideal := fun m ρ m' ρ' _ hag =>
  ⟨fun c => C (X0 m c) (G0 m c) (W0 m c), run m ρ,
    (θ_run _ _ _).mono (fun _ h c => ⟨(h c).1.trans (by
      obtain ⟨e0, e1, e2⟩ := hag c
      unfold X0 G0 W0
      rw [e0, e1, e2]), (h c).2⟩) (ref_run m' ρ')⟩

end Cert.Proof.ConvPrompt

end
-- ==== Proof.ConvSample.lean ====
/- The value of the convolution state that a sample batch leaves: as for a prompt batch, with all rows in one block and the
   state that came in as the context that the reference puts in front of the rows. The layout of the weights is the same,
   and the lemma that reads it is shared. -/
module

public import proofs.«01_k».proof.Defs
public import proofs.«01_k».proof.Proof.Gen.Kernel6Ideal.Frame
public import proofs.«01_k».proof.Proof.Gen.Reference6Ideal.Run
public import proofs.«01_k».proof.Proof.Inproj
public import proofs.«01_k».proof.Proof.ConvPrompt
public import Idealize.ShloMosaic.Lib.Pointwise

@[expose] public section

set_option maxRecDepth 16384

noncomputable section

open Idealize.ShloMosaic Idealize.ShloMosaic.TcCoe Idealize.SL.Sem
open Cert.Proof.Inproj (nrm proj hz)
open Cert.Proof.ConvPrompt (convCol lay lay_apply)
open scoped BigOperators

namespace Cert.Proof.ConvSample

/-- The last three rows of a sequence. -/
def tailRow (u : Fin 3) : Fin 64 := ⟨61 + u.val, by have := u.isLt; omega⟩

/-- The row and the position in it of row `r` of the two batch axes taken as one. -/
def hiRow (r : Fin 512) : Fin 8 := ⟨r.val / 64, by have := r.isLt; omega⟩
def loRow (r : Fin 512) : Fin 64 := ⟨r.val % 64, by omega⟩

/-- The projection of all rows with the laid-out weights. -/
def G (x : (⟨3, ![8, 64, 2048]⟩ : Shape).Idx → EReal) (g : (⟨1, ![2048]⟩ : Shape).Idx → EReal)
    (w : (⟨2, ![2048, 20736]⟩ : Shape).Idx → EReal) : (⟨2, ![512, 20736]⟩ : Shape).Idx → EReal := fun i =>
  proj (fun k => x (ix3 (hiRow (i 0)) (loRow (i 0)) k)) (fun k => g (ix1 k)) (fun k => w (ix2 k (i 1)))

/-- The result array, from the arguments. -/
def C (x : (⟨3, ![8, 64, 2048]⟩ : Shape).Idx → EReal) (g : (⟨1, ![2048]⟩ : Shape).Idx → EReal)
    (w : (⟨2, ![2048, 20560]⟩ : Shape).Idx → EReal) : (⟨3, ![8, 3, 6144]⟩ : Shape).Idx → EReal := fun i =>
  proj (fun k => x (ix3 (i 0) (tailRow (i 1)) k)) (fun k => g (ix1 k)) (fun k => w (ix2 k (convCol (i 2))))

/-! ### The kernel -/

section Kernel
open Cert.Kernel6Ideal Cert.Kernel6Ideal.Gen

/-- The normalized block at an index. -/
theorem pay1_apply (v8 : FVec Ideal S512x2048 .f32) (v20 : FVec Ideal S1x2048 .f32) (r : Fin 512) (k : Fin 2048) :
    k0_pay1 (F := Ideal) v8 v20 (ix2 r k) = nrm (fun k => v8 (ix2 r k)) (fun k => v20 (ix2 0 k)) k := by
  unfold nrm
  pointwise [k0_pay1]

/-- The product at an index. -/
theorem pay2_apply (v3 : FVec Ideal S512x2048 .bf16) (v4 : FVec Ideal S2048x768 .bf16) (r : Fin 512) (d : Fin 768) :
    k0_pay2 (F := Ideal) v3 v4 (ix2 r d) = ∑ k : Fin 2048, v3 (ix2 r k) * v4 (ix2 k d) := by
  pointwise [k0_pay2]

section Body
variable (c : Dev nD) (i : grid0.Coords) (a2 : Memref sig .tc .vmem S512x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S512x768 .f32) (h5 : a5.IsWhole)
  (a6 : Memref sig .tc .vmem S512x2048 .bf16) (h6 : a6.IsWhole) (x0 : Vec Ideal S512x2048 .f32) (x1 : Vec Ideal S1x2048 .f32)
  (x2 : Vec Ideal S2048x768 .bf16) (xs : Vec Ideal S512x2048 .bf16)

/-- The first point of a block of rows stores the normalized block. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- It leaves the product of that block with the columns of the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.ld_unit_zero (S := S512x2048) hz,
    View.ld_unit_zero (S := S1x2048) hz, View.ld_unit_zero (S := S2048x768) hz, View.readCov_unit_zero (S := S512x2048) _ hz]

/-- The later points leave the product of the kept block with the columns of the weights. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread, View.ld_unit_zero (S := S512x2048) hz,
    View.ld_unit_zero (S := S2048x768) hz]

end Body

variable (m : (ℓ : Loc nD τ sig) → Buf (Elt Ideal) ℓ) (c : Dev nD)

abbrev X0 : S8x64x2048.Idx → EReal := m ((c : Thread nD τ).loc main_arg0)
abbrev G0 : S2048.Idx → EReal := m ((c : Thread nD τ).loc main_arg2)
abbrev W0 : S2048x20560.Idx → EReal := m ((c : Thread nD τ).loc main_arg3)
/-- The weights as the host lays them out for the kernel. -/
abbrev WP : S2048x20736.Idx → EReal := V m c main_v19

theorem V_x : V m c main_v20 = shapeCast S512x2048 (X0 m c) shapeCasts_S8x64x2048_S512x2048 := by
  show StableHlo.after hostOps0 _ _ = _
  after_results; rfl
theorem V_g : V m c main_v21 = fun i => G0 m c (ix1 (i 1)) := by
  show StableHlo.after hostOps0 _ _ = _
  after_results; funext i; idx_vars i; pointwise

/-- The columns of the laid-out weights that the convolution state is taken from. -/
theorem V_xbc : V m c main_v1 = extractStridedSlice S2048x6144 ![0, 4096] (W0 m c) slices_S2048x20560_S2048x6144_0_4096 := by
  show StableHlo.after hostOps0 _ _ = _
  after_results
theorem V_xs : V m c main_v16 = extractStridedSlice S2048x4096 ![0, 0] (V m c main_v1) slices_S2048x6144_S2048x4096_0_0 := by
  show StableHlo.after hostOps0 _ _ = _
  after_results; rfl
theorem V_bc : V m c main_v17 = extractStridedSlice S2048x2048 ![0, 4096] (V m c main_v1) slices_S2048x6144_S2048x2048_0_4096 := by
  show StableHlo.after hostOps0 _ _ = _
  after_results; rfl
theorem V_wp : WP m c = (truncf .bf16 (concatenate S2048x20736 1 [⟨S2048x4096, (V m c main_v16 : FVec Ideal S2048x4096 .f32)⟩,
    ⟨S2048x4096, (V m c main_v0 : FVec Ideal S2048x4096 .f32)⟩, ⟨S2048x4096, (V m c main_v8 : FVec Ideal S2048x4096 .f32)⟩,
    ⟨S2048x2048, (V m c main_v17 : FVec Ideal S2048x2048 .f32)⟩, ⟨S2048x2048, (V m c main_v5 : FVec Ideal S2048x2048 .f32)⟩,
    ⟨S2048x2048, (V m c main_v6 : FVec Ideal S2048x2048 .f32)⟩, ⟨S2048x1024, (V m c main_v3 : FVec Ideal S2048x1024 .f32)⟩,
    ⟨S2048x1024, (V m c main_v4 : FVec Ideal S2048x1024 .f32)⟩, ⟨S2048x256, (V m c main_v15 : FVec Ideal S2048x256 .f32)⟩]
    concatenates_S2048x4096_S2048x4096_S2048x4096_S2048x2048_S2048x2048_S2048x2048_S2048x1024_S2048x1024_S2048x256_S2048x20736_d1 : FVec Ideal S2048x20736 .f32) bitsLt_bf16_f32 : FVec Ideal S2048x20736 .bf16) := by
  show StableHlo.after hostOps0 _ _ = _
  after_results; rfl

theorem WP_lay (k : Fin 2048) (q : Fin 6144) : WP m c (ix2 k (lay q)) = W0 m c (ix2 k (convCol q)) := by
  rw [V_wp, V_xs, V_bc, V_xbc]
  exact lay_apply _ _ _ _ _ _ _ _ k q

theorem hi : ∀ t : Fin cfg0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val)

theorem lt27 (t : Fin cfg0.N) : t.val < 27 := lt_of_lt_of_eq t.isLt N_0

/-- Column `d` of the block of columns that position `n` works on. -/
def col (n : ℕ) (h : n < 27) (d : Fin 768) : Fin 20736 := ⟨n * 768 + d.val, by have := d.isLt; omega⟩

theorem flat_apply (x : S8x64x2048.Idx → EReal) (r : Fin 512) (d : Fin 2048) :
    shapeCast S512x2048 x shapeCasts_S8x64x2048_S512x2048 (ix2 r d) = x (ix3 (hiRow r) (loRow r) d) := by
  refine shapeCast_apply x _ _ _ ?_
  rw [Shape.rowMajor_val_two, Shape.rowMajor_val_three]
  show (r.val / 64 * 64 + r.val % 64) * 2048 + d.val = r.val * 2048 + d.val
  rw [Nat.div_add_mod']

theorem iblk0_apply (t : Fin cfg0.N) (r : Fin 512) (k : Fin 2048) : (iblk m c 0 t : S512x2048.Idx → EReal) (ix2 r k)
    = X0 m c (ix3 (hiRow r) (loRow r) k) := by
  obtain ⟨h0, h1, -⟩ := hi t
  rw [← flat_apply (X0 m c), ← V_x]
  show V m c main_v20 _ = V m c main_v20 _
  congr 1; funext a; apply Fin.ext
  match a with
  | ⟨0, _⟩ => show win0_0.index t 0 * 512 + 1 * r.val = r.val; rw [h0]; omega
  | ⟨1, _⟩ => show win0_0.index t 1 * 2048 + 1 * k.val = k.val; rw [h1]; omega

theorem iblk1_apply (t : Fin cfg0.N) (d : Fin 2048) : (iblk m c 1 t : S1x2048.Idx → EReal) (ix2 0 d) = G0 m c (ix1 d) := by
  obtain ⟨-, -, h0, h1, -⟩ := hi t
  have e := congrFun (V_g m c) (ix2 0 d)
  refine Eq.trans ?_ e
  show V m c main_v21 _ = V m c main_v21 _
  congr 1; funext a; apply Fin.ext
  match a with
  | ⟨0, _⟩ => show win0_1.index t 0 * 1 + 1 * 0 = 0; rw [h0]
  | ⟨1, _⟩ => show win0_1.index t 1 * 2048 + 1 * d.val = d.val; rw [h1]; omega

theorem iblk2_apply (t : Fin cfg0.N) (k : Fin 2048) (d : Fin 768) :
    (iblk m c 2 t : S2048x768.Idx → EReal) (ix2 k d) = WP m c (ix2 k (col t.val (lt27 t) d)) := by
  obtain ⟨-, -, -, -, h0, h1, -⟩ := hi t
  unfold WP
  show V m c main_v19 _ = V m c main_v19 _
  congr 1; funext a; apply Fin.ext
  match a with
  | ⟨0, _⟩ => show win0_2.index t 0 * 2048 + 1 * k.val = k.val; rw [h0]; omega
  | ⟨1, _⟩ => show win0_2.index t 1 * 768 + 1 * d.val = t.val * 768 + d.val; rw [h1]; omega

/-- The normalized rows. -/
def kept : S512x2048.Idx → EReal := fun i =>
  nrm (fun k => X0 m c (ix3 (hiRow (i 0)) (loRow (i 0)) k)) (fun k => G0 m c (ix1 k)) (i 1)

theorem pay1_eq (t : Fin cfg0.N) : k0_pay1 (F := Ideal) (iblk m c 0 t) (iblk m c 1 t) = kept m c := by
  funext i
  obtain ⟨r, k, rfl⟩ : ∃ (r : Fin 512) (k : Fin 2048), i = ix2 r k := ⟨i 0, i 1, eq_ix2 i⟩
  refine (pay1_apply _ _ r k).trans ?_
  simp only [iblk0_apply, iblk1_apply]
  rfl

/-- Every point leaves the normalized rows in the scratch. -/
theorem scratch_eq : ∀ (n : ℕ) (hn : n < cfg0.N), (outsAt0 m c n hn).2 = kept m c := by
  intro n
  induction n with
  | zero =>
    intro hn
    rw [outsAt0_A m c ⟨0, hn⟩ rfl]
    dsimp only
    rw [sout_A]
    exact pay1_eq m c ⟨0, hn⟩
  | succ n ih =>
    intro hn
    have h27 := lt27 ⟨n + 1, hn⟩
    rw [outsAt0_B m c ⟨n + 1, hn⟩ (by dsimp only at h27 ⊢; omega)]
    exact ih (Nat.lt_of_succ_lt hn)

/-- What point `t` leaves in the result's buffer. -/
theorem out_eq (t : Fin cfg0.N) : (outsAt0 m c t.val t.isLt).1 = k0_pay2 (F := Ideal) (kept m c) (iblk m c 2 t) := by
  by_cases h0 : t.val % 27 = 0
  · rw [outsAt0_A m c t h0]
    dsimp only
    rw [out_A, pay1_eq]
  · rw [outsAt0_B m c t h0]
    dsimp only
    rw [out_B, scratch_eq]

/-- What point `t` writes back is block `t` of the projection. -/
theorem flushed_eq (t : Fin cfg0.N) : (dats m 0 c).flushed 3 t
    = ((cfg0.win 3).blk t).view.read (Elt Ideal) (G (X0 m c) (G0 m c) (WP m c)) := by
  obtain ⟨-, -, -, -, -, -, h0, h1⟩ := hi t
  show (cfg0.win 3).cut (grid0.coords t) ((dats m 0 c).after 3 t) = _
  rw [after0_3, out_eq]
  funext i
  obtain ⟨r, d, rfl⟩ : ∃ (r : Fin 512) (d : Fin 768), i = ix2 r d := ⟨i 0, i 1, eq_ix2 i⟩
  refine (pay2_apply _ _ r d).trans ?_
  have e : ((cfg0.win 3).blk t).view.read (Elt Ideal) (G (X0 m c) (G0 m c) (WP m c)) (ix2 r d)
      = G (X0 m c) (G0 m c) (WP m c) (ix2 r (col t.val (lt27 t) d)) := by
    show G (X0 m c) (G0 m c) (WP m c) _ = _
    congr 1; funext a; apply Fin.ext
    match a with
    | ⟨0, _⟩ => show win0_3.index t 0 * 512 + 1 * r.val = r.val; rw [h0]; omega
    | ⟨1, _⟩ => show win0_3.index t 1 * 768 + 1 * d.val = t.val * 768 + d.val; rw [h1]; omega
  refine Eq.trans ?_ e.symm
  simp only [iblk2_apply]
  rfl

/-- The blocks cover the array. -/
theorem cover (i : S512x20736.Idx) : ∃ t : Fin cfg0.N, (cfg0.win 3).flush t = true ∧ i ∈ ((cfg0.win 3).blk t).view.set := by
  have hr : (i 0).val < 512 := (i 0).isLt
  have hd : (i 1).val < 20736 := (i 1).isLt
  have hN : (i 1).val / 768 < cfg0.N := lt_of_lt_of_eq (by omega) N_0.symm
  refine ⟨⟨_, hN⟩, flush0_3 _, ?_⟩
  obtain ⟨-, -, -, -, -, -, h0, h1⟩ := hi ⟨_, hN⟩
  show i ∈ ((View.whole main_v22).slice (win0_3.rect ⟨_, hN⟩)).set
  rw [View.set_slice_whole, Rect.mem_set_unit]
  intro a
  match a with
  | ⟨0, _⟩ =>
    show win0_3.index ⟨_, hN⟩ 0 * 512 ≤ (i 0).val ∧ (i 0).val < win0_3.index ⟨_, hN⟩ 0 * 512 + 512
    rw [h0]; dsimp only; omega
  | ⟨1, _⟩ =>
    show win0_3.index ⟨_, hN⟩ 1 * 768 ≤ (i 1).val ∧ (i 1).val < win0_3.index ⟨_, hN⟩ 1 * 768 + 768
    rw [h1]; dsimp only; omega

theorem final : (dats m 0 c).arrAt 3 cfg0.N = G (X0 m c) (G0 m c) (WP m c) :=
  (dats m 0 c).arrAt_eq_of_cover 3 _ (fun t _ => flushed_eq m c t) (cover)

/-- The host's operations after the kernel, on the projection. -/
def tailOf (p : FVec Ideal S512x20736 .f32) : FVec Ideal S8x3x6144 .f32 :=
  concatenate S8x3x6144 2 [⟨S8x3x4096, extractStridedSlice S8x3x4096 ![0, 61, 0] (shapeCast S8x64x20736 p shapeCasts_S512x20736_S8x64x20736) slices_S8x64x20736_S8x3x4096_0_61_0⟩,
    ⟨S8x3x2048, extractStridedSlice S8x3x2048 ![0, 61, 12288] (shapeCast S8x64x20736 p shapeCasts_S512x20736_S8x64x20736) slices_S8x64x20736_S8x3x2048_0_61_12288⟩]
    concatenates_S8x3x4096_S8x3x2048_S8x3x6144_d2

theorem tail_eq : Pipeline.afterTail₀ cfgs (dats m) 0 (V0 m) [hostOps1] c main_v26 = tailOf (G (X0 m c) (G0 m c) (WP m c)) := by
  have e : Pipeline.withArrays (cfgs 0).spec c (V0 m c) (fun w => (dats m 0 c).arrAt w (cfgs 0).N) (Proc.tc.devRef main_v22)
      = G (X0 m c) (G0 m c) (WP m c) :=
    (Pipeline.withArrays_arr (cfgs 0).spec (by decide) c (V0 m c) (fun w => (dats m 0 c).arrAt w (cfgs 0).N) 3).trans (final m c)
  show StableHlo.after hostOps1 _ _ = _
  after_results
  rw [e]
  rfl

theorem unflat_apply (p : FVec Ideal S512x20736 .f32) (b : Fin 8) (t : Fin 64) (d : Fin 20736) :
    shapeCast S8x64x20736 p shapeCasts_S512x20736_S8x64x20736 (ix3 b t d)
      = p (ix2 ⟨b.val * 64 + t.val, by have := b.isLt; have := t.isLt; omega⟩ d) := by
  refine shapeCast_apply p _ _ _ ?_
  rw [Shape.rowMajor_val_two, Shape.rowMajor_val_three]
  rfl

theorem tailOf_apply (p : FVec Ideal S512x20736 .f32) (b : Fin 8) (u : Fin 3) (q : Fin 6144) : tailOf p (ix3 b u q)
    = p (ix2 ⟨b.val * 64 + (tailRow u).val, by have := b.isLt; have := (tailRow u).isLt; omega⟩ (lay q)) := by
  refine Eq.trans ?_ (unflat_apply p b (tailRow u) (lay q))
  unfold tailOf
  generalize shapeCast S8x64x20736 p shapeCasts_S512x20736_S8x64x20736 = P
  unfold lay tailRow
  by_cases h : q.val < 4096
  · rw [dif_pos h]
    pointwise
    exact dif_pos h
  · rw [dif_neg h]
    pointwise
    rw [dif_neg h]
    exact congrArg (fun l => P (ix3 b _ l)) (Fin.ext (by dsimp only; omega))

/-- The kernel's result. -/
theorem value : Pipeline.afterTail₀ cfgs (dats m) 0 (V0 m) [hostOps1] c main_v26 = C (X0 m c) (G0 m c) (W0 m c) := by
  rw [tail_eq]
  funext i
  obtain ⟨b, u, q, rfl⟩ : ∃ (b : Fin 8) (u : Fin 3) (q : Fin 6144), i = ix3 b u q := ⟨i 0, i 1, i 2, eq_ix3 i⟩
  refine (tailOf_apply _ b u q).trans ?_
  have hb := b.isLt
  have hu := (tailRow u).isLt
  have e0 : hiRow ⟨b.val * 64 + (tailRow u).val, by omega⟩ = b := Fin.ext (by show (_ + _) / 64 = _; omega)
  have e1 : loRow ⟨b.val * 64 + (tailRow u).val, by omega⟩ = tailRow u := Fin.ext (by show (_ + _) % 64 = _; omega)
  show proj _ _ _ = proj _ _ _
  congr 1
  · funext k
    show X0 m c (ix3 (hiRow ⟨b.val * 64 + (tailRow u).val, by omega⟩) (loRow ⟨b.val * 64 + (tailRow u).val, by omega⟩) k) = X0 m c (ix3 b (tailRow u) k)
    rw [e0, e1]
  · funext k
    exact WP_lay m c k q

theorem run (ρ : Dev nD → PrngReg) : θ_run defs (onTc (τ := τ) (main (F := Ideal))) ⟨m, fun _ => 0, ρ⟩ fun r => ∀ c : Dev nD,
      r.2.mem ((c.tc : Thread nD τ).loc main_v26) = C (X0 m c) (G0 m c) (W0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).2 main_v26 (Pipeline.mem_restRefs_of main_v26 (by decide) (by decide))).trans (value m c),
    h.2 c⟩) (θ_run_and (run_main m ρ) (unchanged m ρ))

end Kernel

/-! ### The reference -/

section Ref
open Cert.Reference6Ideal Cert.Reference6Ideal.Gen

variable (m : (ℓ : Loc nD τ sig) → Buf (Elt Ideal) ℓ) (ρ : Dev nD → PrngReg)

/-- The product of the normalized rows with the weights, at an index. -/
theorem dot_apply (x : FVec Ideal S8x64x2048 .f32) (g : FVec Ideal S2048 .f32) (w : FVec Ideal S2048x20560 .f32)
    (b : Fin 8) (r : Fin 64) (d : Fin 20560) :
    (Host.dotGeneral dot_S8x64x2048_S2048x20560_S8x64x20560_2_0_01_1_n_n none (mulf (mulf x (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf x x) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 g))) w : FVec Ideal S8x64x20560 .f32) (ix3 b r d)
      = proj (fun k => x (ix3 b r k)) (fun k => g (ix1 k)) (fun k => w (ix2 k d)) := by
  unfold proj nrm
  pointwise

/-- The last three rows behind a context, at the columns of the convolution. -/
theorem last_apply (z : FVec Ideal S8x3x6144 .f32) (p : FVec Ideal S8x64x20560 .f32) (b : Fin 8) (u : Fin 3) (q : Fin 6144) :
    extractStridedSlice S8x3x6144 ![0, 64, 0] (concatenate S8x67x6144 1 [⟨S8x3x6144, z⟩, ⟨S8x64x6144, (extractStridedSlice S8x64x6144 ![0, 0, 4096] p slices_S8x64x20560_S8x64x6144_0_0_4096)⟩] concatenates_S8x3x6144_S8x64x6144_S8x67x6144_d1) slices_S8x67x6144_S8x3x6144_0_64_0 (ix3 b u q)
      = p (ix3 b (tailRow u) (convCol q)) := by
  unfold tailRow convCol
  pointwise
  rw [dif_neg (by omega)]
  congr 2
  exact Fin.ext (by show 64 + u.val - 3 = 61 + u.val; omega)

/-- The reference's run, with its result read. -/
theorem ref_run : θ_run defs (onTc (τ := τ) (main (F := Ideal))) ⟨m, fun _ => 0, ρ⟩ fun r => ∀ c : Dev nD,
      r.2.mem ((c.tc : Thread nD τ).loc main_v16) = C (m ((c.tc : Thread nD τ).loc main_arg0)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext i
      obtain ⟨b, u, q, rfl⟩ : ∃ (b : Fin 8) (u : Fin 3) (q : Fin 6144), i = ix3 b u q := ⟨i 0, i 1, i 2, eq_ix3 i⟩
      refine (last_apply _ _ b u q).trans ?_
      exact dot_apply _ _ _ b (tailRow u) (convCol q)), (h c).2⟩) (Value.run m ρ)

end Ref

/-! ### The claim -/

theorem algebraic : Cert.algebraic_Kernel6Ideal_Reference6Ideal := fun m ρ m' ρ' _ hag =>
  ⟨fun c => C (X0 m c) (G0 m c) (W0 m c), run m ρ,
    (θ_run _ _ _).mono (fun _ h c => ⟨(h c).1.trans (by
      obtain ⟨e0, -, e1, e2⟩ := hag c
      unfold X0 G0 W0
      rw [e0, e1, e2]), (h c).2⟩) (ref_run m' ρ')⟩

end Cert.Proof.ConvSample

end
-- ==== Proof.InprojSample.lean ====
/- The value of the input projection at the sample batch: the same function of its arguments as at the prompt batch, with
   all rows in one block, which stays in the scratch while the call passes over the weights' columns. -/
module

public import proofs.«01_k».proof.Defs
public import proofs.«01_k».proof.Proof.Gen.Kernel7Ideal.Value
public import proofs.«01_k».proof.Proof.Gen.Reference7Ideal.Run
public import proofs.«01_k».proof.Proof.Inproj
public import proofs.«01_k».proof.Proof.ConvSample
public import Idealize.ShloMosaic.Lib.Pointwise

@[expose] public section

set_option maxRecDepth 16384

noncomputable section

open Idealize.ShloMosaic Idealize.ShloMosaic.TcCoe Idealize.SL.Sem
open Cert.Proof.Inproj (nrm proj hz)
open Cert.Proof.ConvSample (hiRow loRow G pay1_apply pay2_apply)
open scoped BigOperators

namespace Cert.Proof.InprojSample

/-- The two batch axes taken as one, read at an index. -/
theorem flat_apply {n : ℕ} (x : (⟨3, ![8, 64, n]⟩ : Shape).Idx → EReal)
    (h : (⟨3, ![8, 64, n]⟩ : Shape).ShapeCasts ⟨2, ![512, n]⟩) (r : Fin 512) (d : Fin n) :
    shapeCast ⟨2, ![512, n]⟩ x h (ix2 r d) = x (ix3 (hiRow r) (loRow r) d) := by
  refine shapeCast_apply x h _ _ ?_
  rw [Shape.rowMajor_val_two, Shape.rowMajor_val_three]
  show (r.val / 64 * 64 + r.val % 64) * n + d.val = r.val * n + d.val
  rw [Nat.div_add_mod']

/-! ### The kernel -/

section Kernel
open Cert.Kernel7Ideal Cert.Kernel7Ideal.Gen

section Body
variable (c : Dev nD) (i : grid0.Coords) (a2 : Memref sig .tc .vmem S512x2048 .f32) (h2 : a2.IsWhole) (a3 : Memref sig .tc .vmem S1x2048 .f32)
  (h3 : a3.IsWhole) (a4 : Memref sig .tc .vmem S2048x768 .bf16) (h4 : a4.IsWhole) (a5 : Memref sig .tc .vmem S512x768 .f32) (h5 : a5.IsWhole)
  (a6 : Memref sig .tc .vmem S512x2048 .bf16) (h6 : a6.IsWhole) (x0 : Vec Ideal S512x2048 .f32) (x1 : Vec Ideal S1x2048 .f32)
  (x2 : Vec Ideal S2048x768 .bf16) (xs : Vec Ideal S512x2048 .bf16)

/-- The first point of a block of rows stores the normalized block. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- It leaves the product of that block with the columns of the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.ld_unit_zero (S := S512x2048) hz,
    View.ld_unit_zero (S := S1x2048) hz, View.ld_unit_zero (S := S2048x768) hz, View.readCov_unit_zero (S := S512x2048) _ hz]

/-- The later points leave the product of the kept block with the columns of the weights. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz]
  simp only [View.readAt_eq_ld, h4.read_unread, h6.read_unread, View.ld_unit_zero (S := S512x2048) hz,
    View.ld_unit_zero (S := S2048x768) hz]

end Body

variable (m : (ℓ : Loc nD τ sig) → Buf (Elt Ideal) ℓ) (c : Dev nD)

abbrev X0 : S8x64x2048.Idx → EReal := m ((c : Thread nD τ).loc main_arg0)
abbrev G0 : S2048.Idx → EReal := m ((c : Thread nD τ).loc main_arg1)
abbrev W0 : S2048x20736.Idx → EReal := m ((c : Thread nD τ).loc main_arg2)

theorem V_x : V m c main_v0 = shapeCast S512x2048 (X0 m c) shapeCasts_S8x64x2048_S512x2048 := by
  unfold V; after_results; rfl
theorem V_g : V m c main_v1 = fun i => G0 m c (ix1 (i 1)) := by
  unfold V; after_results; funext i; idx_vars i; pointwise
theorem V_w : V m c main_v2 = W0 m c := by
  unfold V; after_results; rfl

theorem hi : ∀ t : Fin cfg0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val :=
  (by decide +kernel : ∀ t : Fin grid0.N, win0_0.index t 0 = 0 ∧ win0_0.index t 1 = 0 ∧ win0_1.index t 0 = 0 ∧ win0_1.index t 1 = 0
    ∧ win0_2.index t 0 = 0 ∧ win0_2.index t 1 = t.val ∧ win0_3.index t 0 = 0 ∧ win0_3.index t 1 = t.val)

theorem lt27 (t : Fin cfg0.N) : t.val < 27 := lt_of_lt_of_eq t.isLt N_0

/-- Column `d` of the block of columns that position `n` works on. -/
def col (n : ℕ) (h : n < 27) (d : Fin 768) : Fin 20736 := ⟨n * 768 + d.val, by have := d.isLt; omega⟩

theorem iblk0_apply (t : Fin cfg0.N) (r : Fin 512) (k : Fin 2048) : (iblk m c 0 t : S512x2048.Idx → EReal) (ix2 r k)
    = X0 m c (ix3 (hiRow r) (loRow r) k) := by
  obtain ⟨h0, h1, -⟩ := hi t
  rw [← flat_apply (X0 m c) shapeCasts_S8x64x2048_S512x2048, ← V_x]
  show V m c main_v0 _ = V m c main_v0 _
  congr 1; funext a; apply Fin.ext
  match a with
  | ⟨0, _⟩ => show win0_0.index t 0 * 512 + 1 * r.val = r.val; rw [h0]; omega
  | ⟨1, _⟩ => show win0_0.index t 1 * 2048 + 1 * k.val = k.val; rw [h1]; omega

theorem iblk1_apply (t : Fin cfg0.N) (d : Fin 2048) : (iblk m c 1 t : S1x2048.Idx → EReal) (ix2 0 d) = G0 m c (ix1 d) := by
  obtain ⟨-, -, h0, h1, -⟩ := hi t
  have e := congrFun (V_g m c) (ix2 0 d)
  refine Eq.trans ?_ e
  show V m c main_v1 _ = V m c main_v1 _
  congr 1; funext a; apply Fin.ext
  match a with
  | ⟨0, _⟩ => show win0_1.index t 0 * 1 + 1 * 0 = 0; rw [h0]
  | ⟨1, _⟩ => show win0_1.index t 1 * 2048 + 1 * d.val = d.val; rw [h1]; omega

theorem iblk2_apply (t : Fin cfg0.N) (k : Fin 2048) (d : Fin 768) :
    (iblk m c 2 t : S2048x768.Idx → EReal) (ix2 k d) = W0 m c (ix2 k (col t.val (lt27 t) d)) := by
  obtain ⟨-, -, -, -, h0, h1, -⟩ := hi t
  rw [← V_w]
  show V m c main_v2 _ = V m c main_v2 _
  congr 1; funext a; apply Fin.ext
  match a with
  | ⟨0, _⟩ => show win0_2.index t 0 * 2048 + 1 * k.val = k.val; rw [h0]; omega
  | ⟨1, _⟩ => show win0_2.index t 1 * 768 + 1 * d.val = t.val * 768 + d.val; rw [h1]; omega

/-- The normalized rows. -/
def kept : S512x2048.Idx → EReal := fun i =>
  nrm (fun k => X0 m c (ix3 (hiRow (i 0)) (loRow (i 0)) k)) (fun k => G0 m c (ix1 k)) (i 1)

theorem pay1_eq (t : Fin cfg0.N) : k0_pay1 (F := Ideal) (iblk m c 0 t) (iblk m c 1 t) = kept m c := by
  funext i
  obtain ⟨r, k, rfl⟩ : ∃ (r : Fin 512) (k : Fin 2048), i = ix2 r k := ⟨i 0, i 1, eq_ix2 i⟩
  refine (pay1_apply _ _ r k).trans ?_
  simp only [iblk0_apply, iblk1_apply]
  rfl

/-- Every point leaves the normalized rows in the scratch. -/
theorem scratch_eq : ∀ (n : ℕ) (hn : n < cfg0.N), (outsAt0 m c n hn).2 = kept m c := by
  intro n
  induction n with
  | zero =>
    intro hn
    rw [outsAt0_A m c ⟨0, hn⟩ rfl]
    dsimp only
    rw [sout_A]
    exact pay1_eq m c ⟨0, hn⟩
  | succ n ih =>
    intro hn
    have h27 := lt27 ⟨n + 1, hn⟩
    rw [outsAt0_B m c ⟨n + 1, hn⟩ (by dsimp only at h27 ⊢; omega)]
    exact ih (Nat.lt_of_succ_lt hn)

/-- What point `t` leaves in the result's buffer. -/
theorem out_eq (t : Fin cfg0.N) : (outsAt0 m c t.val t.isLt).1 = k0_pay2 (F := Ideal) (kept m c) (iblk m c 2 t) := by
  by_cases h0 : t.val % 27 = 0
  · rw [outsAt0_A m c t h0]
    dsimp only
    rw [out_A, pay1_eq]
  · rw [outsAt0_B m c t h0]
    dsimp only
    rw [out_B, scratch_eq]

/-- What point `t` writes back is block `t` of the result. -/
theorem flushed_eq (t : Fin cfg0.N) : (dats m 0 c).flushed 3 t
    = ((cfg0.win 3).blk t).view.read (Elt Ideal) (G (X0 m c) (G0 m c) (W0 m c)) := by
  obtain ⟨-, -, -, -, -, -, h0, h1⟩ := hi t
  rw [Value.flushed3, out_eq]
  funext i
  obtain ⟨r, d, rfl⟩ : ∃ (r : Fin 512) (d : Fin 768), i = ix2 r d := ⟨i 0, i 1, eq_ix2 i⟩
  refine (pay2_apply _ _ r d).trans ?_
  have e : ((cfg0.win 3).blk t).view.read (Elt Ideal) (G (X0 m c) (G0 m c) (W0 m c)) (ix2 r d)
      = G (X0 m c) (G0 m c) (W0 m c) (ix2 r (col t.val (lt27 t) d)) := by
    show G (X0 m c) (G0 m c) (W0 m c) _ = _
    congr 1; funext a; apply Fin.ext
    match a with
    | ⟨0, _⟩ => show win0_3.index t 0 * 512 + 1 * r.val = r.val; rw [h0]; omega
    | ⟨1, _⟩ => show win0_3.index t 1 * 768 + 1 * d.val = t.val * 768 + d.val; rw [h1]; omega
  refine Eq.trans ?_ e.symm
  simp only [iblk2_apply]
  rfl

/-- The blocks cover the array. -/
theorem cover (i : S512x20736.Idx) : ∃ t : Fin cfg0.N, (cfg0.win 3).flush t = true ∧ i ∈ ((cfg0.win 3).blk t).view.set :=
  (Value.covered_iff3 i).mpr ⟨Nat.zero_le _, (i 0).isLt, Nat.zero_le _, (i 1).isLt⟩

theorem final : (dats m 0 c).arrAt 3 cfg0.N = G (X0 m c) (G0 m c) (W0 m c) :=
  (dats m 0 c).arrAt_eq_of_cover 3 _ (fun t _ => flushed_eq m c t) (cover)

end Kernel

/-! ### The reference -/

section Ref
open Cert.Reference7Ideal Cert.Reference7Ideal.Gen

variable (m : (ℓ : Loc nD τ sig) → Buf (Elt Ideal) ℓ) (ρ : Dev nD → PrngReg)

/-- The composed term of the reference's operations, before its two leading axes are taken as one, at an index. -/
theorem ref_apply (x : FVec Ideal S8x64x2048 .f32) (g : FVec Ideal S2048 .f32) (w : FVec Ideal S2048x20736 .f32)
    (b : Fin 8) (r : Fin 64) (d : Fin 20736) :
    (Host.dotGeneral dot_S8x64x2048_S2048x20736_S8x64x20736_2_0_01_1_n_n none (mulf (mulf x (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf x x) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 g))) w : FVec Ideal S8x64x20736 .f32) (ix3 b r d)
      = proj (fun k => x (ix3 b r k)) (fun k => g (ix1 k)) (fun k => w (ix2 k d)) := by
  unfold proj nrm
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v14) = G (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      funext i
      obtain ⟨r, d, rfl⟩ : ∃ (r : Fin 512) (d : Fin 20736), i = ix2 r d := ⟨i 0, i 1, eq_ix2 i⟩
      refine (flat_apply _ _ r d).trans ?_
      exact ref_apply _ _ _ (hiRow r) (loRow r) d), (h c).2⟩) (Value.run m ρ)

end Ref

/-! ### The claim -/

theorem algebraic : Cert.algebraic_Kernel7Ideal_Reference7Ideal := fun m ρ m' ρ' _ hag =>
  ⟨fun c => G (X0 m c) (G0 m c) (W0 m c),
    (θ_run _ _ _).mono (fun _ h c => ⟨(h c).1.trans (final m c), (h c).2⟩) (Cert.Kernel7Ideal.Value.run_blocks m ρ),
    (θ_run _ _ _).mono (fun _ h c => ⟨(h c).1.trans (by
      obtain ⟨e0, e1, e2⟩ := hag c
      unfold X0 G0 W0
      rw [e0, e1, e2]), (h c).2⟩) (ref_run m' ρ')⟩

end Cert.Proof.InprojSample

end
-- ==== Proof.MergeSample.lean ====
/- The value of the merging call at the sample batch: the same function of its arguments as at the prompt batch, with all
   rows in one block. -/
module

public import proofs.«01_k».proof.Defs
public import proofs.«01_k».proof.Proof.Gen.Kernel8Ideal.Value
public import proofs.«01_k».proof.Proof.Gen.Reference8Ideal.Run
public import proofs.«01_k».proof.Proof.Merge
public import Idealize.ShloMosaic.Lib.Pointwise

@[expose] public section

set_option maxRecDepth 16384

noncomputable section

open Idealize.ShloMosaic Idealize.ShloMosaic.TcCoe Idealize.SL.Sem
open Cert.Proof.Merge (gate merge hz)
open scoped BigOperators

namespace Cert.Proof.MergeSample

/-! ### The kernel -/

section Kernel
open Cert.Kernel8Ideal Cert.Kernel8Ideal.Gen

/-- The body's payload at an index. -/
theorem pay_apply (v0 : FVec Ideal S512x4096 .bf16) (v1 : FVec Ideal S4096x512 .bf16) (v4 : FVec Ideal S512x2048 .bf16)
    (v5 : FVec Ideal S2048x512 .bf16) (v8 v17 : FVec Ideal S512x512 .f32) (r : Fin 512) (d : Fin 512) :
    k0_pay1 (F := Ideal) v0 v1 v4 v5 v8 v17 (ix2 r d)
      = merge (fun k => v0 (ix2 r k)) (fun k => v4 (ix2 r k)) (v8 (ix2 r d)) (v17 (ix2 r d))
          (fun k => v1 (ix2 k d)) (fun k => v5 (ix2 k d)) := by
  unfold merge gate
  pointwise [k0_pay1, sub_eq_add_neg]

variable (m : (ℓ : Loc nD τ sig) → Buf (Elt Ideal) ℓ) (c : Dev nD)

abbrev A0 : S512x4096.Idx → EReal := m ((c : Thread nD τ).loc main_arg0)
abbrev B0 : S512x2048.Idx → EReal := m ((c : Thread nD τ).loc main_arg1)
abbrev P0 : S512x20736.Idx → EReal := m ((c : Thread nD τ).loc main_arg2)
abbrev W0 : S4096x2048.Idx → EReal := m ((c : Thread nD τ).loc main_arg3)
abbrev U0 : S2048x2048.Idx → EReal := m ((c : Thread nD τ).loc main_arg4)

theorem V_w : V m c main_v0 = W0 m c := by
  unfold V; after_results; rfl
theorem V_u : V m c main_v1 = U0 m c := by
  unfold V; after_results; rfl

/-- The result array, from the five arguments. -/
def G (a : S512x4096.Idx → EReal) (b : S512x2048.Idx → EReal) (p : S512x20736.Idx → EReal) (w : S4096x2048.Idx → EReal)
    (u : S2048x2048.Idx → EReal) : S512x2048.Idx → EReal := fun i =>
  have h : (i 1 : Nat) < 2048 := (i 1).isLt
  merge (fun k => a (ix2 (i 0) k)) (fun k => b (ix2 (i 0) k)) (p (ix2 (i 0) ⟨8192 + (i 1 : Nat), by omega⟩))
    (p (ix2 (i 0) ⟨10240 + (i 1 : Nat), by omega⟩)) (fun k => w (ix2 k (i 1))) (fun k => u (ix2 k (i 1)))

theorem hi : ∀ t : Fin cfg0.N, win0_0.index t 0 = t.val / 4 ∧ win0_0.index t 1 = 0 ∧ win0_1.index t 0 = t.val / 4 ∧ win0_1.index t 1 = 0
    ∧ win0_2.index t 0 = t.val / 4 ∧ win0_2.index t 1 = 16 + t.val % 4 ∧ win0_3.index t 0 = t.val / 4 ∧ win0_3.index t 1 = 20 + t.val % 4
    ∧ win0_4.index t 0 = 0 ∧ win0_4.index t 1 = t.val % 4 ∧ win0_5.index t 0 = 0 ∧ win0_5.index t 1 = t.val % 4
    ∧ win0_6.index t 0 = t.val / 4 ∧ win0_6.index t 1 = t.val % 4 :=
  (by decide +kernel : ∀ t : Fin grid0.N, win0_0.index t 0 = t.val / 4 ∧ win0_0.index t 1 = 0 ∧ win0_1.index t 0 = t.val / 4 ∧ win0_1.index t 1 = 0
    ∧ win0_2.index t 0 = t.val / 4 ∧ win0_2.index t 1 = 16 + t.val % 4 ∧ win0_3.index t 0 = t.val / 4 ∧ win0_3.index t 1 = 20 + t.val % 4
    ∧ win0_4.index t 0 = 0 ∧ win0_4.index t 1 = t.val % 4 ∧ win0_5.index t 0 = 0 ∧ win0_5.index t 1 = t.val % 4
    ∧ win0_6.index t 0 = t.val / 4 ∧ win0_6.index t 1 = t.val % 4)

/-- Row `r` of point `t`'s blocks, in the array. -/
def row (t : Fin cfg0.N) (r : Fin 512) : Fin 512 := ⟨t.val / 4 * 512 + r.val, by
  have h : cfg0.N = 4 := N_0
  have := t.isLt; have := r.isLt; omega⟩
/-- Column `d` of point `t`'s blocks, in the result. -/
def col (t : Fin cfg0.N) (d : Fin 512) : Fin 2048 := ⟨t.val % 4 * 512 + d.val, by have := d.isLt; omega⟩

theorem iblk0_apply (t : Fin cfg0.N) (r : Fin 512) (k : Fin 4096) :
    (iblk m c 0 t : S512x4096.Idx → EReal) (ix2 r k) = A0 m c (ix2 (row t r) k) := by
  obtain ⟨h0, h1, -⟩ := hi t
  unfold A0
  rw [← V_main_arg0 m c]
  show V m c main_arg0 _ = V m c main_arg0 _
  congr 1; funext a; apply Fin.ext
  match a with
  | ⟨0, _⟩ => show win0_0.index t 0 * 512 + 1 * r.val = t.val / 4 * 512 + r.val; rw [h0]; omega
  | ⟨1, _⟩ => show win0_0.index t 1 * 4096 + 1 * k.val = k.val; rw [h1]; omega

theorem iblk1_apply (t : Fin cfg0.N) (r : Fin 512) (k : Fin 2048) :
    (iblk m c 1 t : S512x2048.Idx → EReal) (ix2 r k) = B0 m c (ix2 (row t r) k) := by
  obtain ⟨-, -, h0, h1, -⟩ := hi t
  unfold B0
  rw [← V_main_arg1 m c]
  show V m c main_arg1 _ = V m c main_arg1 _
  congr 1; funext a; apply Fin.ext
  match a with
  | ⟨0, _⟩ => show win0_1.index t 0 * 512 + 1 * r.val = t.val / 4 * 512 + r.val; rw [h0]; omega
  | ⟨1, _⟩ => show win0_1.index t 1 * 2048 + 1 * k.val = k.val; rw [h1]; omega

theorem X2_apply (t : Fin cfg0.N) (r d : Fin 512) :
    (X0_2 m c t : S512x512.Idx → EReal) (ix2 r d) = P0 m c (ix2 (row t r) ⟨8192 + (col t d).val, by have := (col t d).isLt; omega⟩) := by
  obtain ⟨-, -, -, -, h0, h1, -⟩ := hi t
  unfold P0
  rw [← V_main_arg2 m c]
  unfold X0_2 Pipeline.Window.fill
  rw [dif_pos (moved0_2 t _)]
  show V m c main_arg2 _ = V m c main_arg2 _
  congr 1; funext a; apply Fin.ext
  match a with
  | ⟨0, _⟩ => show win0_2.index t 0 * 512 + 1 * r.val = t.val / 4 * 512 + r.val; rw [h0]; omega
  | ⟨1, _⟩ => show win0_2.index t 1 * 512 + 1 * d.val = 8192 + (t.val % 4 * 512 + d.val); rw [h1]; omega

theorem X3_apply (t : Fin cfg0.N) (r d : Fin 512) :
    (X0_3 m c t : S512x512.Idx → EReal) (ix2 r d) = P0 m c (ix2 (row t r) ⟨10240 + (col t d).val, by have := (col t d).isLt; omega⟩) := by
  obtain ⟨-, -, -, -, -, -, h0, h1, -⟩ := hi t
  unfold P0
  rw [← V_main_arg2 m c]
  unfold X0_3 Pipeline.Window.fill
  rw [dif_pos (moved0_3 t _)]
  show V m c main_arg2 _ = V m c main_arg2 _
  congr 1; funext a; apply Fin.ext
  match a with
  | ⟨0, _⟩ => show win0_3.index t 0 * 512 + 1 * r.val = t.val / 4 * 512 + r.val; rw [h0]; omega
  | ⟨1, _⟩ => show win0_3.index t 1 * 512 + 1 * d.val = 10240 + (t.val % 4 * 512 + d.val); rw [h1]; omega

theorem iblk4_apply (t : Fin cfg0.N) (k : Fin 4096) (d : Fin 512) :
    (iblk m c 4 t : S4096x512.Idx → EReal) (ix2 k d) = W0 m c (ix2 k (col t d)) := by
  obtain ⟨-, -, -, -, -, -, -, -, h0, h1, -⟩ := hi t
  rw [← V_w m c]
  show V m c main_v0 _ = V m c main_v0 _
  congr 1; funext a; apply Fin.ext
  match a with
  | ⟨0, _⟩ => show win0_4.index t 0 * 4096 + 1 * k.val = k.val; rw [h0]; omega
  | ⟨1, _⟩ => show win0_4.index t 1 * 512 + 1 * d.val = t.val % 4 * 512 + d.val; rw [h1]; omega

theorem iblk5_apply (t : Fin cfg0.N) (k : Fin 2048) (d : Fin 512) :
    (iblk m c 5 t : S2048x512.Idx → EReal) (ix2 k d) = U0 m c (ix2 k (col t d)) := by
  obtain ⟨-, -, -, -, -, -, -, -, -, -, h0, h1, -⟩ := hi t
  rw [← V_u m c]
  show V m c main_v1 _ = V m c main_v1 _
  congr 1; funext a; apply Fin.ext
  match a with
  | ⟨0, _⟩ => show win0_5.index t 0 * 2048 + 1 * k.val = k.val; rw [h0]; omega
  | ⟨1, _⟩ => show win0_5.index t 1 * 512 + 1 * d.val = t.val % 4 * 512 + d.val; rw [h1]; omega

/-- What the body leaves in the result's buffer is its one store's payload. -/
theorem out_eq (i : grid0.Coords) (a2 : Memref sig .tc .vmem S512x4096 .bf16) (h2 : a2.IsWhole) (a3 : Memref sig .tc .vmem S512x2048 .bf16) (h3 : a3.IsWhole)
    (a4 : Memref sig .tc .vmem S512x512 .f32) (h4 : a4.IsWhole) (a5 : Memref sig .tc .vmem S512x512 .f32) (h5 : a5.IsWhole)
    (a6 : Memref sig .tc .vmem S4096x512 .bf16) (h6 : a6.IsWhole) (a7 : Memref sig .tc .vmem S2048x512 .bf16) (h7 : a7.IsWhole)
    (a8 : Memref sig .tc .vmem S512x512 .bf16) (h8 : a8.IsWhole) (x0 : Vec Ideal S512x4096 .bf16) (x1 : Vec Ideal S512x2048 .bf16)
    (x2 x3 : Vec Ideal S512x512 .f32) (x4 : Vec Ideal S4096x512 .bf16) (x5 : Vec Ideal S2048x512 .bf16) :
    out0_A_6 c i a2 h2 a3 h3 a4 h4 a5 h5 a6 h6 a7 h7 a8 h8 x0 x1 x2 x3 x4 x5 = k0_pay1 x0 x4 x1 x5 x2 x3 := by
  unfold out0_A_6
  rw [View.read_writes_eq_canon _ _ _ (cover0_A_6 c i a2 h2 a3 h3 a4 h4 a5 h5 a6 h6 a7 h7 a8 h8 x0 x1 x2 x3 x4 x5)]
  unfold kernelRun0_A
  dsimp only
  rw [View.canon_unit_zero hz]
  simp only [View.readAt_eq_ld, h2.read_unread, h3.read_unread, h4.read_unread, h5.read_unread, h6.read_unread, h7.read_unread,
    View.ld_unit_zero (S := S512x4096) hz, View.ld_unit_zero (S := S512x2048) hz, View.ld_unit_zero (S := S512x512) hz,
    View.ld_unit_zero (S := S4096x512) hz, View.ld_unit_zero (S := S2048x512) hz]

/-- What point `t` writes back is block `t` of the result. -/
theorem flushed_eq (t : Fin cfg0.N) : (dats m 0 c).flushed 6 t
    = ((cfg0.win 6).blk t).view.read (Elt Ideal) (G (A0 m c) (B0 m c) (P0 m c) (W0 m c) (U0 m c)) := by
  obtain ⟨-, -, -, -, -, -, -, -, -, -, -, -, h0, h1⟩ := hi t
  rw [Value.flushed6_A, out_eq]
  funext i
  obtain ⟨r, d, rfl⟩ : ∃ (r : Fin 512) (d : Fin 512), i = ix2 r d := ⟨i 0, i 1, eq_ix2 i⟩
  refine (pay_apply _ _ _ _ _ _ r d).trans ?_
  have e : ((cfg0.win 6).blk t).view.read (Elt Ideal) (G (A0 m c) (B0 m c) (P0 m c) (W0 m c) (U0 m c)) (ix2 r d)
      = G (A0 m c) (B0 m c) (P0 m c) (W0 m c) (U0 m c) (ix2 (row t r) (col t d)) := by
    show G (A0 m c) (B0 m c) (P0 m c) (W0 m c) (U0 m c) _ = _
    congr 1; funext a; apply Fin.ext
    match a with
    | ⟨0, _⟩ => show win0_6.index t 0 * 512 + 1 * r.val = t.val / 4 * 512 + r.val; rw [h0]; omega
    | ⟨1, _⟩ => show win0_6.index t 1 * 512 + 1 * d.val = t.val % 4 * 512 + d.val; rw [h1]; omega
  refine Eq.trans ?_ e.symm
  simp only [iblk0_apply, iblk1_apply, iblk4_apply, iblk5_apply, X2_apply, X3_apply]
  rfl

/-- The blocks cover the array. -/
theorem cover (i : S512x2048.Idx) : ∃ t : Fin cfg0.N, (cfg0.win 6).flush t = true ∧ i ∈ ((cfg0.win 6).blk t).view.set := by
  have hN : cfg0.N = 4 := N_0
  have hi0 : (i 0 : Nat) < 512 := (i 0).isLt
  have hi1 : (i 1 : Nat) < 2048 := (i 1).isLt
  obtain ⟨t, ht⟩ : ∃ t : Fin cfg0.N, t.val = (i 0 : Nat) / 512 * 4 + (i 1 : Nat) / 512 := ⟨⟨_, by omega⟩, rfl⟩
  refine ⟨t, flush0_6 _, ?_⟩
  obtain ⟨-, -, -, -, -, -, -, -, -, -, -, -, h0, h1⟩ := hi t
  show i ∈ ((View.whole main_v2).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [h0]; omega
  | ⟨1, _⟩ => show win0_6.index t 1 * 512 ≤ (i 1 : Nat) ∧ (i 1 : Nat) < win0_6.index t 1 * 512 + 512
              rw [h1]; omega

theorem final : (dats m 0 c).arrAt 6 cfg0.N = G (A0 m c) (B0 m c) (P0 m c) (W0 m c) (U0 m c) :=
  (dats m 0 c).arrAt_eq_of_cover 6 _ (fun t _ => flushed_eq m c t) (cover)

end Kernel

/-! ### The reference -/

section Ref
open Cert.Reference8Ideal Cert.Reference8Ideal.Gen

variable (m : (ℓ : Loc nD τ sig) → Buf (Elt Ideal) ℓ) (ρ : Dev nD → PrngReg)

/-- The composed term of the reference's operations, at an index. -/
theorem ref_apply (a : FVec Ideal S512x4096 .bf16) (b : FVec Ideal S512x2048 .bf16) (p : FVec Ideal S512x20736 .f32)
    (w : FVec Ideal S4096x2048 .f32) (u : FVec Ideal S2048x2048 .f32) (r : Fin 512) (d : Fin 2048) :
    (truncf .bf16 (addf (mulf (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![0, 8192] p slices_S512x20736_S512x2048_0_8192))))) (Host.dotGeneral dot_S512x4096_S4096x2048_S512x2048_1_0_0_1_n_n none (extf .f32 a bitsLt_bf16_f32) w)) (mulf (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![0, 10240] p slices_S512x20736_S512x2048_0_10240))))) (Host.dotGeneral dot_S512x2048_S2048x2048_S512x2048_1_0_0_1_n_n none (extf .f32 b bitsLt_bf16_f32) u))) bitsLt_bf16_f32 : FVec Ideal S512x2048 .bf16) (ix2 r d) = G a b p w u (ix2 r d) := by
  unfold G merge gate
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v21) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext i
      obtain ⟨r, d, rfl⟩ : ∃ (r : Fin 512) (d : Fin 2048), i = ix2 r d := ⟨i 0, i 1, eq_ix2 i⟩
      exact ref_apply _ _ _ _ _ r d), (h c).2⟩) (Value.run m ρ)

end Ref

/-! ### The claim -/

theorem algebraic : Cert.algebraic_Kernel8Ideal_Reference8Ideal := fun m ρ m' ρ' _ hag =>
  ⟨fun c => G (A0 m c) (B0 m c) (P0 m c) (W0 m c) (U0 m c),
    (θ_run _ _ _).mono (fun _ h c => ⟨(h c).1.trans (final m c), (h c).2⟩) (Cert.Kernel8Ideal.Value.run_blocks m ρ),
    (θ_run _ _ _).mono (fun _ h c => ⟨(h c).1.trans (by
      obtain ⟨e0, e1, e2, e3, e4⟩ := hag c
      unfold A0 B0 P0 W0 U0
      rw [e0, e1, e2, e3, e4]), (h c).2⟩) (ref_run m' ρ')⟩

end Cert.Proof.MergeSample

end
-- ==== Proof.PostSample.lean ====
/- The value of the last call at the sample batch: the same function of its arguments as at the prompt batch, with all rows
   in one block. -/
module

public import proofs.«01_k».proof.Defs
public import proofs.«01_k».proof.Proof.Gen.Kernel9Ideal.Value
public import proofs.«01_k».proof.Proof.Gen.Reference9Ideal.Run
public import proofs.«01_k».proof.Proof.Post
public import Idealize.ShloMosaic.Lib.Pointwise

@[expose] public section

set_option maxRecDepth 16384

noncomputable section

open Idealize.ShloMosaic Idealize.ShloMosaic.TcCoe Idealize.SL.Sem
open Cert.Proof.Post (outp post hz)
open scoped BigOperators

namespace Cert.Proof.PostSample

/-! ### The kernel -/

section Kernel
open Cert.Kernel9Ideal Cert.Kernel9Ideal.Gen

/-- The body's payload at an index. -/
theorem pay_apply (v0 : Vec Ideal S512x2048 .bf16) (v1 : Vec Ideal S2048x2048 .bf16) (v9 : Vec Ideal S512x2048 .f32)
    (v16 : Vec Ideal S1x2048 .f32) (r : Fin 512) (d : Fin 2048) :
    k0_pay1 (F := Ideal) v0 v1 v9 v16 (ix2 r d) = post (n := 512) v0 v9 v1 (fun d => v16 (ix2 0 d)) r d := by
  pointwise [k0_pay1]
  rfl

variable (m : (ℓ : Loc nD τ sig) → Buf (Elt Ideal) ℓ) (c : Dev nD)

abbrev A0 : S512x2048.Idx → EReal := m ((c : Thread nD τ).loc main_arg0)
abbrev X0 : S8x64x2048.Idx → EReal := m ((c : Thread nD τ).loc main_arg1)
abbrev W0 : S2048x2048.Idx → EReal := m ((c : Thread nD τ).loc main_arg2)
abbrev G0 : S2048.Idx → EReal := m ((c : Thread nD τ).loc main_arg3)

theorem V_w : V m c main_v0 = W0 m c := by
  unfold V; after_results; rfl
theorem V_g : V m c main_v1 = fun i => G0 m c (ix1 (i 1)) := by
  unfold V; after_results; funext i; idx_vars i; pointwise
theorem V_x : V m c main_v2 = shapeCast S512x2048 (X0 m c) shapeCasts_S8x64x2048_S512x2048 := by
  unfold V; after_results; rfl

/-- The kernel's result array. -/
def G : S512x2048.Idx → EReal := fun i =>
  post (n := 512) (A0 m c) (shapeCast S512x2048 (X0 m c) shapeCasts_S8x64x2048_S512x2048) (W0 m c)
    (fun d => G0 m c (ix1 d)) (i 0) (i 1)

theorem hi : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0)

/-- Row `r` of block `t` is row `512 t + r` of the array. -/
def row (t : Fin cfg0.N) (r : Fin 512) : Fin 512 := ⟨t.val * 512 + r.val, by
  have h : cfg0.N = 1 := N_0
  have := t.isLt; have := r.isLt; omega⟩

theorem iblk0_apply (t : Fin cfg0.N) (r : Fin 512) (k : Fin 2048) :
    (iblk m c 0 t : S512x2048.Idx → EReal) (ix2 r k) = A0 m c (ix2 (row t r) k) := by
  obtain ⟨h0, h1, -⟩ := hi t
  unfold A0
  rw [← V_main_arg0 m c]
  show V m c main_arg0 _ = V m c main_arg0 _
  congr 1; funext a; apply Fin.ext
  match a with
  | ⟨0, _⟩ => show win0_0.index t 0 * 512 + 1 * r.val = t.val * 512 + r.val; rw [h0]; omega
  | ⟨1, _⟩ => show win0_0.index t 1 * 2048 + 1 * k.val = k.val; rw [h1]; omega

theorem iblk1_apply (t : Fin cfg0.N) (r : Fin 512) (k : Fin 2048) :
    (iblk m c 1 t : S512x2048.Idx → EReal) (ix2 r k)
      = shapeCast S512x2048 (X0 m c) shapeCasts_S8x64x2048_S512x2048 (ix2 (row t r) k) := by
  obtain ⟨-, -, h0, h1, -⟩ := hi t
  rw [← V_x]
  show V m c main_v2 _ = V m c main_v2 _
  congr 1; funext a; apply Fin.ext
  match a with
  | ⟨0, _⟩ => show win0_1.index t 0 * 512 + 1 * r.val = t.val * 512 + r.val; rw [h0]; omega
  | ⟨1, _⟩ => show win0_1.index t 1 * 2048 + 1 * k.val = k.val; rw [h1]; omega

theorem iblk2_eq (t : Fin cfg0.N) : (iblk m c 2 t : S2048x2048.Idx → EReal) = W0 m c := by
  obtain ⟨-, -, -, -, h0, h1, -⟩ := hi t
  funext i
  rw [← V_w]
  show V m c main_v0 _ = V m c main_v0 _
  congr 1; funext a; apply Fin.ext
  match a with
  | ⟨0, _⟩ => show win0_2.index t 0 * 2048 + 1 * (i 0).val = (i 0).val; rw [h0]; omega
  | ⟨1, _⟩ => show win0_2.index t 1 * 2048 + 1 * (i 1).val = (i 1).val; rw [h1]; omega

theorem iblk3_apply (t : Fin cfg0.N) (d : Fin 2048) : (iblk m c 3 t : S1x2048.Idx → EReal) (ix2 0 d) = G0 m c (ix1 d) := by
  obtain ⟨-, -, -, -, -, -, h0, h1, -⟩ := hi t
  have e := congrFun (V_g m c) (ix2 0 d)
  refine Eq.trans ?_ e
  show V m c main_v1 _ = V m c main_v1 _
  congr 1; funext a; apply Fin.ext
  match a with
  | ⟨0, _⟩ => show win0_3.index t 0 * 1 + 1 * 0 = 0; rw [h0]
  | ⟨1, _⟩ => show win0_3.index t 1 * 2048 + 1 * d.val = d.val; rw [h1]; omega

/-- What point `t` writes back is block `t` of the result. -/
theorem flushed_eq (t : Fin cfg0.N) : (dats m 0 c).flushed 4 t = ((cfg0.win 4).blk t).view.read (Elt Ideal) (G m c) := by
  obtain ⟨-, -, -, -, -, -, -, -, h0, h1⟩ := hi t
  rw [Value.flushed4]
  unfold out0_4
  rw [View.canon_unit_zero hz]
  simp only [View.ld_unit_zero (S := S512x2048) hz, View.ld_unit_zero (S := S2048x2048) hz, View.ld_unit_zero (S := S1x2048) hz]
  funext i
  obtain ⟨r, d, rfl⟩ : ∃ (r : Fin 512) (d : Fin 2048), i = ix2 r d := ⟨i 0, i 1, eq_ix2 i⟩
  refine (pay_apply _ _ _ _ r d).trans ?_
  have e : ((cfg0.win 4).blk t).view.read (Elt Ideal) (G m c) (ix2 r d) = G m c (ix2 (row t r) d) := by
    show G m c _ = _
    congr 1; funext a; apply Fin.ext
    match a with
    | ⟨0, _⟩ => show win0_4.index t 0 * 512 + 1 * r.val = t.val * 512 + r.val; rw [h0]; omega
    | ⟨1, _⟩ => show win0_4.index t 1 * 2048 + 1 * d.val = d.val; rw [h1]; omega
  refine Eq.trans ?_ e.symm
  unfold G Post.post outp
  rw [iblk1_apply, iblk2_eq]
  simp only [iblk0_apply, iblk3_apply]
  rfl

/-- The blocks cover the array. -/
theorem cover (i : S512x2048.Idx) : ∃ t : Fin cfg0.N, (cfg0.win 4).flush t = true ∧ i ∈ ((cfg0.win 4).blk t).view.set := by
  have hN : cfg0.N = 1 := N_0
  have hi0 : (i 0 : Nat) < 512 := (i 0).isLt
  have hi1 : (i 1 : Nat) < 2048 := (i 1).isLt
  have ht : (i 0 : Nat) / 512 < cfg0.N := by omega
  refine ⟨⟨(i 0 : Nat) / 512, ht⟩, flush0_4 _, ?_⟩
  obtain ⟨-, -, -, -, -, -, -, -, h0, h1⟩ := hi ⟨(i 0 : Nat) / 512, ht⟩
  show i ∈ ((View.whole main_v3).slice (win0_4.rect ⟨(i 0 : Nat) / 512, ht⟩)).set
  rw [View.set_slice_whole, Rect.mem_set_unit]
  intro a
  match a with
  | ⟨0, _⟩ => show win0_4.index ⟨(i 0 : Nat) / 512, ht⟩ 0 * 512 ≤ (i 0 : Nat) ∧ (i 0 : Nat) < win0_4.index ⟨(i 0 : Nat) / 512, ht⟩ 0 * 512 + 512
              rw [h0]; dsimp only; omega
  | ⟨1, _⟩ => show win0_4.index ⟨(i 0 : Nat) / 512, ht⟩ 1 * 2048 ≤ (i 1 : Nat) ∧ (i 1 : Nat) < win0_4.index ⟨(i 0 : Nat) / 512, ht⟩ 1 * 2048 + 2048
              rw [h1]; omega

theorem final : (dats m 0 c).arrAt 4 cfg0.N = G m c :=
  (dats m 0 c).arrAt_eq_of_cover 4 (G m c) (fun t _ => flushed_eq m c t) (cover)

end Kernel

/-! ### The reference -/

section Ref
open Cert.Reference9Ideal Cert.Reference9Ideal.Gen

variable (m : (ℓ : Loc nD τ sig) → Buf (Elt Ideal) ℓ) (ρ : Dev nD → PrngReg)

/-- The reference's result array. -/
def RG (c : Dev nD) : S512x2048.Idx → EReal := fun i =>
  post (n := 512) (m ((c.tc : Thread nD τ).loc main_arg0))
    (shapeCast S512x2048 (m ((c.tc : Thread nD τ).loc main_arg1) : S8x64x2048.Idx → EReal) shapeCasts_S8x64x2048_S512x2048)
    (m ((c.tc : Thread nD τ).loc main_arg2))
    (fun d => (m ((c.tc : Thread nD τ).loc main_arg3) : S2048.Idx → EReal) (ix1 d)) (i 0) (i 1)

/-- The composed term of the reference's operations, at an index. -/
theorem ref_apply (a : FVec Ideal S512x2048 .bf16) (x : FVec Ideal S512x2048 .f32) (w : FVec Ideal S2048x2048 .f32)
    (g : FVec Ideal S2048 .f32) (r : Fin 512) (d : Fin 2048) :
    (addf x (mulf (mulf (Host.dotGeneral dot_S512x2048_S2048x2048_S512x2048_1_0_0_1_n_n none (extf .f32 a bitsLt_bf16_f32) w) (broadcastInDim S512x2048 ![0, 1] bcast_S512x1_S512x2048_0_1 (Host.rsqrt (addf (Host.divf (broadcastInDim S512x1 ![0] bcast_S512_S512x1_0 (Host.reduceAdd (mulf (Host.dotGeneral dot_S512x2048_S2048x2048_S512x2048_1_0_0_1_n_n none (extf .f32 a bitsLt_bf16_f32) w) (Host.dotGeneral dot_S512x2048_S2048x2048_S512x2048_1_0_0_1_n_n none (extf .f32 a bitsLt_bf16_f32) w)) (constant S_ .f32 0x00000000#32) reducesTo_S512x2048_S512_d1 h_S_)) (broadcastInDim S512x1 ![] bcast_S_S512x1 (constant S_ .f32 0x45000000#32))) (broadcastInDim S512x1 ![] bcast_S_S512x1 (constant S_ .f32 0x358637BD#32)))))) (broadcastInDim S512x2048 ![0, 1] bcast_S1x2048_S512x2048_0_1 (broadcastInDim S1x2048 ![1] bcast_S2048_S1x2048_1 g))) : FVec Ideal S512x2048 .f32) (ix2 r d)
      = post (n := 512) a x w (fun d => g (ix1 d)) r d := by
  unfold Post.post outp
  pointwise

/-- The reference's run, with its result read. -/
theorem ref_run : θ_run defs (onTc (τ := τ) (main (F := Ideal))) ⟨m, fun _ => 0, ρ⟩ fun r => ∀ c : Dev nD,
      r.2.mem ((c.tc : Thread nD τ).loc main_v16) = RG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext i
      obtain ⟨r, d, rfl⟩ : ∃ (r : Fin 512) (d : Fin 2048), i = ix2 r d := ⟨i 0, i 1, eq_ix2 i⟩
      exact ref_apply _ _ _ _ r d), (h c).2⟩) (Value.run m ρ)

end Ref

/-! ### The claim -/

theorem algebraic : Cert.algebraic_Kernel9Ideal_Reference9Ideal := fun m ρ m' ρ' _ hag =>
  ⟨fun c => G m c,
    (θ_run _ _ _).mono (fun _ h c => ⟨(h c).1.trans (final m c), (h c).2⟩) (Cert.Kernel9Ideal.Value.run_blocks m ρ),
    (θ_run _ _ _).mono (fun _ h c => ⟨(h c).1.trans (by
      obtain ⟨e0, e1, e2, e3⟩ := hag c
      unfold RG G A0 X0 W0 G0
      rw [e0, e1, e2, e3]), (h c).2⟩) (ref_run m' ρ')⟩

end Cert.Proof.PostSample

end
-- ==== Proof.lean ====
/- The claims of this certificate together: each kernel's and reference's frame, and the value claims, which the modules
   imported here prove. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Ssd
public import proofs.«01_k».proof.Proof.Inproj
public import proofs.«01_k».proof.Proof.Merge
public import proofs.«01_k».proof.Proof.Post
public import proofs.«01_k».proof.Proof.ConvPrompt
public import proofs.«01_k».proof.Proof.ConvSample
public import proofs.«01_k».proof.Proof.InprojSample
public import proofs.«01_k».proof.Proof.MergeSample
public import proofs.«01_k».proof.Proof.PostSample
public import Idealize.ShloMosaic.Adequacy

@[expose] public section

noncomputable section

namespace Cert.Proof

open Idealize.ShloMosaic Idealize.SL.Sem

/-- The reference runs and leaves its arguments as they are; it has no semaphores. -/
theorem frame_r1 : Cert.quiescent_ReferenceIdeal := fun m ρ _ =>
  (θ_run Cert.ReferenceIdeal.defs _ _).mono (fun r h => ⟨fun c => (h c).2.2,
    sem_eq_zero_of_no_sems (by decide) r.2⟩) (Cert.ReferenceIdeal.Value.run (F := Ideal) m ρ)

/-- The reference runs and leaves its arguments as they are; it has no semaphores. -/
theorem frame_r2 : Cert.quiescent_Reference2Ideal := fun m ρ _ =>
  (θ_run Cert.Reference2Ideal.defs _ _).mono (fun r h => ⟨fun c => (h c).2,
    sem_eq_zero_of_no_sems (by decide) r.2⟩) (Cert.Reference2Ideal.Value.run (F := Ideal) m ρ)

/-- The reference runs and leaves its arguments as they are; it has no semaphores. -/
theorem frame_r3 : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

/-- The reference runs and leaves its arguments as they are; it has no semaphores. -/
theorem frame_r4 : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

/-- The reference runs and leaves its arguments as they are; it has no semaphores. -/
theorem frame_r5 : Cert.quiescent_Reference5Ideal := fun m ρ _ =>
  (θ_run Cert.Reference5Ideal.defs _ _).mono (fun r h => ⟨fun c => (h c).2,
    sem_eq_zero_of_no_sems (by decide) r.2⟩) (Cert.Reference5Ideal.Value.run (F := Ideal) m ρ)

/-- The reference runs and leaves its arguments as they are; it has no semaphores. -/
theorem frame_r6 : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

/-- The reference runs and leaves its arguments as they are; it has no semaphores. -/
theorem frame_r7 : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

/-- The reference runs and leaves its arguments as they are; it has no semaphores. -/
theorem frame_r8 : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

/-- The reference runs and leaves its arguments as they are; it has no semaphores. -/
theorem frame_r9 : Cert.quiescent_Reference9Ideal := fun m ρ _ =>
  (θ_run Cert.Reference9Ideal.defs _ _).mono (fun r h => ⟨fun c => (h c).2,
    sem_eq_zero_of_no_sems (by decide) r.2⟩) (Cert.Reference9Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Gen.frame m ρ, fun m ρ _ => Cert.KernelIdeal.Gen.frame m ρ, frame_r1,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    fun m ρ _ => Cert.Kernel7.Gen.frame m ρ, fun m ρ _ => Cert.Kernel7Ideal.Gen.frame m ρ, frame_r7,
    fun m ρ _ => Cert.Kernel8.Gen.frame m ρ, fun m ρ _ => Cert.Kernel8Ideal.Gen.frame m ρ, frame_r8,
    fun m ρ _ => Cert.Kernel9.Gen.frame m ρ, fun m ρ _ => Cert.Kernel9Ideal.Gen.frame m ρ, frame_r9,
    trivial, Ssd.algebraic, trivial, Inproj.algebraic, trivial, Merge.algebraic, trivial, Post.algebraic,
    trivial, ConvPrompt.algebraic, trivial, ConvSample.algebraic,
    trivial, InprojSample.algebraic, trivial, MergeSample.algebraic, trivial, PostSample.algebraic⟩

end Cert.Proof

end
